-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x4096 : Shape := ⟨2, ![768, 4096]⟩
abbrev S2x512x8x64 : Shape := ⟨4, ![2, 512, 8, 64]⟩
abbrev S4096x768 : Shape := ⟨2, ![4096, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .bf16) (main_arg1 : FVec F S768x4096 .bf16) (main_arg2 : FVec F S2x512x8x64 .bf16) (main_arg3 : FVec F S2x512x8x64 .bf16) (main_arg4 : FVec F S4096x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x4096 .f32 := (extf .f32 · bitsLt_bf16_f32) main_arg1
  let main_v6 : FVec F S768x4096 .f32 := Host.absf main_v5
  let main_cst_0 : FVec F S_ .f32 := constant S_ .f32 0x7F800000#32
  let main_v7 : FVec F S768x4096 .f32 := broadcastInDim S768x4096 ![] bcast_S_S768x4096 main_cst_0
  let main_v8 : IVec S768x4096 1 := cmpf .olt main_v6 main_v7
  let main_c_1 : IVec S_ 1 := constantI S_ 1 1#1
  let main_v9 : IVec S_ 1 := (fun x v => Host.reduce IntOp.andi x v reducesTo_S768x4096_S_d0_1 h_S_) main_v8 main_c_1
  let main_v10 : IVec S_ 1 := andi main_v4 main_v9
  let main_v11 : FVec F S2x512x8x64 .f32 := (extf .f32 · bitsLt_bf16_f32) main_arg2
  let main_v12 : FVec F S2x512x8x64 .f32 := Host.absf main_v11
  let main_cst_2 : FVec F S_ .f32 := constant S_ .f32 0x7F800000#32
  let main_v13 : FVec F S2x512x8x64 .f32 := broadcastInDim S2x512x8x64 ![] bcast_S_S2x512x8x64 main_cst_2
  let main_v14 : IVec S2x512x8x64 1 := cmpf .olt main_v12 main_v13
  let main_c_3 : IVec S_ 1 := constantI S_ 1 1#1
  let main_v15 : IVec S_ 1 := (fun x v => Host.reduce IntOp.andi x v reducesTo_S2x512x8x64_S_d0_1_2_3 h_S_) main_v14 main_c_3
  let main_v16 : IVec S_ 1 := andi main_v10 main_v15
  main_v16
-- ==== Pre_finite_ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x512x768 .bf16) (main_arg1 : FVec F S768x4096 .bf16) (main_arg2 : FVec F S2x512x64x64 .bf16) (main_arg3 : FVec F S2x512x64x64 .bf16) (main_arg4 : FVec F S4096x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x4096 .f32 := (extf .f32 · bitsLt_bf16_f32) main_arg1
  let main_v6 : FVec F S768x4096 .f32 := Host.absf main_v5
  let main_cst_0 : FVec F S_ .f32 := constant S_ .f32 0x7F800000#32
  let main_v7 : FVec F S768x4096 .f32 := broadcastInDim S768x4096 ![] bcast_S_S768x4096 main_cst_0
  let main_v8 : IVec S768x4096 1 := cmpf .olt main_v6 main_v7
  let main_c_1 : IVec S_ 1 := constantI S_ 1 1#1
  let main_v9 : IVec S_ 1 := (fun x v => Host.reduce IntOp.andi x v reducesTo_S768x4096_S_d0_1 h_S_) main_v8 main_c_1
  let main_v10 : IVec S_ 1 := andi main_v4 main_v9
  let main_v11 : FVec F S2x512x64x64 .f32 := (extf .f32 · bitsLt_bf16_f32) main_arg2
  let main_v12 : FVec F S2x512x64x64 .f32 := Host.absf main_v11
  let main_cst_2 : FVec F S_ .f32 := constant S_ .f32 0x7F800000#32
  let main_v13 : FVec F S2x512x64x64 .f32 := broadcastInDim S2x512x64x64 ![] bcast_S_S2x512x64x64 main_cst_2
  let main_v14 : IVec S2x512x64x64 1 := cmpf .olt main_v12 main_v13
  let main_c_3 : IVec S_ 1 := constantI S_ 1 1#1
  let main_v15 : IVec S_ 1 := (fun x v => Host.reduce IntOp.andi x v reducesTo_S2x512x64x64_S_d0_1_2_3 h_S_) main_v14 main_c_3
  let main_v16 : IVec S_ 1 := andi main_v10 main_v15
  main_v16
-- ==== Kernel.lean ====
abbrev S2x512x768 : Shape := ⟨3, ![2, 512, 768]⟩
abbrev S768x4096 : Shape := ⟨2, ![768, 4096]⟩
abbrev S2x512x8x64 : Shape := ⟨4, ![2, 512, 8, 64]⟩
abbrev S4096x768 : Shape := ⟨2, ![4096, 768]⟩
abbrev S_ : Shape := ⟨0, ![]⟩
abbrev S768x512 : Shape := ⟨2, ![768, 512]⟩
abbrev S512x768 : Shape := ⟨2, ![512, 768]⟩
abbrev S1024x768 : Shape := ⟨2, ![1024, 768]⟩
abbrev S896x768 : Shape := ⟨2, ![896, 768]⟩
abbrev S7 : Shape := ⟨1, ![7]⟩
abbrev S512x512 : Shape := ⟨2, ![512, 512]⟩
abbrev S1x512x768 : Shape := ⟨3, ![1, 512, 768]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S1 : Shape := ⟨1, ![1]⟩
abbrev S128x768 : Shape := ⟨2, ![128, 768]⟩

abbrev nBuf : Space → Nat
  | .hbm => 34
  | .vmem => 8
  | .smem => 0
  | _ => 0

abbrev bufTy : (tb : Table) → Fin (tcTables nBuf tb) → BufTy
  | .hbm, ⟨0, _⟩ => ⟨S2x512x768, .bf16⟩
  | .hbm, ⟨1, _⟩ => ⟨S768x4096, .bf16⟩
  | .hbm, ⟨2, _⟩ => ⟨S2x512x8x64, .bf16⟩
  | .hbm, ⟨3, _⟩ => ⟨S2x512x8x64, .bf16⟩
  | .hbm, ⟨4, _⟩ => ⟨S4096x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S768x512, .bf16⟩
  | .hbm, ⟨20, _⟩ => ⟨S_, .bf16⟩
  | .hbm, ⟨21, _⟩ => ⟨S768x512, .bf16⟩
  | .hbm, ⟨22, _⟩ => ⟨S768x512, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S512x768, .bf16⟩
  | .hbm, ⟨32, _⟩ => ⟨S1024x768, .bf16⟩
  | .hbm, ⟨33, _⟩ => ⟨S2x512x768, .bf16⟩
  | .local _ .vmem, ⟨0, _⟩ => ⟨S2x512x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .bf16⟩
  | .local _ .vmem, ⟨5, _⟩ => ⟨S1024x768, .bf16⟩
  | .local _ .vmem, ⟨6, _⟩ => ⟨S1024x768, .bf16⟩
  | .local _ .vmem, ⟨7, _⟩ => ⟨S896x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_c_6 : Ref sig .tc := ⟨.hbm, 25, rfl⟩
abbrev main_v13 : Ref sig .tc := ⟨.hbm, 26, rfl⟩
abbrev main_c_7 : Ref sig .tc := ⟨.hbm, 27, rfl⟩
abbrev main_v14 : Ref sig .tc := ⟨.hbm, 28, rfl⟩
abbrev main_v15 : Ref sig .tc := ⟨.hbm, 29, rfl⟩
abbrev main_c_8 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v146 : BitVec 32 := Scalar.addi v2 c1_i32_76
  let c8_i32_77 : BitVec 32 := 8#32
  let c0_i32_78 : BitVec 32 := 0#32
  let v147 : BitVec 1 := Scalar.cmpi .eq c8_i32_77 c0_i32_78
  let c1_i32_79 : BitVec 32 := 1#32
  let v148 : BitVec 32 := Scalar.select v147 c1_i32_79 c8_i32_77
  let v149 : BitVec 32 := Scalar.remsi v146 v148
  let c0_i32_81 : BitVec 32 := 0#32
  let v151 : BitVec 1 := Scalar.cmpi .slt v149 c0_i32_81
  let c0_i32_82 : BitVec 32 := 0#32
  let v152 : BitVec 1 := Scalar.cmpi .slt v148 c0_i32_82
  let v153 : BitVec 1 := Scalar.xori v151 v152
  let c0_i32_80 : BitVec 32 := 0#32
  let v150 : BitVec 1 := Scalar.cmpi .ne v149 c0_i32_80
  let v154 : BitVec 1 := Scalar.andi v153 v150
  let v155 : BitVec 32 := Scalar.addi v149 v148
  let v156 : BitVec 32 := Scalar.select v154 v155 v149
  let c0_i32_230 : BitVec 32 := 0#32
  let v372 : BitVec 1 := Scalar.cmpi .sge v156 c0_i32_230
  let c4_i32_231 : BitVec 32 := 4#32
  let v373 : BitVec 1 := Scalar.cmpi .slt v156 c4_i32_231
  let v374 : BitVec 1 := Scalar.andi v372 v373
  let v375 : BitVec 32 := Scalar.extui v374
  let c0_i32_234 : BitVec 32 := 0#32
  let v376 : BitVec 1 := Scalar.cmpi .ne v375 c0_i32_234
  v376

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v146 : BitVec 32 := Scalar.addi v2 c1_i32_76
  let c8_i32_77 : BitVec 32 := 8#32
  let c0_i32_78 : BitVec 32 := 0#32
  let v147 : BitVec 1 := Scalar.cmpi .eq c8_i32_77 c0_i32_78
  let c1_i32_79 : BitVec 32 := 1#32
  let v148 : BitVec 32 := Scalar.select v147 c1_i32_79 c8_i32_77
  let v149 : BitVec 32 := Scalar.remsi v146 v148
  let c0_i32_81 : BitVec 32 := 0#32
  let v151 : BitVec 1 := Scalar.cmpi .slt v149 c0_i32_81
  let c0_i32_82 : BitVec 32 := 0#32
  let v152 : BitVec 1 := Scalar.cmpi .slt v148 c0_i32_82
  let v153 : BitVec 1 := Scalar.xori v151 v152
  let c0_i32_80 : BitVec 32 := 0#32
  let v150 : BitVec 1 := Scalar.cmpi .ne v149 c0_i32_80
  let v154 : BitVec 1 := Scalar.andi v153 v150
  let v155 : BitVec 32 := Scalar.addi v149 v148
  let v156 : BitVec 32 := Scalar.select v154 v155 v149
  let c128_i32 : BitVec 32 := 128#32
  let v157 : BitVec 32 := Scalar.muli v156 c128_i32
  let c0_i32_689 : BitVec 32 := 0#32
  ![v157.toNat, 0]
def k0_dev8 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v146 : BitVec 32 := Scalar.addi v2 c1_i32_76
  let c8_i32_77 : BitVec 32 := 8#32
  let c0_i32_78 : BitVec 32 := 0#32
  let v147 : BitVec 1 := Scalar.cmpi .eq c8_i32_77 c0_i32_78
  let c1_i32_79 : BitVec 32 := 1#32
  let v148 : BitVec 32 := Scalar.select v147 c1_i32_79 c8_i32_77
  let v149 : BitVec 32 := Scalar.remsi v146 v148
  let c0_i32_81 : BitVec 32 := 0#32
  let v151 : BitVec 1 := Scalar.cmpi .slt v149 c0_i32_81
  let c0_i32_82 : BitVec 32 := 0#32
  let v152 : BitVec 1 := Scalar.cmpi .slt v148 c0_i32_82
  let v153 : BitVec 1 := Scalar.xori v151 v152
  let c0_i32_80 : BitVec 32 := 0#32
  let v150 : BitVec 1 := Scalar.cmpi .ne v149 c0_i32_80
  let v154 : BitVec 1 := Scalar.andi v153 v150
  let v155 : BitVec 32 := Scalar.addi v149 v148
  let v156 : BitVec 32 := Scalar.select v154 v155 v149
  let c1_i32_685 : BitVec 32 := 1#32
  let v901 : BitVec 32 := Scalar.muli v156 c1_i32_685
  let v902 : BitVec 32 := Scalar.addi c0_i32_686 v901
  v902.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v158 : BitVec 32 := Scalar.addi v2 c2_i32_83
  let c8_i32_84 : BitVec 32 := 8#32
  let c0_i32_85 : BitVec 32 := 0#32
  let v159 : BitVec 1 := Scalar.cmpi .eq c8_i32_84 c0_i32_85
  let c1_i32_86 : BitVec 32 := 1#32
  let v160 : BitVec 32 := Scalar.select v159 c1_i32_86 c8_i32_84
  let v161 : BitVec 32 := Scalar.remsi v158 v160
  let c0_i32_88 : BitVec 32 := 0#32
  let v163 : BitVec 1 := Scalar.cmpi .slt v161 c0_i32_88
  let c0_i32_89 : BitVec 32 := 0#32
  let v164 : BitVec 1 := Scalar.cmpi .slt v160 c0_i32_89
  let v165 : BitVec 1 := Scalar.xori v163 v164
  let c0_i32_87 : BitVec 32 := 0#32
  let v162 : BitVec 1 := Scalar.cmpi .ne v161 c0_i32_87
  let v166 : BitVec 1 := Scalar.andi v165 v162
  let v167 : BitVec 32 := Scalar.addi v161 v160
  let v168 : BitVec 32 := Scalar.select v166 v167 v161
  let c0_i32_235 : BitVec 32 := 0#32
  let v377 : BitVec 1 := Scalar.cmpi .sge v168 c0_i32_235
  let c4_i32_236 : BitVec 32 := 4#32
  let v378 : BitVec 1 := Scalar.cmpi .slt v168 c4_i32_236
  let v379 : BitVec 1 := Scalar.andi v377 v378
  let v380 : BitVec 32 := Scalar.extui v379
  let c0_i32_239 : BitVec 32 := 0#32
  let v381 : BitVec 1 := Scalar.cmpi .ne v380 c0_i32_239
  v381

def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v158 : BitVec 32 := Scalar.addi v2 c2_i32_83
  let c8_i32_84 : BitVec 32 := 8#32
  let c0_i32_85 : BitVec 32 := 0#32
  let v159 : BitVec 1 := Scalar.cmpi .eq c8_i32_84 c0_i32_85
  let c1_i32_86 : BitVec 32 := 1#32
  let v160 : BitVec 32 := Scalar.select v159 c1_i32_86 c8_i32_84
  let v161 : BitVec 32 := Scalar.remsi v158 v160
  let c0_i32_88 : BitVec 32 := 0#32
  let v163 : BitVec 1 := Scalar.cmpi .slt v161 c0_i32_88
  let c0_i32_89 : BitVec 32 := 0#32
  let v164 : BitVec 1 := Scalar.cmpi .slt v160 c0_i32_89
  let v165 : BitVec 1 := Scalar.xori v163 v164
  let c0_i32_87 : BitVec 32 := 0#32
  let v162 : BitVec 1 := Scalar.cmpi .ne v161 c0_i32_87
  let v166 : BitVec 1 := Scalar.andi v165 v162
  let v167 : BitVec 32 := Scalar.addi v161 v160
  let v168 : BitVec 32 := Scalar.select v166 v167 v161
  let c128_i32_90 : BitVec 32 := 128#32
  let v169 : BitVec 32 := Scalar.muli v168 c128_i32_90
  let c0_i32_689 : BitVec 32 := 0#32
  ![v169.toNat, 0]
def k0_dev9 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v158 : BitVec 32 := Scalar.addi v2 c2_i32_83
  let c8_i32_84 : BitVec 32 := 8#32
  let c0_i32_85 : BitVec 32 := 0#32
  let v159 : BitVec 1 := Scalar.cmpi .eq c8_i32_84 c0_i32_85
  let c1_i32_86 : BitVec 32 := 1#32
  let v160 : BitVec 32 := Scalar.select v159 c1_i32_86 c8_i32_84
  let v161 : BitVec 32 := Scalar.remsi v158 v160
  let c0_i32_88 : BitVec 32 := 0#32
  let v163 : BitVec 1 := Scalar.cmpi .slt v161 c0_i32_88
  let c0_i32_89 : BitVec 32 := 0#32
  let v164 : BitVec 1 := Scalar.cmpi .slt v160 c0_i32_89
  let v165 : BitVec 1 := Scalar.xori v163 v164
  let c0_i32_87 : BitVec 32 := 0#32
  let v162 : BitVec 1 := Scalar.cmpi .ne v161 c0_i32_87
  let v166 : BitVec 1 := Scalar.andi v165 v162
  let v167 : BitVec 32 := Scalar.addi v161 v160
  let v168 : BitVec 32 := Scalar.select v166 v167 v161
  let c1_i32_685 : BitVec 32 := 1#32
  let v901 : BitVec 32 := Scalar.muli v168 c1_i32_685
  let v902 : BitVec 32 := Scalar.addi c0_i32_686 v901
  v902.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v170 : BitVec 32 := Scalar.addi v2 c3_i32_91
  let c8_i32_92 : BitVec 32 := 8#32
  let c0_i32_93 : BitVec 32 := 0#32
  let v171 : BitVec 1 := Scalar.cmpi .eq c8_i32_92 c0_i32_93
  let c1_i32_94 : BitVec 32 := 1#32
  let v172 : BitVec 32 := Scalar.select v171 c1_i32_94 c8_i32_92
  let v173 : BitVec 32 := Scalar.remsi v170 v172
  let c0_i32_96 : BitVec 32 := 0#32
  let v175 : BitVec 1 := Scalar.cmpi .slt v173 c0_i32_96
  let c0_i32_97 : BitVec 32 := 0#32
  let v176 : BitVec 1 := Scalar.cmpi .slt v172 c0_i32_97
  let v177 : BitVec 1 := Scalar.xori v175 v176
  let c0_i32_95 : BitVec 32 := 0#32
  let v174 : BitVec 1 := Scalar.cmpi .ne v173 c0_i32_95
  let v178 : BitVec 1 := Scalar.andi v177 v174
  let v179 : BitVec 32 := Scalar.addi v173 v172
  let v180 : BitVec 32 := Scalar.select v178 v179 v173
  let c0_i32_240 : BitVec 32 := 0#32
  let v382 : BitVec 1 := Scalar.cmpi .sge v180 c0_i32_240
  let c4_i32_241 : BitVec 32 := 4#32
  let v383 : BitVec 1 := Scalar.cmpi .slt v180 c4_i32_241
  let v384 : BitVec 1 := Scalar.andi v382 v383
  let v385 : BitVec 32 := Scalar.extui v384
  let c0_i32_244 : BitVec 32 := 0#32
  let v386 : BitVec 1 := Scalar.cmpi .ne v385 c0_i32_244
  v386

def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v170 : BitVec 32 := Scalar.addi v2 c3_i32_91
  let c8_i32_92 : BitVec 32 := 8#32
  let c0_i32_93 : BitVec 32 := 0#32
  let v171 : BitVec 1 := Scalar.cmpi .eq c8_i32_92 c0_i32_93
  let c1_i32_94 : BitVec 32 := 1#32
  let v172 : BitVec 32 := Scalar.select v171 c1_i32_94 c8_i32_92
  let v173 : BitVec 32 := Scalar.remsi v170 v172
  let c0_i32_96 : BitVec 32 := 0#32
  let v175 : BitVec 1 := Scalar.cmpi .slt v173 c0_i32_96
  let c0_i32_97 : BitVec 32 := 0#32
  let v176 : BitVec 1 := Scalar.cmpi .slt v172 c0_i32_97
  let v177 : BitVec 1 := Scalar.xori v175 v176
  let c0_i32_95 : BitVec 32 := 0#32
  let v174 : BitVec 1 := Scalar.cmpi .ne v173 c0_i32_95
  let v178 : BitVec 1 := Scalar.andi v177 v174
  let v179 : BitVec 32 := Scalar.addi v173 v172
  let v180 : BitVec 32 := Scalar.select v178 v179 v173
  let c128_i32_98 : BitVec 32 := 128#32
  let v181 : BitVec 32 := Scalar.muli v180 c128_i32_98
  let c0_i32_689 : BitVec 32 := 0#32
  ![v181.toNat, 0]
def k0_dev10 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v170 : BitVec 32 := Scalar.addi v2 c3_i32_91
  let c8_i32_92 : BitVec 32 := 8#32
  let c0_i32_93 : BitVec 32 := 0#32
  let v171 : BitVec 1 := Scalar.cmpi .eq c8_i32_92 c0_i32_93
  let c1_i32_94 : BitVec 32 := 1#32
  let v172 : BitVec 32 := Scalar.select v171 c1_i32_94 c8_i32_92
  let v173 : BitVec 32 := Scalar.remsi v170 v172
  let c0_i32_96 : BitVec 32 := 0#32
  let v175 : BitVec 1 := Scalar.cmpi .slt v173 c0_i32_96
  let c0_i32_97 : BitVec 32 := 0#32
  let v176 : BitVec 1 := Scalar.cmpi .slt v172 c0_i32_97
  let v177 : BitVec 1 := Scalar.xori v175 v176
  let c0_i32_95 : BitVec 32 := 0#32
  let v174 : BitVec 1 := Scalar.cmpi .ne v173 c0_i32_95
  let v178 : BitVec 1 := Scalar.andi v177 v174
  let v179 : BitVec 32 := Scalar.addi v173 v172
  let v180 : BitVec 32 := Scalar.select v178 v179 v173
  let c1_i32_685 : BitVec 32 := 1#32
  let v901 : BitVec 32 := Scalar.muli v180 c1_i32_685
  let v902 : BitVec 32 := Scalar.addi c0_i32_686 v901
  v902.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_99 : BitVec 32 := 4#32
  let v182 : BitVec 32 := Scalar.addi v2 c4_i32_99
  let c8_i32_100 : BitVec 32 := 8#32
  let c0_i32_101 : BitVec 32 := 0#32
  let v183 : BitVec 1 := Scalar.cmpi .eq c8_i32_100 c0_i32_101
  let c1_i32_102 : BitVec 32 := 1#32
  let v184 : BitVec 32 := Scalar.select v183 c1_i32_102 c8_i32_100
  let v185 : BitVec 32 := Scalar.remsi v182 v184
  let c0_i32_104 : BitVec 32 := 0#32
  let v187 : BitVec 1 := Scalar.cmpi .slt v185 c0_i32_104
  let c0_i32_105 : BitVec 32 := 0#32
  let v188 : BitVec 1 := Scalar.cmpi .slt v184 c0_i32_105
  let v189 : BitVec 1 := Scalar.xori v187 v188
  let c0_i32_103 : BitVec 32 := 0#32
  let v186 : BitVec 1 := Scalar.cmpi .ne v185 c0_i32_103
  let v190 : BitVec 1 := Scalar.andi v189 v186
  let v191 : BitVec 32 := Scalar.addi v185 v184
  let v192 : BitVec 32 := Scalar.select v190 v191 v185
  let c0_i32_245 : BitVec 32 := 0#32
  let v387 : BitVec 1 := Scalar.cmpi .sge v192 c0_i32_245
  let c4_i32_246 : BitVec 32 := 4#32
  let v388 : BitVec 1 := Scalar.cmpi .slt v192 c4_i32_246
  let v389 : BitVec 1 := Scalar.andi v387 v388
  let v390 : BitVec 32 := Scalar.extui v389
  let c0_i32_249 : BitVec 32 := 0#32
  let v391 : BitVec 1 := Scalar.cmpi .ne v390 c0_i32_249
  v391

def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_99 : BitVec 32 := 4#32
  let v182 : BitVec 32 := Scalar.addi v2 c4_i32_99
  let c8_i32_100 : BitVec 32 := 8#32
  let c0_i32_101 : BitVec 32 := 0#32
  let v183 : BitVec 1 := Scalar.cmpi .eq c8_i32_100 c0_i32_101
  let c1_i32_102 : BitVec 32 := 1#32
  let v184 : BitVec 32 := Scalar.select v183 c1_i32_102 c8_i32_100
  let v185 : BitVec 32 := Scalar.remsi v182 v184
  let c0_i32_104 : BitVec 32 := 0#32
  let v187 : BitVec 1 := Scalar.cmpi .slt v185 c0_i32_104
  let c0_i32_105 : BitVec 32 := 0#32
  let v188 : BitVec 1 := Scalar.cmpi .slt v184 c0_i32_105
  let v189 : BitVec 1 := Scalar.xori v187 v188
  let c0_i32_103 : BitVec 32 := 0#32
  let v186 : BitVec 1 := Scalar.cmpi .ne v185 c0_i32_103
  let v190 : BitVec 1 := Scalar.andi v189 v186
  let v191 : BitVec 32 := Scalar.addi v185 v184
  let v192 : BitVec 32 := Scalar.select v190 v191 v185
  let c128_i32_106 : BitVec 32 := 128#32
  let v193 : BitVec 32 := Scalar.muli v192 c128_i32_106
  let c0_i32_689 : BitVec 32 := 0#32
  ![v193.toNat, 0]
def k0_dev11 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_99 : BitVec 32 := 4#32
  let v182 : BitVec 32 := Scalar.addi v2 c4_i32_99
  let c8_i32_100 : BitVec 32 := 8#32
  let c0_i32_101 : BitVec 32 := 0#32
  let v183 : BitVec 1 := Scalar.cmpi .eq c8_i32_100 c0_i32_101
  let c1_i32_102 : BitVec 32 := 1#32
  let v184 : BitVec 32 := Scalar.select v183 c1_i32_102 c8_i32_100
  let v185 : BitVec 32 := Scalar.remsi v182 v184
  let c0_i32_104 : BitVec 32 := 0#32
  let v187 : BitVec 1 := Scalar.cmpi .slt v185 c0_i32_104
  let c0_i32_105 : BitVec 32 := 0#32
  let v188 : BitVec 1 := Scalar.cmpi .slt v184 c0_i32_105
  let v189 : BitVec 1 := Scalar.xori v187 v188
  let c0_i32_103 : BitVec 32 := 0#32
  let v186 : BitVec 1 := Scalar.cmpi .ne v185 c0_i32_103
  let v190 : BitVec 1 := Scalar.andi v189 v186
  let v191 : BitVec 32 := Scalar.addi v185 v184
  let v192 : BitVec 32 := Scalar.select v190 v191 v185
  let c1_i32_685 : BitVec 32 := 1#32
  let v901 : BitVec 32 := Scalar.muli v192 c1_i32_685
  let v902 : BitVec 32 := Scalar.addi c0_i32_686 v901
  v902.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_107 : BitVec 32 := 5#32
  let v194 : BitVec 32 := Scalar.addi v2 c5_i32_107
  let c8_i32_108 : BitVec 32 := 8#32
  let c0_i32_109 : BitVec 32 := 0#32
  let v195 : BitVec 1 := Scalar.cmpi .eq c8_i32_108 c0_i32_109
  let c1_i32_110 : BitVec 32 := 1#32
  let v196 : BitVec 32 := Scalar.select v195 c1_i32_110 c8_i32_108
  let v197 : BitVec 32 := Scalar.remsi v194 v196
  let c0_i32_112 : BitVec 32 := 0#32
  let v199 : BitVec 1 := Scalar.cmpi .slt v197 c0_i32_112
  let c0_i32_113 : BitVec 32 := 0#32
  let v200 : BitVec 1 := Scalar.cmpi .slt v196 c0_i32_113
  let v201 : BitVec 1 := Scalar.xori v199 v200
  let c0_i32_111 : BitVec 32 := 0#32
  let v198 : BitVec 1 := Scalar.cmpi .ne v197 c0_i32_111
  let v202 : BitVec 1 := Scalar.andi v201 v198
  let v203 : BitVec 32 := Scalar.addi v197 v196
  let v204 : BitVec 32 := Scalar.select v202 v203 v197
  let c0_i32_250 : BitVec 32 := 0#32
  let v392 : BitVec 1 := Scalar.cmpi .sge v204 c0_i32_250
  let c4_i32_251 : BitVec 32 := 4#32
  let v393 : BitVec 1 := Scalar.cmpi .slt v204 c4_i32_251
  let v394 : BitVec 1 := Scalar.andi v392 v393
  let v395 : BitVec 32 := Scalar.extui v394
  let c0_i32_254 : BitVec 32 := 0#32
  let v396 : BitVec 1 := Scalar.cmpi .ne v395 c0_i32_254
  v396

def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_107 : BitVec 32 := 5#32
  let v194 : BitVec 32 := Scalar.addi v2 c5_i32_107
  let c8_i32_108 : BitVec 32 := 8#32
  let c0_i32_109 : BitVec 32 := 0#32
  let v195 : BitVec 1 := Scalar.cmpi .eq c8_i32_108 c0_i32_109
  let c1_i32_110 : BitVec 32 := 1#32
  let v196 : BitVec 32 := Scalar.select v195 c1_i32_110 c8_i32_108
  let v197 : BitVec 32 := Scalar.remsi v194 v196
  let c0_i32_112 : BitVec 32 := 0#32
  let v199 : BitVec 1 := Scalar.cmpi .slt v197 c0_i32_112
  let c0_i32_113 : BitVec 32 := 0#32
  let v200 : BitVec 1 := Scalar.cmpi .slt v196 c0_i32_113
  let v201 : BitVec 1 := Scalar.xori v199 v200
  let c0_i32_111 : BitVec 32 := 0#32
  let v198 : BitVec 1 := Scalar.cmpi .ne v197 c0_i32_111
  let v202 : BitVec 1 := Scalar.andi v201 v198
  let v203 : BitVec 32 := Scalar.addi v197 v196
  let v204 : BitVec 32 := Scalar.select v202 v203 v197
  let c128_i32_114 : BitVec 32 := 128#32
  let v205 : BitVec 32 := Scalar.muli v204 c128_i32_114
  let c0_i32_689 : BitVec 32 := 0#32
  ![v205.toNat, 0]
def k0_dev12 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_107 : BitVec 32 := 5#32
  let v194 : BitVec 32 := Scalar.addi v2 c5_i32_107
  let c8_i32_108 : BitVec 32 := 8#32
  let c0_i32_109 : BitVec 32 := 0#32
  let v195 : BitVec 1 := Scalar.cmpi .eq c8_i32_108 c0_i32_109
  let c1_i32_110 : BitVec 32 := 1#32
  let v196 : BitVec 32 := Scalar.select v195 c1_i32_110 c8_i32_108
  let v197 : BitVec 32 := Scalar.remsi v194 v196
  let c0_i32_112 : BitVec 32 := 0#32
  let v199 : BitVec 1 := Scalar.cmpi .slt v197 c0_i32_112
  let c0_i32_113 : BitVec 32 := 0#32
  let v200 : BitVec 1 := Scalar.cmpi .slt v196 c0_i32_113
  let v201 : BitVec 1 := Scalar.xori v199 v200
  let c0_i32_111 : BitVec 32 := 0#32
  let v198 : BitVec 1 := Scalar.cmpi .ne v197 c0_i32_111
  let v202 : BitVec 1 := Scalar.andi v201 v198
  let v203 : BitVec 32 := Scalar.addi v197 v196
  let v204 : BitVec 32 := Scalar.select v202 v203 v197
  let c1_i32_685 : BitVec 32 := 1#32
  let v901 : BitVec 32 := Scalar.muli v204 c1_i32_685
  let v902 : BitVec 32 := Scalar.addi c0_i32_686 v901
  v902.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_115 : BitVec 32 := 6#32
  let v206 : BitVec 32 := Scalar.addi v2 c6_i32_115
  let c8_i32_116 : BitVec 32 := 8#32
  let c0_i32_117 : BitVec 32 := 0#32
  let v207 : BitVec 1 := Scalar.cmpi .eq c8_i32_116 c0_i32_117
  let c1_i32_118 : BitVec 32 := 1#32
  let v208 : BitVec 32 := Scalar.select v207 c1_i32_118 c8_i32_116
  let v209 : BitVec 32 := Scalar.remsi v206 v208
  let c0_i32_120 : BitVec 32 := 0#32
  let v211 : BitVec 1 := Scalar.cmpi .slt v209 c0_i32_120
  let c0_i32_121 : BitVec 32 := 0#32
  let v212 : BitVec 1 := Scalar.cmpi .slt v208 c0_i32_121
  let v213 : BitVec 1 := Scalar.xori v211 v212
  let c0_i32_119 : BitVec 32 := 0#32
  let v210 : BitVec 1 := Scalar.cmpi .ne v209 c0_i32_119
  let v214 : BitVec 1 := Scalar.andi v213 v210
  let v215 : BitVec 32 := Scalar.addi v209 v208
  let v216 : BitVec 32 := Scalar.select v214 v215 v209
  let c0_i32_255 : BitVec 32 := 0#32
  let v397 : BitVec 1 := Scalar.cmpi .sge v216 c0_i32_255
  let c4_i32_256 : BitVec 32 := 4#32
  let v398 : BitVec 1 := Scalar.cmpi .slt v216 c4_i32_256
  let v399 : BitVec 1 := Scalar.andi v397 v398
  let v400 : BitVec 32 := Scalar.extui v399
  let c0_i32_259 : BitVec 32 := 0#32
  let v401 : BitVec 1 := Scalar.cmpi .ne v400 c0_i32_259
  v401

def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_115 : BitVec 32 := 6#32
  let v206 : BitVec 32 := Scalar.addi v2 c6_i32_115
  let c8_i32_116 : BitVec 32 := 8#32
  let c0_i32_117 : BitVec 32 := 0#32
  let v207 : BitVec 1 := Scalar.cmpi .eq c8_i32_116 c0_i32_117
  let c1_i32_118 : BitVec 32 := 1#32
  let v208 : BitVec 32 := Scalar.select v207 c1_i32_118 c8_i32_116
  let v209 : BitVec 32 := Scalar.remsi v206 v208
  let c0_i32_120 : BitVec 32 := 0#32
  let v211 : BitVec 1 := Scalar.cmpi .slt v209 c0_i32_120
  let c0_i32_121 : BitVec 32 := 0#32
  let v212 : BitVec 1 := Scalar.cmpi .slt v208 c0_i32_121
  let v213 : BitVec 1 := Scalar.xori v211 v212
  let c0_i32_119 : BitVec 32 := 0#32
  let v210 : BitVec 1 := Scalar.cmpi .ne v209 c0_i32_119
  let v214 : BitVec 1 := Scalar.andi v213 v210
  let v215 : BitVec 32 := Scalar.addi v209 v208
  let v216 : BitVec 32 := Scalar.select v214 v215 v209
  let c128_i32_122 : BitVec 32 := 128#32
  let v217 : BitVec 32 := Scalar.muli v216 c128_i32_122
  let c0_i32_689 : BitVec 32 := 0#32
  ![v217.toNat, 0]
def k0_dev13 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_115 : BitVec 32 := 6#32
  let v206 : BitVec 32 := Scalar.addi v2 c6_i32_115
  let c8_i32_116 : BitVec 32 := 8#32
  let c0_i32_117 : BitVec 32 := 0#32
  let v207 : BitVec 1 := Scalar.cmpi .eq c8_i32_116 c0_i32_117
  let c1_i32_118 : BitVec 32 := 1#32
  let v208 : BitVec 32 := Scalar.select v207 c1_i32_118 c8_i32_116
  let v209 : BitVec 32 := Scalar.remsi v206 v208
  let c0_i32_120 : BitVec 32 := 0#32
  let v211 : BitVec 1 := Scalar.cmpi .slt v209 c0_i32_120
  let c0_i32_121 : BitVec 32 := 0#32
  let v212 : BitVec 1 := Scalar.cmpi .slt v208 c0_i32_121
  let v213 : BitVec 1 := Scalar.xori v211 v212
  let c0_i32_119 : BitVec 32 := 0#32
  let v210 : BitVec 1 := Scalar.cmpi .ne v209 c0_i32_119
  let v214 : BitVec 1 := Scalar.andi v213 v210
  let v215 : BitVec 32 := Scalar.addi v209 v208
  let v216 : BitVec 32 := Scalar.select v214 v215 v209
  let c1_i32_685 : BitVec 32 := 1#32
  let v901 : BitVec 32 := Scalar.muli v216 c1_i32_685
  let v902 : BitVec 32 := Scalar.addi c0_i32_686 v901
  v902.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_123 : BitVec 32 := 7#32
  let v218 : BitVec 32 := Scalar.addi v2 c7_i32_123
  let c8_i32_124 : BitVec 32 := 8#32
  let c0_i32_125 : BitVec 32 := 0#32
  let v219 : BitVec 1 := Scalar.cmpi .eq c8_i32_124 c0_i32_125
  let c1_i32_126 : BitVec 32 := 1#32
  let v220 : BitVec 32 := Scalar.select v219 c1_i32_126 c8_i32_124
  let v221 : BitVec 32 := Scalar.remsi v218 v220
  let c0_i32_128 : BitVec 32 := 0#32
  let v223 : BitVec 1 := Scalar.cmpi .slt v221 c0_i32_128
  let c0_i32_129 : BitVec 32 := 0#32
  let v224 : BitVec 1 := Scalar.cmpi .slt v220 c0_i32_129
  let v225 : BitVec 1 := Scalar.xori v223 v224
  let c0_i32_127 : BitVec 32 := 0#32
  let v222 : BitVec 1 := Scalar.cmpi .ne v221 c0_i32_127
  let v226 : BitVec 1 := Scalar.andi v225 v222
  let v227 : BitVec 32 := Scalar.addi v221 v220
  let v228 : BitVec 32 := Scalar.select v226 v227 v221
  let c0_i32_260 : BitVec 32 := 0#32
  let v402 : BitVec 1 := Scalar.cmpi .sge v228 c0_i32_260
  let c4_i32_261 : BitVec 32 := 4#32
  let v403 : BitVec 1 := Scalar.cmpi .slt v228 c4_i32_261
  let v404 : BitVec 1 := Scalar.andi v402 v403
  let v405 : BitVec 32 := Scalar.extui v404
  let c0_i32_264 : BitVec 32 := 0#32
  let v406 : BitVec 1 := Scalar.cmpi .ne v405 c0_i32_264
  v406

def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_123 : BitVec 32 := 7#32
  let v218 : BitVec 32 := Scalar.addi v2 c7_i32_123
  let c8_i32_124 : BitVec 32 := 8#32
  let c0_i32_125 : BitVec 32 := 0#32
  let v219 : BitVec 1 := Scalar.cmpi .eq c8_i32_124 c0_i32_125
  let c1_i32_126 : BitVec 32 := 1#32
  let v220 : BitVec 32 := Scalar.select v219 c1_i32_126 c8_i32_124
  let v221 : BitVec 32 := Scalar.remsi v218 v220
  let c0_i32_128 : BitVec 32 := 0#32
  let v223 : BitVec 1 := Scalar.cmpi .slt v221 c0_i32_128
  let c0_i32_129 : BitVec 32 := 0#32
  let v224 : BitVec 1 := Scalar.cmpi .slt v220 c0_i32_129
  let v225 : BitVec 1 := Scalar.xori v223 v224
  let c0_i32_127 : BitVec 32 := 0#32
  let v222 : BitVec 1 := Scalar.cmpi .ne v221 c0_i32_127
  let v226 : BitVec 1 := Scalar.andi v225 v222
  let v227 : BitVec 32 := Scalar.addi v221 v220
  let v228 : BitVec 32 := Scalar.select v226 v227 v221
  let c128_i32_130 : BitVec 32 := 128#32
  let v229 : BitVec 32 := Scalar.muli v228 c128_i32_130
  let c0_i32_689 : BitVec 32 := 0#32
  ![v229.toNat, 0]
def k0_dev14 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_123 : BitVec 32 := 7#32
  let v218 : BitVec 32 := Scalar.addi v2 c7_i32_123
  let c8_i32_124 : BitVec 32 := 8#32
  let c0_i32_125 : BitVec 32 := 0#32
  let v219 : BitVec 1 := Scalar.cmpi .eq c8_i32_124 c0_i32_125
  let c1_i32_126 : BitVec 32 := 1#32
  let v220 : BitVec 32 := Scalar.select v219 c1_i32_126 c8_i32_124
  let v221 : BitVec 32 := Scalar.remsi v218 v220
  let c0_i32_128 : BitVec 32 := 0#32
  let v223 : BitVec 1 := Scalar.cmpi .slt v221 c0_i32_128
  let c0_i32_129 : BitVec 32 := 0#32
  let v224 : BitVec 1 := Scalar.cmpi .slt v220 c0_i32_129
  let v225 : BitVec 1 := Scalar.xori v223 v224
  let c0_i32_127 : BitVec 32 := 0#32
  let v222 : BitVec 1 := Scalar.cmpi .ne v221 c0_i32_127
  let v226 : BitVec 1 := Scalar.andi v225 v222
  let v227 : BitVec 32 := Scalar.addi v221 v220
  let v228 : BitVec 32 := Scalar.select v226 v227 v221
  let c1_i32_685 : BitVec 32 := 1#32
  let v901 : BitVec 32 := Scalar.muli v228 c1_i32_685
  let v902 : BitVec 32 := Scalar.addi c0_i32_686 v901
  v902.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v146 : BitVec 32 := Scalar.addi v2 c1_i32_76
  let c8_i32_77 : BitVec 32 := 8#32
  let c0_i32_78 : BitVec 32 := 0#32
  let v147 : BitVec 1 := Scalar.cmpi .eq c8_i32_77 c0_i32_78
  let c1_i32_79 : BitVec 32 := 1#32
  let v148 : BitVec 32 := Scalar.select v147 c1_i32_79 c8_i32_77
  let v149 : BitVec 32 := Scalar.remsi v146 v148
  let c0_i32_81 : BitVec 32 := 0#32
  let v151 : BitVec 1 := Scalar.cmpi .slt v149 c0_i32_81
  let c0_i32_82 : BitVec 32 := 0#32
  let v152 : BitVec 1 := Scalar.cmpi .slt v148 c0_i32_82
  let v153 : BitVec 1 := Scalar.xori v151 v152
  let c0_i32_80 : BitVec 32 := 0#32
  let v150 : BitVec 1 := Scalar.cmpi .ne v149 c0_i32_80
  let v154 : BitVec 1 := Scalar.andi v153 v150
  let v155 : BitVec 32 := Scalar.addi v149 v148
  let v156 : BitVec 32 := Scalar.select v154 v155 v149
  let c4_i32_367 : BitVec 32 := 4#32
  let v545 : BitVec 1 := Scalar.cmpi .sge v156 c4_i32_367
  let c8_i32_368 : BitVec 32 := 8#32
  let v546 : BitVec 1 := Scalar.cmpi .slt v156 c8_i32_368
  let v547 : BitVec 1 := Scalar.andi v545 v546
  let v548 : BitVec 32 := Scalar.extui v547
  let c0_i32_371 : BitVec 32 := 0#32
  let v549 : BitVec 1 := Scalar.cmpi .ne v548 c0_i32_371
  v549

def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v146 : BitVec 32 := Scalar.addi v2 c1_i32_76
  let c8_i32_77 : BitVec 32 := 8#32
  let c0_i32_78 : BitVec 32 := 0#32
  let v147 : BitVec 1 := Scalar.cmpi .eq c8_i32_77 c0_i32_78
  let c1_i32_79 : BitVec 32 := 1#32
  let v148 : BitVec 32 := Scalar.select v147 c1_i32_79 c8_i32_77
  let v149 : BitVec 32 := Scalar.remsi v146 v148
  let c0_i32_81 : BitVec 32 := 0#32
  let v151 : BitVec 1 := Scalar.cmpi .slt v149 c0_i32_81
  let c0_i32_82 : BitVec 32 := 0#32
  let v152 : BitVec 1 := Scalar.cmpi .slt v148 c0_i32_82
  let v153 : BitVec 1 := Scalar.xori v151 v152
  let c0_i32_80 : BitVec 32 := 0#32
  let v150 : BitVec 1 := Scalar.cmpi .ne v149 c0_i32_80
  let v154 : BitVec 1 := Scalar.andi v153 v150
  let v155 : BitVec 32 := Scalar.addi v149 v148
  let v156 : BitVec 32 := Scalar.select v154 v155 v149
  let c128_i32 : BitVec 32 := 128#32
  let v157 : BitVec 32 := Scalar.muli v156 c128_i32
  let c0_i32_689 : BitVec 32 := 0#32
  ![v157.toNat, 0]
def k0_dev15 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v146 : BitVec 32 := Scalar.addi v2 c1_i32_76
  let c8_i32_77 : BitVec 32 := 8#32
  let c0_i32_78 : BitVec 32 := 0#32
  let v147 : BitVec 1 := Scalar.cmpi .eq c8_i32_77 c0_i32_78
  let c1_i32_79 : BitVec 32 := 1#32
  let v148 : BitVec 32 := Scalar.select v147 c1_i32_79 c8_i32_77
  let v149 : BitVec 32 := Scalar.remsi v146 v148
  let c0_i32_81 : BitVec 32 := 0#32
  let v151 : BitVec 1 := Scalar.cmpi .slt v149 c0_i32_81
  let c0_i32_82 : BitVec 32 := 0#32
  let v152 : BitVec 1 := Scalar.cmpi .slt v148 c0_i32_82
  let v153 : BitVec 1 := Scalar.xori v151 v152
  let c0_i32_80 : BitVec 32 := 0#32
  let v150 : BitVec 1 := Scalar.cmpi .ne v149 c0_i32_80
  let v154 : BitVec 1 := Scalar.andi v153 v150
  let v155 : BitVec 32 := Scalar.addi v149 v148
  let v156 : BitVec 32 := Scalar.select v154 v155 v149
  let c1_i32_685 : BitVec 32 := 1#32
  let v901 : BitVec 32 := Scalar.muli v156 c1_i32_685
  let v902 : BitVec 32 := Scalar.addi c0_i32_686 v901
  v902.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v158 : BitVec 32 := Scalar.addi v2 c2_i32_83
  let c8_i32_84 : BitVec 32 := 8#32
  let c0_i32_85 : BitVec 32 := 0#32
  let v159 : BitVec 1 := Scalar.cmpi .eq c8_i32_84 c0_i32_85
  let c1_i32_86 : BitVec 32 := 1#32
  let v160 : BitVec 32 := Scalar.select v159 c1_i32_86 c8_i32_84
  let v161 : BitVec 32 := Scalar.remsi v158 v160
  let c0_i32_88 : BitVec 32 := 0#32
  let v163 : BitVec 1 := Scalar.cmpi .slt v161 c0_i32_88
  let c0_i32_89 : BitVec 32 := 0#32
  let v164 : BitVec 1 := Scalar.cmpi .slt v160 c0_i32_89
  let v165 : BitVec 1 := Scalar.xori v163 v164
  let c0_i32_87 : BitVec 32 := 0#32
  let v162 : BitVec 1 := Scalar.cmpi .ne v161 c0_i32_87
  let v166 : BitVec 1 := Scalar.andi v165 v162
  let v167 : BitVec 32 := Scalar.addi v161 v160
  let v168 : BitVec 32 := Scalar.select v166 v167 v161
  let c4_i32_372 : BitVec 32 := 4#32
  let v550 : BitVec 1 := Scalar.cmpi .sge v168 c4_i32_372
  let c8_i32_373 : BitVec 32 := 8#32
  let v551 : BitVec 1 := Scalar.cmpi .slt v168 c8_i32_373
  let v552 : BitVec 1 := Scalar.andi v550 v551
  let v553 : BitVec 32 := Scalar.extui v552
  let c0_i32_376 : BitVec 32 := 0#32
  let v554 : BitVec 1 := Scalar.cmpi .ne v553 c0_i32_376
  v554

def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v158 : BitVec 32 := Scalar.addi v2 c2_i32_83
  let c8_i32_84 : BitVec 32 := 8#32
  let c0_i32_85 : BitVec 32 := 0#32
  let v159 : BitVec 1 := Scalar.cmpi .eq c8_i32_84 c0_i32_85
  let c1_i32_86 : BitVec 32 := 1#32
  let v160 : BitVec 32 := Scalar.select v159 c1_i32_86 c8_i32_84
  let v161 : BitVec 32 := Scalar.remsi v158 v160
  let c0_i32_88 : BitVec 32 := 0#32
  let v163 : BitVec 1 := Scalar.cmpi .slt v161 c0_i32_88
  let c0_i32_89 : BitVec 32 := 0#32
  let v164 : BitVec 1 := Scalar.cmpi .slt v160 c0_i32_89
  let v165 : BitVec 1 := Scalar.xori v163 v164
  let c0_i32_87 : BitVec 32 := 0#32
  let v162 : BitVec 1 := Scalar.cmpi .ne v161 c0_i32_87
  let v166 : BitVec 1 := Scalar.andi v165 v162
  let v167 : BitVec 32 := Scalar.addi v161 v160
  let v168 : BitVec 32 := Scalar.select v166 v167 v161
  let c128_i32_90 : BitVec 32 := 128#32
  let v169 : BitVec 32 := Scalar.muli v168 c128_i32_90
  let c0_i32_689 : BitVec 32 := 0#32
  ![v169.toNat, 0]
def k0_dev16 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v158 : BitVec 32 := Scalar.addi v2 c2_i32_83
  let c8_i32_84 : BitVec 32 := 8#32
  let c0_i32_85 : BitVec 32 := 0#32
  let v159 : BitVec 1 := Scalar.cmpi .eq c8_i32_84 c0_i32_85
  let c1_i32_86 : BitVec 32 := 1#32
  let v160 : BitVec 32 := Scalar.select v159 c1_i32_86 c8_i32_84
  let v161 : BitVec 32 := Scalar.remsi v158 v160
  let c0_i32_88 : BitVec 32 := 0#32
  let v163 : BitVec 1 := Scalar.cmpi .slt v161 c0_i32_88
  let c0_i32_89 : BitVec 32 := 0#32
  let v164 : BitVec 1 := Scalar.cmpi .slt v160 c0_i32_89
  let v165 : BitVec 1 := Scalar.xori v163 v164
  let c0_i32_87 : BitVec 32 := 0#32
  let v162 : BitVec 1 := Scalar.cmpi .ne v161 c0_i32_87
  let v166 : BitVec 1 := Scalar.andi v165 v162
  let v167 : BitVec 32 := Scalar.addi v161 v160
  let v168 : BitVec 32 := Scalar.select v166 v167 v161
  let c1_i32_685 : BitVec 32 := 1#32
  let v901 : BitVec 32 := Scalar.muli v168 c1_i32_685
  let v902 : BitVec 32 := Scalar.addi c0_i32_686 v901
  v902.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v170 : BitVec 32 := Scalar.addi v2 c3_i32_91
  let c8_i32_92 : BitVec 32 := 8#32
  let c0_i32_93 : BitVec 32 := 0#32
  let v171 : BitVec 1 := Scalar.cmpi .eq c8_i32_92 c0_i32_93
  let c1_i32_94 : BitVec 32 := 1#32
  let v172 : BitVec 32 := Scalar.select v171 c1_i32_94 c8_i32_92
  let v173 : BitVec 32 := Scalar.remsi v170 v172
  let c0_i32_96 : BitVec 32 := 0#32
  let v175 : BitVec 1 := Scalar.cmpi .slt v173 c0_i32_96
  let c0_i32_97 : BitVec 32 := 0#32
  let v176 : BitVec 1 := Scalar.cmpi .slt v172 c0_i32_97
  let v177 : BitVec 1 := Scalar.xori v175 v176
  let c0_i32_95 : BitVec 32 := 0#32
  let v174 : BitVec 1 := Scalar.cmpi .ne v173 c0_i32_95
  let v178 : BitVec 1 := Scalar.andi v177 v174
  let v179 : BitVec 32 := Scalar.addi v173 v172
  let v180 : BitVec 32 := Scalar.select v178 v179 v173
  let c4_i32_377 : BitVec 32 := 4#32
  let v555 : BitVec 1 := Scalar.cmpi .sge v180 c4_i32_377
  let c8_i32_378 : BitVec 32 := 8#32
  let v556 : BitVec 1 := Scalar.cmpi .slt v180 c8_i32_378
  let v557 : BitVec 1 := Scalar.andi v555 v556
  let v558 : BitVec 32 := Scalar.extui v557
  let c0_i32_381 : BitVec 32 := 0#32
  let v559 : BitVec 1 := Scalar.cmpi .ne v558 c0_i32_381
  v559

def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v170 : BitVec 32 := Scalar.addi v2 c3_i32_91
  let c8_i32_92 : BitVec 32 := 8#32
  let c0_i32_93 : BitVec 32 := 0#32
  let v171 : BitVec 1 := Scalar.cmpi .eq c8_i32_92 c0_i32_93
  let c1_i32_94 : BitVec 32 := 1#32
  let v172 : BitVec 32 := Scalar.select v171 c1_i32_94 c8_i32_92
  let v173 : BitVec 32 := Scalar.remsi v170 v172
  let c0_i32_96 : BitVec 32 := 0#32
  let v175 : BitVec 1 := Scalar.cmpi .slt v173 c0_i32_96
  let c0_i32_97 : BitVec 32 := 0#32
  let v176 : BitVec 1 := Scalar.cmpi .slt v172 c0_i32_97
  let v177 : BitVec 1 := Scalar.xori v175 v176
  let c0_i32_95 : BitVec 32 := 0#32
  let v174 : BitVec 1 := Scalar.cmpi .ne v173 c0_i32_95
  let v178 : BitVec 1 := Scalar.andi v177 v174
  let v179 : BitVec 32 := Scalar.addi v173 v172
  let v180 : BitVec 32 := Scalar.select v178 v179 v173
  let c128_i32_98 : BitVec 32 := 128#32
  let v181 : BitVec 32 := Scalar.muli v180 c128_i32_98
  let c0_i32_689 : BitVec 32 := 0#32
  ![v181.toNat, 0]
def k0_dev17 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v170 : BitVec 32 := Scalar.addi v2 c3_i32_91
  let c8_i32_92 : BitVec 32 := 8#32
  let c0_i32_93 : BitVec 32 := 0#32
  let v171 : BitVec 1 := Scalar.cmpi .eq c8_i32_92 c0_i32_93
  let c1_i32_94 : BitVec 32 := 1#32
  let v172 : BitVec 32 := Scalar.select v171 c1_i32_94 c8_i32_92
  let v173 : BitVec 32 := Scalar.remsi v170 v172
  let c0_i32_96 : BitVec 32 := 0#32
  let v175 : BitVec 1 := Scalar.cmpi .slt v173 c0_i32_96
  let c0_i32_97 : BitVec 32 := 0#32
  let v176 : BitVec 1 := Scalar.cmpi .slt v172 c0_i32_97
  let v177 : BitVec 1 := Scalar.xori v175 v176
  let c0_i32_95 : BitVec 32 := 0#32
  let v174 : BitVec 1 := Scalar.cmpi .ne v173 c0_i32_95
  let v178 : BitVec 1 := Scalar.andi v177 v174
  let v179 : BitVec 32 := Scalar.addi v173 v172
  let v180 : BitVec 32 := Scalar.select v178 v179 v173
  let c1_i32_685 : BitVec 32 := 1#32
  let v901 : BitVec 32 := Scalar.muli v180 c1_i32_685
  let v902 : BitVec 32 := Scalar.addi c0_i32_686 v901
  v902.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_99 : BitVec 32 := 4#32
  let v182 : BitVec 32 := Scalar.addi v2 c4_i32_99
  let c8_i32_100 : BitVec 32 := 8#32
  let c0_i32_101 : BitVec 32 := 0#32
  let v183 : BitVec 1 := Scalar.cmpi .eq c8_i32_100 c0_i32_101
  let c1_i32_102 : BitVec 32 := 1#32
  let v184 : BitVec 32 := Scalar.select v183 c1_i32_102 c8_i32_100
  let v185 : BitVec 32 := Scalar.remsi v182 v184
  let c0_i32_104 : BitVec 32 := 0#32
  let v187 : BitVec 1 := Scalar.cmpi .slt v185 c0_i32_104
  let c0_i32_105 : BitVec 32 := 0#32
  let v188 : BitVec 1 := Scalar.cmpi .slt v184 c0_i32_105
  let v189 : BitVec 1 := Scalar.xori v187 v188
  let c0_i32_103 : BitVec 32 := 0#32
  let v186 : BitVec 1 := Scalar.cmpi .ne v185 c0_i32_103
  let v190 : BitVec 1 := Scalar.andi v189 v186
  let v191 : BitVec 32 := Scalar.addi v185 v184
  let v192 : BitVec 32 := Scalar.select v190 v191 v185
  let c4_i32_382 : BitVec 32 := 4#32
  let v560 : BitVec 1 := Scalar.cmpi .sge v192 c4_i32_382
  let c8_i32_383 : BitVec 32 := 8#32
  let v561 : BitVec 1 := Scalar.cmpi .slt v192 c8_i32_383
  let v562 : BitVec 1 := Scalar.andi v560 v561
  let v563 : BitVec 32 := Scalar.extui v562
  let c0_i32_386 : BitVec 32 := 0#32
  let v564 : BitVec 1 := Scalar.cmpi .ne v563 c0_i32_386
  v564

def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_99 : BitVec 32 := 4#32
  let v182 : BitVec 32 := Scalar.addi v2 c4_i32_99
  let c8_i32_100 : BitVec 32 := 8#32
  let c0_i32_101 : BitVec 32 := 0#32
  let v183 : BitVec 1 := Scalar.cmpi .eq c8_i32_100 c0_i32_101
  let c1_i32_102 : BitVec 32 := 1#32
  let v184 : BitVec 32 := Scalar.select v183 c1_i32_102 c8_i32_100
  let v185 : BitVec 32 := Scalar.remsi v182 v184
  let c0_i32_104 : BitVec 32 := 0#32
  let v187 : BitVec 1 := Scalar.cmpi .slt v185 c0_i32_104
  let c0_i32_105 : BitVec 32 := 0#32
  let v188 : BitVec 1 := Scalar.cmpi .slt v184 c0_i32_105
  let v189 : BitVec 1 := Scalar.xori v187 v188
  let c0_i32_103 : BitVec 32 := 0#32
  let v186 : BitVec 1 := Scalar.cmpi .ne v185 c0_i32_103
  let v190 : BitVec 1 := Scalar.andi v189 v186
  let v191 : BitVec 32 := Scalar.addi v185 v184
  let v192 : BitVec 32 := Scalar.select v190 v191 v185
  let c128_i32_106 : BitVec 32 := 128#32
  let v193 : BitVec 32 := Scalar.muli v192 c128_i32_106
  let c0_i32_689 : BitVec 32 := 0#32
  ![v193.toNat, 0]
def k0_dev18 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_99 : BitVec 32 := 4#32
  let v182 : BitVec 32 := Scalar.addi v2 c4_i32_99
  let c8_i32_100 : BitVec 32 := 8#32
  let c0_i32_101 : BitVec 32 := 0#32
  let v183 : BitVec 1 := Scalar.cmpi .eq c8_i32_100 c0_i32_101
  let c1_i32_102 : BitVec 32 := 1#32
  let v184 : BitVec 32 := Scalar.select v183 c1_i32_102 c8_i32_100
  let v185 : BitVec 32 := Scalar.remsi v182 v184
  let c0_i32_104 : BitVec 32 := 0#32
  let v187 : BitVec 1 := Scalar.cmpi .slt v185 c0_i32_104
  let c0_i32_105 : BitVec 32 := 0#32
  let v188 : BitVec 1 := Scalar.cmpi .slt v184 c0_i32_105
  let v189 : BitVec 1 := Scalar.xori v187 v188
  let c0_i32_103 : BitVec 32 := 0#32
  let v186 : BitVec 1 := Scalar.cmpi .ne v185 c0_i32_103
  let v190 : BitVec 1 := Scalar.andi v189 v186
  let v191 : BitVec 32 := Scalar.addi v185 v184
  let v192 : BitVec 32 := Scalar.select v190 v191 v185
  let c1_i32_685 : BitVec 32 := 1#32
  let v901 : BitVec 32 := Scalar.muli v192 c1_i32_685
  let v902 : BitVec 32 := Scalar.addi c0_i32_686 v901
  v902.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_107 : BitVec 32 := 5#32
  let v194 : BitVec 32 := Scalar.addi v2 c5_i32_107
  let c8_i32_108 : BitVec 32 := 8#32
  let c0_i32_109 : BitVec 32 := 0#32
  let v195 : BitVec 1 := Scalar.cmpi .eq c8_i32_108 c0_i32_109
  let c1_i32_110 : BitVec 32 := 1#32
  let v196 : BitVec 32 := Scalar.select v195 c1_i32_110 c8_i32_108
  let v197 : BitVec 32 := Scalar.remsi v194 v196
  let c0_i32_112 : BitVec 32 := 0#32
  let v199 : BitVec 1 := Scalar.cmpi .slt v197 c0_i32_112
  let c0_i32_113 : BitVec 32 := 0#32
  let v200 : BitVec 1 := Scalar.cmpi .slt v196 c0_i32_113
  let v201 : BitVec 1 := Scalar.xori v199 v200
  let c0_i32_111 : BitVec 32 := 0#32
  let v198 : BitVec 1 := Scalar.cmpi .ne v197 c0_i32_111
  let v202 : BitVec 1 := Scalar.andi v201 v198
  let v203 : BitVec 32 := Scalar.addi v197 v196
  let v204 : BitVec 32 := Scalar.select v202 v203 v197
  let c4_i32_387 : BitVec 32 := 4#32
  let v565 : BitVec 1 := Scalar.cmpi .sge v204 c4_i32_387
  let c8_i32_388 : BitVec 32 := 8#32
  let v566 : BitVec 1 := Scalar.cmpi .slt v204 c8_i32_388
  let v567 : BitVec 1 := Scalar.andi v565 v566
  let v568 : BitVec 32 := Scalar.extui v567
  let c0_i32_391 : BitVec 32 := 0#32
  let v569 : BitVec 1 := Scalar.cmpi .ne v568 c0_i32_391
  v569

def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_107 : BitVec 32 := 5#32
  let v194 : BitVec 32 := Scalar.addi v2 c5_i32_107
  let c8_i32_108 : BitVec 32 := 8#32
  let c0_i32_109 : BitVec 32 := 0#32
  let v195 : BitVec 1 := Scalar.cmpi .eq c8_i32_108 c0_i32_109
  let c1_i32_110 : BitVec 32 := 1#32
  let v196 : BitVec 32 := Scalar.select v195 c1_i32_110 c8_i32_108
  let v197 : BitVec 32 := Scalar.remsi v194 v196
  let c0_i32_112 : BitVec 32 := 0#32
  let v199 : BitVec 1 := Scalar.cmpi .slt v197 c0_i32_112
  let c0_i32_113 : BitVec 32 := 0#32
  let v200 : BitVec 1 := Scalar.cmpi .slt v196 c0_i32_113
  let v201 : BitVec 1 := Scalar.xori v199 v200
  let c0_i32_111 : BitVec 32 := 0#32
  let v198 : BitVec 1 := Scalar.cmpi .ne v197 c0_i32_111
  let v202 : BitVec 1 := Scalar.andi v201 v198
  let v203 : BitVec 32 := Scalar.addi v197 v196
  let v204 : BitVec 32 := Scalar.select v202 v203 v197
  let c128_i32_114 : BitVec 32 := 128#32
  let v205 : BitVec 32 := Scalar.muli v204 c128_i32_114
  let c0_i32_689 : BitVec 32 := 0#32
  ![v205.toNat, 0]
def k0_dev19 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_107 : BitVec 32 := 5#32
  let v194 : BitVec 32 := Scalar.addi v2 c5_i32_107
  let c8_i32_108 : BitVec 32 := 8#32
  let c0_i32_109 : BitVec 32 := 0#32
  let v195 : BitVec 1 := Scalar.cmpi .eq c8_i32_108 c0_i32_109
  let c1_i32_110 : BitVec 32 := 1#32
  let v196 : BitVec 32 := Scalar.select v195 c1_i32_110 c8_i32_108
  let v197 : BitVec 32 := Scalar.remsi v194 v196
  let c0_i32_112 : BitVec 32 := 0#32
  let v199 : BitVec 1 := Scalar.cmpi .slt v197 c0_i32_112
  let c0_i32_113 : BitVec 32 := 0#32
  let v200 : BitVec 1 := Scalar.cmpi .slt v196 c0_i32_113
  let v201 : BitVec 1 := Scalar.xori v199 v200
  let c0_i32_111 : BitVec 32 := 0#32
  let v198 : BitVec 1 := Scalar.cmpi .ne v197 c0_i32_111
  let v202 : BitVec 1 := Scalar.andi v201 v198
  let v203 : BitVec 32 := Scalar.addi v197 v196
  let v204 : BitVec 32 := Scalar.select v202 v203 v197
  let c1_i32_685 : BitVec 32 := 1#32
  let v901 : BitVec 32 := Scalar.muli v204 c1_i32_685
  let v902 : BitVec 32 := Scalar.addi c0_i32_686 v901
  v902.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_115 : BitVec 32 := 6#32
  let v206 : BitVec 32 := Scalar.addi v2 c6_i32_115
  let c8_i32_116 : BitVec 32 := 8#32
  let c0_i32_117 : BitVec 32 := 0#32
  let v207 : BitVec 1 := Scalar.cmpi .eq c8_i32_116 c0_i32_117
  let c1_i32_118 : BitVec 32 := 1#32
  let v208 : BitVec 32 := Scalar.select v207 c1_i32_118 c8_i32_116
  let v209 : BitVec 32 := Scalar.remsi v206 v208
  let c0_i32_120 : BitVec 32 := 0#32
  let v211 : BitVec 1 := Scalar.cmpi .slt v209 c0_i32_120
  let c0_i32_121 : BitVec 32 := 0#32
  let v212 : BitVec 1 := Scalar.cmpi .slt v208 c0_i32_121
  let v213 : BitVec 1 := Scalar.xori v211 v212
  let c0_i32_119 : BitVec 32 := 0#32
  let v210 : BitVec 1 := Scalar.cmpi .ne v209 c0_i32_119
  let v214 : BitVec 1 := Scalar.andi v213 v210
  let v215 : BitVec 32 := Scalar.addi v209 v208
  let v216 : BitVec 32 := Scalar.select v214 v215 v209
  let c4_i32_392 : BitVec 32 := 4#32
  let v570 : BitVec 1 := Scalar.cmpi .sge v216 c4_i32_392
  let c8_i32_393 : BitVec 32 := 8#32
  let v571 : BitVec 1 := Scalar.cmpi .slt v216 c8_i32_393
  let v572 : BitVec 1 := Scalar.andi v570 v571
  let v573 : BitVec 32 := Scalar.extui v572
  let c0_i32_396 : BitVec 32 := 0#32
  let v574 : BitVec 1 := Scalar.cmpi .ne v573 c0_i32_396
  v574

def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_115 : BitVec 32 := 6#32
  let v206 : BitVec 32 := Scalar.addi v2 c6_i32_115
  let c8_i32_116 : BitVec 32 := 8#32
  let c0_i32_117 : BitVec 32 := 0#32
  let v207 : BitVec 1 := Scalar.cmpi .eq c8_i32_116 c0_i32_117
  let c1_i32_118 : BitVec 32 := 1#32
  let v208 : BitVec 32 := Scalar.select v207 c1_i32_118 c8_i32_116
  let v209 : BitVec 32 := Scalar.remsi v206 v208
  let c0_i32_120 : BitVec 32 := 0#32
  let v211 : BitVec 1 := Scalar.cmpi .slt v209 c0_i32_120
  let c0_i32_121 : BitVec 32 := 0#32
  let v212 : BitVec 1 := Scalar.cmpi .slt v208 c0_i32_121
  let v213 : BitVec 1 := Scalar.xori v211 v212
  let c0_i32_119 : BitVec 32 := 0#32
  let v210 : BitVec 1 := Scalar.cmpi .ne v209 c0_i32_119
  let v214 : BitVec 1 := Scalar.andi v213 v210
  let v215 : BitVec 32 := Scalar.addi v209 v208
  let v216 : BitVec 32 := Scalar.select v214 v215 v209
  let c128_i32_122 : BitVec 32 := 128#32
  let v217 : BitVec 32 := Scalar.muli v216 c128_i32_122
  let c0_i32_689 : BitVec 32 := 0#32
  ![v217.toNat, 0]
def k0_dev20 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_115 : BitVec 32 := 6#32
  let v206 : BitVec 32 := Scalar.addi v2 c6_i32_115
  let c8_i32_116 : BitVec 32 := 8#32
  let c0_i32_117 : BitVec 32 := 0#32
  let v207 : BitVec 1 := Scalar.cmpi .eq c8_i32_116 c0_i32_117
  let c1_i32_118 : BitVec 32 := 1#32
  let v208 : BitVec 32 := Scalar.select v207 c1_i32_118 c8_i32_116
  let v209 : BitVec 32 := Scalar.remsi v206 v208
  let c0_i32_120 : BitVec 32 := 0#32
  let v211 : BitVec 1 := Scalar.cmpi .slt v209 c0_i32_120
  let c0_i32_121 : BitVec 32 := 0#32
  let v212 : BitVec 1 := Scalar.cmpi .slt v208 c0_i32_121
  let v213 : BitVec 1 := Scalar.xori v211 v212
  let c0_i32_119 : BitVec 32 := 0#32
  let v210 : BitVec 1 := Scalar.cmpi .ne v209 c0_i32_119
  let v214 : BitVec 1 := Scalar.andi v213 v210
  let v215 : BitVec 32 := Scalar.addi v209 v208
  let v216 : BitVec 32 := Scalar.select v214 v215 v209
  let c1_i32_685 : BitVec 32 := 1#32
  let v901 : BitVec 32 := Scalar.muli v216 c1_i32_685
  let v902 : BitVec 32 := Scalar.addi c0_i32_686 v901
  v902.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_123 : BitVec 32 := 7#32
  let v218 : BitVec 32 := Scalar.addi v2 c7_i32_123
  let c8_i32_124 : BitVec 32 := 8#32
  let c0_i32_125 : BitVec 32 := 0#32
  let v219 : BitVec 1 := Scalar.cmpi .eq c8_i32_124 c0_i32_125
  let c1_i32_126 : BitVec 32 := 1#32
  let v220 : BitVec 32 := Scalar.select v219 c1_i32_126 c8_i32_124
  let v221 : BitVec 32 := Scalar.remsi v218 v220
  let c0_i32_128 : BitVec 32 := 0#32
  let v223 : BitVec 1 := Scalar.cmpi .slt v221 c0_i32_128
  let c0_i32_129 : BitVec 32 := 0#32
  let v224 : BitVec 1 := Scalar.cmpi .slt v220 c0_i32_129
  let v225 : BitVec 1 := Scalar.xori v223 v224
  let c0_i32_127 : BitVec 32 := 0#32
  let v222 : BitVec 1 := Scalar.cmpi .ne v221 c0_i32_127
  let v226 : BitVec 1 := Scalar.andi v225 v222
  let v227 : BitVec 32 := Scalar.addi v221 v220
  let v228 : BitVec 32 := Scalar.select v226 v227 v221
  let c4_i32_397 : BitVec 32 := 4#32
  let v575 : BitVec 1 := Scalar.cmpi .sge v228 c4_i32_397
  let c8_i32_398 : BitVec 32 := 8#32
  let v576 : BitVec 1 := Scalar.cmpi .slt v228 c8_i32_398
  let v577 : BitVec 1 := Scalar.andi v575 v576
  let v578 : BitVec 32 := Scalar.extui v577
  let c0_i32_401 : BitVec 32 := 0#32
  let v579 : BitVec 1 := Scalar.cmpi .ne v578 c0_i32_401
  v579

def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_123 : BitVec 32 := 7#32
  let v218 : BitVec 32 := Scalar.addi v2 c7_i32_123
  let c8_i32_124 : BitVec 32 := 8#32
  let c0_i32_125 : BitVec 32 := 0#32
  let v219 : BitVec 1 := Scalar.cmpi .eq c8_i32_124 c0_i32_125
  let c1_i32_126 : BitVec 32 := 1#32
  let v220 : BitVec 32 := Scalar.select v219 c1_i32_126 c8_i32_124
  let v221 : BitVec 32 := Scalar.remsi v218 v220
  let c0_i32_128 : BitVec 32 := 0#32
  let v223 : BitVec 1 := Scalar.cmpi .slt v221 c0_i32_128
  let c0_i32_129 : BitVec 32 := 0#32
  let v224 : BitVec 1 := Scalar.cmpi .slt v220 c0_i32_129
  let v225 : BitVec 1 := Scalar.xori v223 v224
  let c0_i32_127 : BitVec 32 := 0#32
  let v222 : BitVec 1 := Scalar.cmpi .ne v221 c0_i32_127
  let v226 : BitVec 1 := Scalar.andi v225 v222
  let v227 : BitVec 32 := Scalar.addi v221 v220
  let v228 : BitVec 32 := Scalar.select v226 v227 v221
  let c128_i32_130 : BitVec 32 := 128#32
  let v229 : BitVec 32 := Scalar.muli v228 c128_i32_130
  let c0_i32_689 : BitVec 32 := 0#32
  ![v229.toNat, 0]
def k0_dev21 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_123 : BitVec 32 := 7#32
  let v218 : BitVec 32 := Scalar.addi v2 c7_i32_123
  let c8_i32_124 : BitVec 32 := 8#32
  let c0_i32_125 : BitVec 32 := 0#32
  let v219 : BitVec 1 := Scalar.cmpi .eq c8_i32_124 c0_i32_125
  let c1_i32_126 : BitVec 32 := 1#32
  let v220 : BitVec 32 := Scalar.select v219 c1_i32_126 c8_i32_124
  let v221 : BitVec 32 := Scalar.remsi v218 v220
  let c0_i32_128 : BitVec 32 := 0#32
  let v223 : BitVec 1 := Scalar.cmpi .slt v221 c0_i32_128
  let c0_i32_129 : BitVec 32 := 0#32
  let v224 : BitVec 1 := Scalar.cmpi .slt v220 c0_i32_129
  let v225 : BitVec 1 := Scalar.xori v223 v224
  let c0_i32_127 : BitVec 32 := 0#32
  let v222 : BitVec 1 := Scalar.cmpi .ne v221 c0_i32_127
  let v226 : BitVec 1 := Scalar.andi v225 v222
  let v227 : BitVec 32 := Scalar.addi v221 v220
  let v228 : BitVec 32 := Scalar.select v226 v227 v221
  let c1_i32_685 : BitVec 32 := 1#32
  let v901 : BitVec 32 := Scalar.muli v228 c1_i32_685
  let v902 : BitVec 32 := Scalar.addi c0_i32_686 v901
  v902.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_402 : BitVec 32 := 128#32
  let v580 : BitVec 32 := Scalar.muli v2 c128_i32_402
  let v581 : Index := Scalar.indexCast v580
  let c0_403 : Index := 0#32
  ![v581.toNat, 0]
def k0_off16 (d0 : Dev nD) (c1_i32_76 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v146 : BitVec 32 := Scalar.addi v2 c1_i32_76
  let c8_i32_77 : BitVec 32 := 8#32
  let c0_i32_78 : BitVec 32 := 0#32
  let v147 : BitVec 1 := Scalar.cmpi .eq c8_i32_77 c0_i32_78
  let c1_i32_79 : BitVec 32 := 1#32
  let v148 : BitVec 32 := Scalar.select v147 c1_i32_79 c8_i32_77
  let v149 : BitVec 32 := Scalar.remsi v146 v148
  let c0_i32_81 : BitVec 32 := 0#32
  let v151 : BitVec 1 := Scalar.cmpi .slt v149 c0_i32_81
  let c0_i32_82 : BitVec 32 := 0#32
  let v152 : BitVec 1 := Scalar.cmpi .slt v148 c0_i32_82
  let v153 : BitVec 1 := Scalar.xori v151 v152
  let c0_i32_80 : BitVec 32 := 0#32
  let v150 : BitVec 1 := Scalar.cmpi .ne v149 c0_i32_80
  let v154 : BitVec 1 := Scalar.andi v153 v150
  let v155 : BitVec 32 := Scalar.addi v149 v148
  let v156 : BitVec 32 := Scalar.select v154 v155 v149
  let c128_i32 : BitVec 32 := 128#32
  let v157 : BitVec 32 := Scalar.muli v156 c128_i32
  let c0_i32_407 : BitVec 32 := 0#32
  ![v157.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_511 : BitVec 32 := 128#32
  let v696 : BitVec 32 := Scalar.muli v2 c128_i32_511
  let c0_i32_516 : BitVec 32 := 0#32
  ![v696.toNat, 0]
def k0_dev22 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_503 : BitVec 32 := 1#32
  let v684 : BitVec 32 := Scalar.addi v2 c1_i32_503
  let c8_i32_504 : BitVec 32 := 8#32
  let c0_i32_505 : BitVec 32 := 0#32
  let v685 : BitVec 1 := Scalar.cmpi .eq c8_i32_504 c0_i32_505
  let c1_i32_506 : BitVec 32 := 1#32
  let v686 : BitVec 32 := Scalar.select v685 c1_i32_506 c8_i32_504
  let v687 : BitVec 32 := Scalar.remsi v684 v686
  let c0_i32_508 : BitVec 32 := 0#32
  let v689 : BitVec 1 := Scalar.cmpi .slt v687 c0_i32_508
  let c0_i32_509 : BitVec 32 := 0#32
  let v690 : BitVec 1 := Scalar.cmpi .slt v686 c0_i32_509
  let v691 : BitVec 1 := Scalar.xori v689 v690
  let c0_i32_507 : BitVec 32 := 0#32
  let v688 : BitVec 1 := Scalar.cmpi .ne v687 c0_i32_507
  let v692 : BitVec 1 := Scalar.andi v691 v688
  let v693 : BitVec 32 := Scalar.addi v687 v686
  let v694 : BitVec 32 := Scalar.select v692 v693 v687
  let c1_i32_514 : BitVec 32 := 1#32
  let v697 : BitVec 32 := Scalar.muli v694 c1_i32_514
  let v698 : BitVec 32 := Scalar.addi c0_i32_515 v697
  v698.toNat
def k0_dev23 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_518 : BitVec 32 := 2#32
  let v705 : BitVec 32 := Scalar.addi v2 c2_i32_518
  let c8_i32_519 : BitVec 32 := 8#32
  let c0_i32_520 : BitVec 32 := 0#32
  let v706 : BitVec 1 := Scalar.cmpi .eq c8_i32_519 c0_i32_520
  let c1_i32_521 : BitVec 32 := 1#32
  let v707 : BitVec 32 := Scalar.select v706 c1_i32_521 c8_i32_519
  let v708 : BitVec 32 := Scalar.remsi v705 v707
  let c0_i32_523 : BitVec 32 := 0#32
  let v710 : BitVec 1 := Scalar.cmpi .slt v708 c0_i32_523
  let c0_i32_524 : BitVec 32 := 0#32
  let v711 : BitVec 1 := Scalar.cmpi .slt v707 c0_i32_524
  let v712 : BitVec 1 := Scalar.xori v710 v711
  let c0_i32_522 : BitVec 32 := 0#32
  let v709 : BitVec 1 := Scalar.cmpi .ne v708 c0_i32_522
  let v713 : BitVec 1 := Scalar.andi v712 v709
  let v714 : BitVec 32 := Scalar.addi v708 v707
  let v715 : BitVec 32 := Scalar.select v713 v714 v708
  let c1_i32_529 : BitVec 32 := 1#32
  let v718 : BitVec 32 := Scalar.muli v715 c1_i32_529
  let v719 : BitVec 32 := Scalar.addi c0_i32_530 v718
  v719.toNat
def k0_dev24 (d0 : Dev nD) : Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_533 : BitVec 32 := 3#32
  let v726 : BitVec 32 := Scalar.addi v2 c3_i32_533
  let c8_i32_534 : BitVec 32 := 8#32
  let c0_i32_535 : BitVec 32 := 0#32
  let v727 : BitVec 1 := Scalar.cmpi .eq c8_i32_534 c0_i32_535
  let c1_i32_536 : BitVec 32 := 1#32
  let v728 : BitVec 32 := Scalar.select v727 c1_i32_536 c8_i32_534
  let v729 : BitVec 32 := Scalar.remsi v726 v728
  let c0_i32_538 : BitVec 32 := 0#32
  let v731 : BitVec 1 := Scalar.cmpi .slt v729 c0_i32_538
  let c0_i32_539 : BitVec 32 := 0#32
  let v732 : BitVec 1 := Scalar.cmpi .slt v728 c0_i32_539
  let v733 : BitVec 1 := Scalar.xori v731 v732
  let c0_i32_537 : BitVec 32 := 0#32
  let v730 : BitVec 1 := Scalar.cmpi .ne v729 c0_i32_537
  let v734 : BitVec 1 := Scalar.andi v733 v730
  let v735 : BitVec 32 := Scalar.addi v729 v728
  let v736 : BitVec 32 := Scalar.select v734 v735 v729
  let c1_i32_544 : BitVec 32 := 1#32
  let v739 : BitVec 32 := Scalar.muli v736 c1_i32_544
  let v740 : BitVec 32 := Scalar.addi c0_i32_545 v739
  v740.toNat
def k0_dev25 (d0 : Dev nD) : Nat :=
  let c0_i32_560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_548 : BitVec 32 := 4#32
  let v747 : BitVec 32 := Scalar.addi v2 c4_i32_548
  let c8_i32_549 : BitVec 32 := 8#32
  let c0_i32_550 : BitVec 32 := 0#32
  let v748 : BitVec 1 := Scalar.cmpi .eq c8_i32_549 c0_i32_550
  let c1_i32_551 : BitVec 32 := 1#32
  let v749 : BitVec 32 := Scalar.select v748 c1_i32_551 c8_i32_549
  let v750 : BitVec 32 := Scalar.remsi v747 v749
  let c0_i32_553 : BitVec 32 := 0#32
  let v752 : BitVec 1 := Scalar.cmpi .slt v750 c0_i32_553
  let c0_i32_554 : BitVec 32 := 0#32
  let v753 : BitVec 1 := Scalar.cmpi .slt v749 c0_i32_554
  let v754 : BitVec 1 := Scalar.xori v752 v753
  let c0_i32_552 : BitVec 32 := 0#32
  let v751 : BitVec 1 := Scalar.cmpi .ne v750 c0_i32_552
  let v755 : BitVec 1 := Scalar.andi v754 v751
  let v756 : BitVec 32 := Scalar.addi v750 v749
  let v757 : BitVec 32 := Scalar.select v755 v756 v750
  let c1_i32_559 : BitVec 32 := 1#32
  let v760 : BitVec 32 := Scalar.muli v757 c1_i32_559
  let v761 : BitVec 32 := Scalar.addi c0_i32_560 v760
  v761.toNat
def k0_dev26 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_563 : BitVec 32 := 5#32
  let v768 : BitVec 32 := Scalar.addi v2 c5_i32_563
  let c8_i32_564 : BitVec 32 := 8#32
  let c0_i32_565 : BitVec 32 := 0#32
  let v769 : BitVec 1 := Scalar.cmpi .eq c8_i32_564 c0_i32_565
  let c1_i32_566 : BitVec 32 := 1#32
  let v770 : BitVec 32 := Scalar.select v769 c1_i32_566 c8_i32_564
  let v771 : BitVec 32 := Scalar.remsi v768 v770
  let c0_i32_568 : BitVec 32 := 0#32
  let v773 : BitVec 1 := Scalar.cmpi .slt v771 c0_i32_568
  let c0_i32_569 : BitVec 32 := 0#32
  let v774 : BitVec 1 := Scalar.cmpi .slt v770 c0_i32_569
  let v775 : BitVec 1 := Scalar.xori v773 v774
  let c0_i32_567 : BitVec 32 := 0#32
  let v772 : BitVec 1 := Scalar.cmpi .ne v771 c0_i32_567
  let v776 : BitVec 1 := Scalar.andi v775 v772
  let v777 : BitVec 32 := Scalar.addi v771 v770
  let v778 : BitVec 32 := Scalar.select v776 v777 v771
  let c1_i32_574 : BitVec 32 := 1#32
  let v781 : BitVec 32 := Scalar.muli v778 c1_i32_574
  let v782 : BitVec 32 := Scalar.addi c0_i32_575 v781
  v782.toNat
def k0_dev27 (d0 : Dev nD) : Nat :=
  let c0_i32_590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_578 : BitVec 32 := 6#32
  let v789 : BitVec 32 := Scalar.addi v2 c6_i32_578
  let c8_i32_579 : BitVec 32 := 8#32
  let c0_i32_580 : BitVec 32 := 0#32
  let v790 : BitVec 1 := Scalar.cmpi .eq c8_i32_579 c0_i32_580
  let c1_i32_581 : BitVec 32 := 1#32
  let v791 : BitVec 32 := Scalar.select v790 c1_i32_581 c8_i32_579
  let v792 : BitVec 32 := Scalar.remsi v789 v791
  let c0_i32_583 : BitVec 32 := 0#32
  let v794 : BitVec 1 := Scalar.cmpi .slt v792 c0_i32_583
  let c0_i32_584 : BitVec 32 := 0#32
  let v795 : BitVec 1 := Scalar.cmpi .slt v791 c0_i32_584
  let v796 : BitVec 1 := Scalar.xori v794 v795
  let c0_i32_582 : BitVec 32 := 0#32
  let v793 : BitVec 1 := Scalar.cmpi .ne v792 c0_i32_582
  let v797 : BitVec 1 := Scalar.andi v796 v793
  let v798 : BitVec 32 := Scalar.addi v792 v791
  let v799 : BitVec 32 := Scalar.select v797 v798 v792
  let c1_i32_589 : BitVec 32 := 1#32
  let v802 : BitVec 32 := Scalar.muli v799 c1_i32_589
  let v803 : BitVec 32 := Scalar.addi c0_i32_590 v802
  v803.toNat
def k0_dev28 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_593 : BitVec 32 := 7#32
  let v810 : BitVec 32 := Scalar.addi v2 c7_i32_593
  let c8_i32_594 : BitVec 32 := 8#32
  let c0_i32_595 : BitVec 32 := 0#32
  let v811 : BitVec 1 := Scalar.cmpi .eq c8_i32_594 c0_i32_595
  let c1_i32_596 : BitVec 32 := 1#32
  let v812 : BitVec 32 := Scalar.select v811 c1_i32_596 c8_i32_594
  let v813 : BitVec 32 := Scalar.remsi v810 v812
  let c0_i32_598 : BitVec 32 := 0#32
  let v815 : BitVec 1 := Scalar.cmpi .slt v813 c0_i32_598
  let c0_i32_599 : BitVec 32 := 0#32
  let v816 : BitVec 1 := Scalar.cmpi .slt v812 c0_i32_599
  let v817 : BitVec 1 := Scalar.xori v815 v816
  let c0_i32_597 : BitVec 32 := 0#32
  let v814 : BitVec 1 := Scalar.cmpi .ne v813 c0_i32_597
  let v818 : BitVec 1 := Scalar.andi v817 v814
  let v819 : BitVec 32 := Scalar.addi v813 v812
  let v820 : BitVec 32 := Scalar.select v818 v819 v813
  let c1_i32_604 : BitVec 32 := 1#32
  let v823 : BitVec 32 := Scalar.muli v820 c1_i32_604
  let v824 : BitVec 32 := Scalar.addi c0_i32_605 v823
  v824.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S2x512x4096 : Shape := ⟨3, ![2, 512, 4096]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x64x512x512 : Shape := ⟨4, ![2, 64, 512, 512]⟩
abbrev S1x1x512x512 : Shape := ⟨4, ![1, 1, 512, 512]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 95
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x4096, .bf16⟩
  | .hbm, ⟨2, _⟩ => ⟨S2x512x64x64, .bf16⟩
  | .hbm, ⟨3, _⟩ => ⟨S2x512x64x64, .bf16⟩
  | .hbm, ⟨4, _⟩ => ⟨S4096x768, .bf16⟩
  | .hbm, ⟨5, _⟩ => ⟨S2x512x4096, .f32⟩
  | .hbm, ⟨6, _⟩ => ⟨S2x512x4096, .bf16⟩
  | .hbm, ⟨7, _⟩ => ⟨S2x512x64x64, .bf16⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S512, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S1x512, .i32⟩
  | .hbm, ⟨48, _⟩ => ⟨S512x512, .i32⟩
  | .hbm, ⟨49, _⟩ => ⟨S512x512, .i32⟩
  | .hbm, ⟨50, _⟩ => ⟨S512x512, .i1⟩
  | .hbm, ⟨51, _⟩ => ⟨S2x64x512x512, .f32⟩
  | .hbm, ⟨52, _⟩ => ⟨S2x64x512x512, .bf16⟩
  | .hbm, ⟨53, _⟩ => ⟨S2x64x512x512, .f32⟩
  | .hbm, ⟨54, _⟩ => ⟨S_, .f32⟩
  | .hbm, ⟨55, _⟩ => ⟨S2x64x512x512, .f32⟩
  | .hbm, ⟨56, _⟩ => ⟨S2x64x512x512, .f32⟩
  | .hbm, ⟨57, _⟩ => ⟨S1x1x512x512, .i1⟩
  | .hbm, ⟨58, _⟩ => ⟨S_, .f32⟩
  | .hbm, ⟨59, _⟩ => ⟨S_, .f32⟩
  | .hbm, ⟨60, _⟩ => ⟨S2x64x512x512, .i1⟩
  | .hbm, ⟨61, _⟩ => ⟨S2x64x512x512, .f32⟩
  | .hbm, ⟨62, _⟩ => ⟨S2x64x512x512, .f32⟩
  | .hbm, ⟨63, _⟩ => ⟨S_, .f32⟩
  | .hbm, ⟨64, _⟩ => ⟨S2x64x512, .f32⟩
  | .hbm, ⟨65, _⟩ => ⟨S2x64x512x1, .f32⟩
  | .hbm, ⟨66, _⟩ => ⟨S2x64x512x512, .f32⟩
  | .hbm, ⟨67, _⟩ => ⟨S2x64x512x512, .f32⟩
  | .hbm, ⟨68, _⟩ => ⟨S2x64x512x512, .f32⟩
  | .hbm, ⟨69, _⟩ => ⟨S_, .i1⟩
  | .hbm, ⟨70, _⟩ => ⟨S512, .i1⟩
  | .hbm, ⟨71, _⟩ => ⟨S1x1x512x1, .i1⟩
  | .hbm, ⟨72, _⟩ => ⟨S_, .f32⟩
  | .hbm, ⟨73, _⟩ => ⟨S2x64x512, .f32⟩
  | .hbm, ⟨74, _⟩ => ⟨S2x64x512x1, .f32⟩
  | .hbm, ⟨75, _⟩ => ⟨S_, .f32⟩
  | .hbm, ⟨76, _⟩ => ⟨S_, .f32⟩
  | .hbm, ⟨77, _⟩ => ⟨S2x64x512x1, .i1⟩
  | .hbm, ⟨78, _⟩ => ⟨S2x64x512x1, .f32⟩
  | .hbm, ⟨79, _⟩ => ⟨S2x64x512x1, .f32⟩
  | .hbm, ⟨80, _⟩ => ⟨S2x64x512x512, .f32⟩
  | .hbm, ⟨81, _⟩ => ⟨S2x64x512x512, .f32⟩
  | .hbm, ⟨82, _⟩ => ⟨S1x1x512x1, .i1⟩
  | .hbm, ⟨83, _⟩ => ⟨S_, .f32⟩
  | .hbm, ⟨84, _⟩ => ⟨S_, .f32⟩
  | .hbm, ⟨85, _⟩ => ⟨S2x64x512x512, .i1⟩
  | .hbm, ⟨86, _⟩ => ⟨S2x64x512x512, .f32⟩
  | .hbm, ⟨87, _⟩ => ⟨S2x64x512x512, .f32⟩
  | .hbm, ⟨88, _⟩ => ⟨S2x512x64x64, .f32⟩
  | .hbm, ⟨89, _⟩ => ⟨S2x64x64x512, .f32⟩
  | .hbm, ⟨90, _⟩ => ⟨S2x512x64x64, .f32⟩
  | .hbm, ⟨91, _⟩ => ⟨S2x512x4096, .f32⟩
  | .hbm, ⟨92, _⟩ => ⟨S4096x768, .f32⟩
  | .hbm, ⟨93, _⟩ => ⟨S2x512x768, .f32⟩
  | .hbm, ⟨94, _⟩ => ⟨S2x512x768, .bf16⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩

abbrev nD : Nat := 1
abbrev τ : Topo := Topo.v7x

variable {F : FTy → Type} [FloatOps F]
-- ==== Proof.Proto.lean ====
/-
  The protocol of the kernel: the eight devices, the cells they signal and copy on, the pieces of the buffers
  that change hands, the schedule of payments, what each device owes, and the tables the steps read.

  Device c names the other seven by j = 0 … 6: `peer c j` is the device j + 1 places further round the ring, and
  seen from there c is number `6 - j` (`j.rev`).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Pipeline.TalkSites
public import Idealize.ShloMosaic.Lib.Pipeline.ValueKit.Geometry
public import Idealize.ShloMosaic.Lib.Rounds
public import Idealize.ShloMosaic.Lib.ShareLeaves
public import Idealize.ShloMosaic.Lib.Tactic

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal.Gen

variable {F : FTy → Type} [FloatOps F]

/-! ## The devices -/

/-- The device j + 1 places after c. -/
def peer (c : Dev nD) (j : Fin 7) : Dev nD := ⟨(c.val + j.val + 1) % 8, Nat.mod_lt _ (by decide)⟩

theorem peer_peer (c : Dev nD) (j : Fin 7) : peer (peer c j) j.rev = c := by revert c j; decide
theorem rev_rev (j : Fin 7) : j.rev.rev = j := by revert j; decide
theorem peer_ne (c : Dev nD) (j : Fin 7) : peer c j ≠ c := by revert c j; decide
theorem peer_inj (c : Dev nD) (i j : Fin 7) : peer c i = peer c j → i = j := by revert c i j; decide
theorem peer_surj (c d : Dev nD) : d = c ∨ ∃ j, d = peer c j := by revert c d; decide

/-- Which other device d is, seen from c (0 when d is c). -/
def idx (c d : Dev nD) : Fin 7 := ⟨(d.val + 7 - c.val) % 8 % 7, Nat.mod_lt _ (by decide)⟩
theorem idx_peer (c : Dev nD) (j : Fin 7) : idx c (peer c j) = j := by revert c j; decide

/-! ## Semaphores and cells -/

/-- The barrier's semaphore. -/
abbrev barL : SemLoc sig := .reg (0 : Sem sig)
/-- Number j of the send semaphores of the first exchange. -/
def rsS (j : Fin 7) : SemLoc sig := .dma (⟨6 + j.val, by have := j.isLt; show _ < 34; omega⟩ : DmaSem sig)
/-- Number j of the receive semaphores of the first exchange. -/
def rsR (j : Fin 7) : SemLoc sig := .dma (⟨13 + j.val, by have := j.isLt; show _ < 34; omega⟩ : DmaSem sig)
/-- Number j of the send semaphores of the second exchange. -/
def agS (j : Fin 7) : SemLoc sig := .dma (⟨20 + j.val, by have := j.isLt; show _ < 34; omega⟩ : DmaSem sig)
/-- Number j of the receive semaphores of the second exchange. -/
def agR (j : Fin 7) : SemLoc sig := .dma (⟨27 + j.val, by have := j.isLt; show _ < 34; omega⟩ : DmaSem sig)

/-- A device's cell at a semaphore. -/
abbrev cell (c : Dev nD) (s : SemLoc sig) : GSem nD τ sig := ((c : Thread nD τ), s)

/-- What a semaphore is for. -/
inductive Use where
  | bar | rsS (j : Fin 7) | rsR (j : Fin 7) | agS (j : Fin 7) | agR (j : Fin 7) | none
deriving DecidableEq

/-- What a semaphore is for, read off its number. -/
def useOf : SemLoc sig → Use
  | .reg _ => .bar
  | .dma s =>
    if h₁ : s.val < 6 then .none
    else if h₂ : s.val < 13 then .rsS ⟨s.val - 6, by omega⟩
    else if h₃ : s.val < 20 then .rsR ⟨s.val - 13, by omega⟩
    else if h₄ : s.val < 27 then .agS ⟨s.val - 20, by omega⟩
    else if h₅ : s.val < 34 then .agR ⟨s.val - 27, by omega⟩ else .none

theorem use_bar : useOf barL = .bar := rfl
theorem use_rsS (j : Fin 7) : useOf (rsS j) = .rsS j := by revert j; decide
theorem use_rsR (j : Fin 7) : useOf (rsR j) = .rsR j := by revert j; decide
theorem use_agS (j : Fin 7) : useOf (agS j) = .agS j := by revert j; decide
theorem use_agR (j : Fin 7) : useOf (agR j) = .agR j := by revert j; decide

/-! ## The pieces of the buffers -/

abbrev sM : Memref sig .tc .vmem S1024x768 .bf16 := Memref.whole cc0_scratch0
abbrev rM : Memref sig .tc .vmem S896x768 .bf16 := Memref.whole cc0_scratch1
abbrev oM : Memref sig .tc .vmem S1024x768 .bf16 := Memref.whole cc0_stg5_0

/-- Where chunk t of a buffer cut into pieces of 128 rows begins. -/
def rowOff (t : ℕ) : Fin 2 → ℕ := ![128 * t, 0]

theorem inb8 (t : Dev nD) : ∀ a, rowOff t.val a + S128x768.size a ≤ S1024x768.size a := by revert t; decide
theorem inb7 (j : Fin 7) : ∀ a, rowOff j.val a + S128x768.size a ≤ S896x768.size a := by revert j; decide

/-- Chunk t of a 1024-row buffer. -/
abbrev chunk (M : Memref sig .tc .vmem S1024x768 .bf16) (t : Dev nD) : Memref sig .tc .vmem S128x768 .bf16 :=
  M.slice (Rect.unit (s := S1024x768) (rowOff t.val) S128x768.size (inb8 t)) (fun _ => rfl)
/-- Slot j of the receive buffer. -/
abbrev slot (j : Fin 7) : Memref sig .tc .vmem S128x768 .bf16 :=
  rM.slice (Rect.unit (s := S896x768) (rowOff j.val) S128x768.size (inb7 j)) (fun _ => rfl)

/-- What a 1024-row buffer holds. -/
abbrev Big (F : FTy → Type) : Type := S1024x768.Idx → Elt F .bf16
/-- What the receive buffer holds. -/
abbrev Rcv (F : FTy → Type) : Type := S896x768.Idx → Elt F .bf16

/-- The units one copy of a chunk adds. -/
def N : ℕ := (slot 0).view.dmaCredit
theorem N_pos : 0 < N := View.dmaCredit_pos _ (by decide)

/-! ## The protocol's algebra -/

abbrev UA : Type := URounds (GSem nD τ sig) Unit
abbrev UB : Type := URounds (GSem nD τ sig) (Fin 7)
abbrev UU : Type := UA × UB

local notation "𝕄" => MT nD τ sig ℕ (Elt F) ℕ UU ℕ

abbrev EP : Emb UA (MT nD τ sig ℕ (Elt F) ℕ UU ℕ) := embL
abbrev ER : Emb UB (MT nD τ sig ℕ (Elt F) ℕ UU ℕ) := embR

/-- Device c's chunk t of a 1024-row buffer, at share q. -/
abbrev pc (M : Memref sig .tc .vmem S1024x768 .bf16) (c t : Dev nD) (q : PosShare TreeShare) (f : Buf (Elt F) ((chunk M t).view.loc (c : Thread nD τ))) : sProp 𝕄 :=
  (chunk M t).view.loc (c : Thread nD τ) ↦[(chunk M t).view.set]{q} f
/-- Device c's slot j of the receive buffer. -/
abbrev ps (c : Dev nD) (j : Fin 7) (f : Buf (Elt F) ((slot j).view.loc (c : Thread nD τ))) : sProp 𝕄 :=
  (slot j).view.loc (c : Thread nD τ) ↦[(slot j).view.set]{fullShare} f

/-- The share of the device's own chunk that copy j of the second exchange reads. -/
def shareOf (j : Fin 7) : PosShare TreeShare := ShareLeaves.leaf 3 fullShare ⟨j.val, by have := j.isLt; show _ < 8; omega⟩

/-! ## The schedule -/

/-- What the whole exchange moves: the partial results each device makes, and the finished result. -/
structure Data (F : FTy → Type) where
  /-- What device c's send buffer holds once both halves are stored. -/
  S : Dev nD → Big F
  /-- The finished result, the same on every device. -/
  T : Big F

variable (A : Data F)

/-- The row of the send buffer that lands in row r of slot j, for the device c it is sent to. -/
def srcRow (c : Dev nD) (i : S896x768.Idx) : S1024x768.Idx :=
  Fin.cons (⟨128 * c.val + (i 0 : Fin 896).val % 128, by have := c.isLt; show _ < 1024; have : c.val < 8 := c.isLt; omega⟩ : Fin 1024)
    (Fin.cons (i 1 : Fin 768) finZeroElim)

/-- Which slot a row of the receive buffer lies in. -/
def slotOf (i : S896x768.Idx) : Fin 7 := ⟨(i 0 : Fin 896).val / 128, by have h : (i 0 : Fin 896).val < 896 := (i 0 : Fin 896).isLt; omega⟩

/-- What device c's receive buffer holds after the first exchange: in slot j the chunk c of device `peer c j`. -/
def rcv (c : Dev nD) : Rcv F := fun i => A.S (peer c (slotOf i)) (srcRow c i)

/-- What device `peer c j` hands c with its signal: the slot c copies into first, the chunk c copies into second, and that the two
    cells those copies land on are open. -/
def barPay (c : Dev nD) (j : Fin 7) : sProp 𝕄 :=
  iprop((∃ f, ps (peer c j) j.rev f) ∗ (∃ f, pc oM (peer c j) c fullShare f)
    ∗ reached ER (cell (peer c j) (rsR j.rev)) 0 ∗ reached ER (cell (peer c j) (agR j.rev)) 0)

/-- What the payments to a cell hand over. -/
def payOf (c : Dev nD) : Use → Fin 7 → sProp 𝕄
  | .bar, j => barPay c j
  | .rsS j, _ => pc sM c (peer c j) fullShare (A.S c)
  | .rsR j, _ => ps c j (rcv A c)
  | .agS j, _ => pc sM c c (shareOf j) A.T
  | .agR j, _ => pc oM c (peer c j) fullShare A.T
  | .none, _ => iprop(emp)

set_option synthInstance.maxHeartbeats 400000 in
instance barPay_storable (c : Dev nD) (j : Fin 7) : BI.Storable (upEmb : UEmb _ 𝕄) (barPay (F := F) c j) := by
  unfold barPay; infer_instance

instance payOf_storable (c : Dev nD) (u : Use) (j : Fin 7) : BI.Storable (upEmb : UEmb _ 𝕄) (payOf A c u j) := by
  cases u with
  | bar => show BI.Storable _ (barPay c j); infer_instance
  | rsS j => show BI.Storable _ (pc sM c (peer c j) fullShare (A.S c)); infer_instance
  | rsR j => show BI.Storable _ (ps c j (rcv A c)); infer_instance
  | agS j => show BI.Storable _ (pc sM c c (shareOf j) A.T); infer_instance
  | agR j => show BI.Storable _ (pc oM c (peer c j) fullShare A.T); infer_instance
  | none => show BI.Storable _ iprop(emp); infer_instance

/-- Which payments a cell has in its one round: the barrier's seven, one on every other cell. -/
def dutiesOf : Use → Finset (Fin 7)
  | .bar => Finset.univ
  | .none => ∅
  | _ => {0}

/-- The units of a payment. -/
def amountOf : Use → ℕ
  | .bar => 1
  | _ => N

/-- The one round of every cell. -/
def Rd : Schedule (GSem nD τ sig) (Fin 7) (MT nD τ sig ℕ (Elt F) ℕ UU ℕ) where
  duties g r := if r = 0 then dutiesOf (useOf g.2) else ∅
  unitless _ := False
  amount g _ _ := amountOf (useOf g.2)
  payload g _ j := payOf A g.1.1 (useOf g.2) j
  amount_pos g _ _ _ := by unfold amountOf; split; exacts [Nat.one_pos, N_pos]

instance Rd_storable (g : GSem nD τ sig) (r : ℕ) (j : Fin 7) : BI.Storable (upEmb : UEmb _ 𝕄) ((Rd A).payload g r j) :=
  payOf_storable A _ _ _

section Tables

variable (c : Dev nD) (j : Fin 7)

theorem duties_at (s : SemLoc sig) : (Rd A).duties (cell c s) 0 = dutiesOf (useOf s) := by dsimp only [Rd]; exact if_pos rfl
theorem duties_later (g : GSem nD τ sig) : ∀ r, 1 ≤ r → (Rd A).duties g r = ∅ := fun r hr => by dsimp only [Rd]; exact if_neg (by omega)
theorem amount_at (s : SemLoc sig) (d : Fin 7) : (Rd A).amount (cell c s) 0 d = amountOf (useOf s) := rfl
theorem payload_at (s : SemLoc sig) (d : Fin 7) : (Rd A).payload (cell c s) 0 d = payOf A c (useOf s) d := rfl

/-- The semaphores the copies complete on. -/
def Comm (s : SemLoc sig) : Prop := dutiesOf (useOf s) = {0} ∧ amountOf (useOf s) = N

theorem comm_rsS : Comm (rsS j) := by unfold Comm; rw [use_rsS]; exact ⟨rfl, rfl⟩
theorem comm_rsR : Comm (rsR j) := by unfold Comm; rw [use_rsR]; exact ⟨rfl, rfl⟩
theorem comm_agS : Comm (agS j) := by unfold Comm; rw [use_agS]; exact ⟨rfl, rfl⟩
theorem comm_agR : Comm (agR j) := by unfold Comm; rw [use_agR]; exact ⟨rfl, rfl⟩

theorem expect_bar : (Rd A).expect (cell c barL) 0 = 7 := by
  unfold Schedule.expect Schedule.amountOf; rw [duties_at]; rfl
theorem rest_bar : bigSep ((Rd A).duties (cell c barL) 0 \ ∅) (fun d => (Rd A).payload (cell c barL) 0 d) = bigSep Finset.univ (barPay c) := by
  rw [Finset.sdiff_empty, duties_at]; rfl

variable {c} in
theorem mem_duties {s : SemLoc sig} (h : Comm s) : (0 : Fin 7) ∈ (Rd A).duties (cell c s) 0 := by
  rw [duties_at, h.1]; exact Finset.mem_singleton_self _
variable {c} in
theorem expect_comm {s : SemLoc sig} (h : Comm s) : (Rd A).expect (cell c s) 0 = N := by
  unfold Schedule.expect Schedule.amountOf; rw [duties_at, h.1, Finset.sum_singleton]; exact h.2
variable {c} in
theorem rest_comm {s : SemLoc sig} (h : Comm s) :
    bigSep ((Rd A).duties (cell c s) 0 \ ∅) (fun d => (Rd A).payload (cell c s) 0 d) = payOf A c (useOf s) 0 := by
  rw [Finset.sdiff_empty, duties_at, h.1, bigSep_singleton]; rfl

end Tables

/-! ## The protocol's cells and tokens -/

/-- The copies' semaphores, those the kernel owns. -/
def commSems : Finset (SemLoc sig) :=
  Finset.univ.image rsS ∪ Finset.univ.image rsR ∪ Finset.univ.image agS ∪ Finset.univ.image agR

/-- The payments device c makes: its signals, and the two cells of each of its copies. -/
def tokL (c : Dev nD) (j : Fin 7) : List (GSem nD τ sig × ℕ × Fin 7) :=
  [(cell (peer c j) barL, 0, j.rev), (cell c (rsS j), 0, 0), (cell (peer c j) (rsR j.rev), 0, 0),
   (cell c (agS j), 0, 0), (cell (peer c j) (agR j.rev), 0, 0)]
/-- All payments device c makes. -/
def toks (c : Dev nD) : Finset (GSem nD τ sig × ℕ × Fin 7) := Finset.univ.biUnion fun j => (tokL c j).toFinset

/-- Who makes a payment, and as its which. -/
def payer (x : GSem nD τ sig × ℕ × Fin 7) : Dev nD × Fin 7 :=
  match useOf x.1.2 with
  | .bar => (peer x.1.1.1 x.2.2, x.2.2.rev)
  | .rsS j => (x.1.1.1, j)
  | .rsR j => (peer x.1.1.1 j, j.rev)
  | .agS j => (x.1.1.1, j)
  | .agR j => (peer x.1.1.1 j, j.rev)
  | .none => (x.1.1.1, 0)

theorem payer_tok (c : Dev nD) (j : Fin 7) : ∀ x ∈ (tokL c j).toFinset, payer x = (c, j) := by
  intro x hx
  simp only [tokL, List.toFinset_cons, List.toFinset_nil, Finset.mem_insert, Finset.notMem_empty, or_false] at hx
  unfold payer
  rcases hx with rfl | rfl | rfl | rfl | rfl
  · rw [use_bar]; dsimp only; rw [peer_peer, rev_rev]
  · rw [use_rsS]
  · rw [use_rsR]; dsimp only; rw [peer_peer, rev_rev]
  · rw [use_agS]
  · rw [use_agR]; dsimp only; rw [peer_peer, rev_rev]

/-- The family: every device's barrier cell, its cells the copies complete on, the payments. -/
def fam : Fam nD τ sig (Fin 7) 1 where
  bar := barL
  dorm _ := commSems
  toks c _ := toks c
  semKey _ := 0
  hsem j _ _ := Subsingleton.elim _ _
  hbar _ := by unfold commSems; decide
  tokKey x := ((payer x).1, 0)
  htok c j x hx := by
    obtain ⟨i, -, hi⟩ := Finset.mem_biUnion.mp hx
    rw [payer_tok c i x hi, Subsingleton.elim j 0]

/-- Every cell's invariant. -/
abbrev invs (κ : GSem nD τ sig → ℕ) : sProp 𝕄 := fam.cellInvs ER (Rd A) κ

theorem mem_rsS (j : Fin 7) : rsS j ∈ fam.dorm 0 := by revert j; show ∀ j, rsS j ∈ commSems; unfold commSems; decide
theorem mem_rsR (j : Fin 7) : rsR j ∈ fam.dorm 0 := by revert j; show ∀ j, rsR j ∈ commSems; unfold commSems; decide
theorem mem_agS (j : Fin 7) : agS j ∈ fam.dorm 0 := by revert j; show ∀ j, agS j ∈ commSems; unfold commSems; decide
theorem mem_agR (j : Fin 7) : agR j ∈ fam.dorm 0 := by revert j; show ∀ j, agR j ∈ commSems; unfold commSems; decide

theorem inv_bar (κ : GSem nD τ sig → ℕ) (c : Dev nD) : invs A κ ⊢ cellInv ER (Rd A) (κ (cell c barL)) (cell c barL) :=
  fam.cellInvs_bar ER (Rd A) κ c
theorem inv_comm (κ : GSem nD τ sig → ℕ) (c : Dev nD) {s : SemLoc sig} (h : s ∈ fam.dorm 0) :
    invs A κ ⊢ cellInv ER (Rd A) (κ (cell c s)) (cell c s) :=
  fam.cellInvs_dorm ER (Rd A) κ c h

/-! ## What a device owes -/

/-- The signal to device `peer c j`. -/
def barDue (c : Dev nD) (j : Fin 7) : Pay nD τ sig := (cell (peer c j) barL, 1, 1)
/-- The copy of the first exchange to device `peer c j`. -/
def rsDue (c : Dev nD) (j : Fin 7) : Pay nD τ sig := (cell (peer c j) (rsR j.rev), 2, N)
/-- The copy of the second exchange to device `peer c j`. -/
def agDue (c : Dev nD) (j : Fin 7) : Pay nD τ sig := (cell (peer c j) (agR j.rev), 3, N)

/-- Whether the chunk for device d is among the first four, those made by the first half of the work. -/
abbrev Low (d : Dev nD) : Prop := d.val < 4

/-- The copies of the first exchange started after the first half, and after the second. -/
def rsDue0 (c : Dev nD) (j : Fin 7) : List (Pay nD τ sig) := if Low (peer c j) then [rsDue c j] else []
@[inherit_doc rsDue0] def rsDue1 (c : Dev nD) (j : Fin 7) : List (Pay nD τ sig) := if Low (peer c j) then [] else [rsDue c j]

/-- What is owed once i of seven such payments are made, and l after them. -/
def from7 (f : Fin 7 → List (Pay nD τ sig)) : ℕ → List (Pay nD τ sig) → List (Pay nD τ sig)
  | n, l => (((List.finRange 7).drop n).flatMap f) ++ l

/-- The levels at which the protocol waits. -/
abbrev Lv : ℕ := 4

theorem mayWait_tallyL {i : ℕ} (hi : i < Lv) (c : Dev nD) (s : SemLoc sig) (l : List (Pay nD τ sig))
    (hl : ∀ x ∈ l, x.1.1.2 = .tc ∧ i < x.2.1 ∧ x.2.1 < Lv) :
    (levAts (SiteBlocks.L Lv) SiteBlocks.lv : sProp 𝕄) ⊢ MayWait (c : Thread nD τ) s i (tallyL l) :=
  SiteBlocks.mayWait_of hi c s _ fun g k h => by
    obtain ⟨x, hx, rfl, rfl⟩ := tallyL_pos h
    obtain ⟨h1, h2, h3⟩ := hl x hx
    exact ⟨SiteBlocks.mem_L' h1 h3, h2⟩

end Cert.KernelIdeal.Run
-- ==== Proof.Steps.lean ====
/-
  One step of the kernel at a time: a signal, the barrier wait, the start of a copy, the wait for one, each as a rule that
  turns what the device holds before it into what it holds after.
-/
module

public import proofs.«01_k».proof.Proof.Proto

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal.Gen

variable {F : FTy → Type} [FloatOps F]

local notation "𝕄" => MT nD τ sig ℕ (Elt F) ℕ UU ℕ

/-- The kernel's calls of other functions: none. -/
abbrev 𝒱₀ : Variants := Variants.none

/-- Running a piece of the kernel on device c. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device c still owes the payments l. -/
def ow (c : Dev nD) (l : List (Pay nD τ sig)) : sProp 𝕄 := iprop(∃ W, owes (c : Thread nD τ) (tallyL l) W)

variable (A : Data F) (κ : GSem nD τ sig → ℕ)

/-- The level facts. -/
abbrev lvs : sProp 𝕄 := levAts (SiteBlocks.L Lv) SiteBlocks.lv

theorem tallyL_cons (x : Pay nD τ sig) (l : List (Pay nD τ sig)) : tallyL (x :: l) = tallyL l + tallyAt x.1 x.2.1 x.2.2 := by
  rw [tallyL, add_comm]

/-! ## Loads and stores -/

section Mem

variable {sp : CoreSpace} {s : Shape} {e : EltTy}

/-- A load from elements held. -/
theorem load_step (c : Dev nD) {α : Type} {m : Memref sig .tc sp s e} {r : Rect s} {hl : m.view.LoadsAt r.toLoadRect}
    {k : (r.shape.Idx → Elt F e) → Prog (TpuEff nD τ sig (Elt F) Λ₀ .tc) α} {Q : α → sProp 𝕄}
    {S : Finset (Idx ((m.access r).loc (c : Thread nD τ)))} {q : PosShare TreeShare} {f : Buf (Elt F) ((m.access r).loc (c : Thread nD τ))}
    (hS : (m.access r).set ⊆ S) :
    ((m.access r).loc (c : Thread nD τ) ↦[S]{q} f)
      ⊢ iprop((((m.access r).loc (c : Thread nD τ) ↦[S]{q} f) -∗ run c (k ((m.access r).read (Elt F) f)) Q)
        -∗ run c (Prog.lift (.load m r.toLoadRect hl) >>= k) Q) :=
  wp_load_rect (c := (c : Thread nD τ)) 𝒱₀ none Set.univ hS

/-- A store into elements held. -/
theorem store_step (c : Dev nD) {α : Type} {m : Memref sig .tc sp s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {Q : α → sProp 𝕄}
    {S : Finset (Idx ((m.access r).loc (c : Thread nD τ)))} {f : Buf (Elt F) ((m.access r).loc (c : Thread nD τ))}
    (hS : (m.access r).set ⊆ S) :
    ((m.access r).loc (c : Thread nD τ) ↦[S]{fullShare} f)
      ⊢ iprop((((m.access r).loc (c : Thread nD τ) ↦[S]{fullShare} ((m.access r).write (Elt F) f w Finset.univ)) -∗ run c (k ⟨⟩) Q)
        -∗ run c (Prog.lift (.store m r w Finset.univ hx hm) >>= k) Q) :=
  wp_store (c := (c : Thread nD τ)) 𝒱₀ none Set.univ hS

end Mem

/-! ## The barrier -/

/-- What device c's signal to `peer c i` hands over, and its right to send it. -/
def sigIn (c : Dev nD) (i : Fin 7) : sProp 𝕄 :=
  iprop((∃ f, ps c i f) ∗ (∃ f, pc oM c (peer c i) fullShare f) ∗ reached ER (cell c (rsR i)) 0 ∗ reached ER (cell c (agR i)) 0
    ∗ dutyTok ER (cell (peer c i) barL) 0 i.rev ∗ reached ER (cell (peer c i) barL) 0)

theorem barPay_peer (c : Dev nD) (i : Fin 7) : (barPay (peer c i) i.rev : sProp 𝕄)
    = iprop((∃ f, ps c i f) ∗ (∃ f, pc oM c (peer c i) fullShare f) ∗ reached ER (cell c (rsR i)) 0 ∗ reached ER (cell c (agR i)) 0) := by
  unfold barPay; rw [peer_peer, rev_rev]

/-- The signal to `peer c i`. -/
theorem sig_step (c : Dev nD) (i : Fin 7) (l : List (Pay nD τ sig)) {d : Dev nD} (hd : d = peer c i) {sm : Sem sig} (hs : sm = 0)
    {α : Type} {k : PUnit → Prog (TpuEff nD τ sig (Elt F) Λ₀ .tc) α} {Q : α → sProp 𝕄} :
    iprop(invs A κ ∗ sigIn c i ∗ ow c (barDue c i :: l))
      ⊢ iprop((ow c l -∗ run c (k ⟨⟩) Q) -∗ run c (semSignalWord d sm 1#32 >>= k) Q) := by
  subst hd hs
  unfold sigIn ow
  iintro ⟨#HI, ⟨Hr, Ho, #Hr1, #Hr2, Ht, #Hrb⟩, ⟨%W, HO⟩⟩ Hk
  ihave #HIb := (inv_bar A κ (peer c i)) $$ HI
  iapply (Rounds.wp_signal 𝒱₀ ER (Rd A) (c : Thread nD τ) none (dst := (peer c i : Thread nD τ)) (sem := (0 : Sem sig)) (r := 0) (d := i.rev)
      (k' := 1) (κ := κ (cell (peer c i) barL)) (by rw [duties_at]; exact Finset.mem_univ _) (amount_at A _ _ _) 1 (tallyL l) (tallyL_cons (barDue c i) l))
    $$ [HO Ht Hr Ho]
  · isplitr; · iexact HIb
    isplitl [HO]; · iexact HO
    isplitl [Ht]; · iexact Ht
    isplitl [Hr Ho]
    · rw [payload_at, use_bar, show payOf A (peer c i) .bar i.rev = barPay (peer c i) i.rev from rfl, barPay_peer]
      isplitl [Hr]; · iexact Hr
      isplitl [Ho]; · iexact Ho
      isplitr; · iexact Hr1
      iexact Hr2
    · iexact Hrb
  iintro HO
  iapply Hk
  iexists W; iexact HO

/-- The barrier wait: all seven others' payments, and the cell closed at zero. -/
theorem bar_step (c : Dev nD) (l : List (Pay nD τ sig)) (hl : ∀ x ∈ l, x.1.1.2 = .tc ∧ 1 < x.2.1 ∧ x.2.1 < Lv) {sm : Sem sig} (hs : sm = 0)
    {α : Type} {k : PUnit → Prog (TpuEff nD τ sig (Elt F) Λ₀ .tc) α} {Q : α → sProp 𝕄} :
    iprop(invs A κ ∗ lvs ∗ cred (tallyAt (cell c barL) 1 7) ∗ atPos ER (cell c barL) 0 ∅ 0 ∗ ow c l)
      ⊢ iprop(((bigSep Finset.univ (barPay c) ∗ semVal (cell c barL) 0 ∗ ow c l) -∗ run c (k ⟨⟩) Q) -∗ run c (semWaitWord sm 7#32 >>= k) Q) := by
  subst hs
  unfold ow
  iintro ⟨#HI, #Hlev, Hc, Hat, ⟨%W, HO⟩⟩ Hk
  ihave #HIb := (inv_bar A κ c) $$ HI
  iapply (Rounds.wp_wait_rest_token 𝒱₀ ER (Rd A) (c : Thread nD τ) none (κ := κ (cell c barL)) (k := k)
      (wpE_semWait_eq 𝒱₀ (c : Thread nD τ) none Set.univ) (Set.mem_univ _) 1 (O := tallyL l) (W := W) (R := 0) (m := 0) (T := ∅)
      ((Nat.zero_add 7).trans (expect_bar A c).symm)) $$ [Hc HO Hat]
  · isplitr; · iexact HIb
    isplitl [Hc]; · iexact Hc
    isplitl [HO]; · iexact HO
    isplitr; · iapply (mayWait_tallyL (by decide) c barL l hl); iexact Hlev
    iexact Hat
  iintro ⟨HO, Hat, -, Hpay⟩
  imod (Rounds.cell_close ER (Rd A) (Set.mem_univ (κ (cell c barL))) id (duties_later A (cell c barL))) $$ [Hat] with Hz
  · isplitr; · iexact HIb
    iexact Hat
  iapply Hk
  isplitl [Hpay]; · rw [← rest_bar A c]; iexact Hpay
  isplitl [Hz]; · iexact Hz
  iexists _; iexact HO

/-! ## Copies -/

/-- A copy's start. -/
theorem send_core (c d : Dev nD) {sS sR : SemLoc sig} (hS : sS ∈ fam.dorm 0) (hS' : Comm sS) (hR : sR ∈ fam.dorm 0) (hR' : Comm sR)
    (i : ℕ) (l : List (Pay nD τ sig)) {src dst : Memref sig .tc .vmem S128x768 .bf16} {s1 s2 : DmaSem sig} (h1 : SemLoc.dma s1 = sS) (h2 : SemLoc.dma s2 = sR)
    {q : PosShare TreeShare} {fs : Buf (Elt F) (src.view.loc (c : Thread nD τ))} {fd : Buf (Elt F) (dst.view.loc (d : Thread nD τ))}
    (hN : dst.view.dmaCredit = N)
    (hp1 : (src.view.loc (c : Thread nD τ) ↦[src.view.set]{q} fs : sProp 𝕄) ⊢ payOf A c (useOf sS) 0)
    (hp2 : (dst.view.loc (d : Thread nD τ) ↦[dst.view.set]{fullShare} dst.view.write (Elt F) fd (src.view.read (Elt F) fs) Finset.univ : sProp 𝕄)
      ⊢ payOf A d (useOf sR) 0)
    {hsc} {hsrc : src.view.WordExact} {hdst : dst.view.WordExact} {hsem : DmaTarget.Typed .vmem (.dma s2) (.remote (Dev.tc d) dst (.dma s1) hsc)}
    {α : Type} {k : PUnit → Prog (TpuEff nD τ sig (Elt F) Λ₀ .tc) α} {Q : α → sProp 𝕄} :
    iprop(invs A κ ∗ (src.view.loc (c : Thread nD τ) ↦[src.view.set]{q} fs) ∗ (dst.view.loc (d : Thread nD τ) ↦[dst.view.set]{fullShare} fd)
        ∗ ow c ((cell d sR, i, N) :: l) ∗ dutyTok ER (cell c sS) 0 0 ∗ reached ER (cell c sS) 0 ∗ dutyTok ER (cell d sR) 0 0 ∗ reached ER (cell d sR) 0)
      ⊢ iprop(((cred (tallyAt (cell c sS) 0 N) ∗ ow c l) -∗ run c (k ⟨⟩) Q)
        -∗ run c (Prog.lift (.enqueueDma src (.remote (Dev.tc d) dst (.dma s1) hsc) (.dma s2) hsrc hdst hsem) >>= k) Q) := by
  subst h1 h2
  unfold ow
  iintro ⟨#HI, Hs, Hd, ⟨%W, HO⟩, Ht1, #Hr1, Ht2, #Hr2⟩ Hk
  ihave #HI1 := (inv_comm A κ c hS) $$ HI
  ihave #HI2 := (inv_comm A κ d hR) $$ HI
  iapply (Rounds.wp_send_pointsTo 𝒱₀ ER (Rd A) (c : Thread nD τ) none (c' := (d : Thread nD τ)) (src := src) (dst := dst)
      (sS := .dma s1) (sem := .dma s2) (q := q) (fs := fs) (κ₁ := κ (cell c (.dma s1))) (κ₂ := κ (cell d (.dma s2)))
      (r₁ := 0) (r₂ := 0) (d₁ := 0) (d₂ := 0) (fd := fd) (k := k) (hsc := hsc) (hsrc := hsrc) (hdst := hdst) (hsem := hsem)
      (mem_duties A hS') (mem_duties A hR') i 0 N hN hS'.2 hR'.2 (tallyL l) (tallyL_cons (cell d (.dma s2), i, N) l) (W := W) hp1 hp2) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- A wait for a copy, sent or received: what its payment hands over, and the cell closed at zero. -/
theorem wait_step (c : Dev nD) {s : SemLoc sig} (hm : s ∈ fam.dorm 0) (hs : Comm s) (i : ℕ) (hi : i < Lv) (l : List (Pay nD τ sig))
    (hl : ∀ x ∈ l, x.1.1.2 = .tc ∧ i < x.2.1 ∧ x.2.1 < Lv) {s1 : DmaSem sig} (h1 : SemLoc.dma s1 = s)
    {src dst : Memref sig .tc .vmem S128x768 .bf16} (hN : dst.view.dmaCredit = N) {hsrc : src.view.WordExact} {hdst : dst.view.WordExact}
    {α : Type} {k : PUnit → Prog (TpuEff nD τ sig (Elt F) Λ₀ .tc) α} {Q : α → sProp 𝕄} :
    iprop(invs A κ ∗ lvs ∗ cred (tallyAt (cell c s) i N) ∗ atPos ER (cell c s) 0 ∅ 0 ∗ ow c l)
      ⊢ iprop(((payOf A c (useOf s) 0 ∗ semVal (cell c s) 0 ∗ ow c l) -∗ run c (k ⟨⟩) Q)
        -∗ run c (Prog.lift (.waitDma2 s1 src dst hsrc hdst) >>= k) Q) := by
  subst h1
  unfold ow
  iintro ⟨#HI, #Hlev, Hc, Hat, ⟨%W, HO⟩⟩ Hk
  ihave #HIb := (inv_comm A κ c hm) $$ HI
  iapply (Rounds.wp_wait_rest_token 𝒱₀ ER (Rd A) (c : Thread nD τ) none (κ := κ (cell c (.dma s1))) (k := k) (k' := dst.view.dmaCredit)
      (wpE_waitDma2_eq (src := src) (dst := dst) (hsrc := hsrc) (hdst := hdst) 𝒱₀ (c : Thread nD τ) none Set.univ) (Set.mem_univ _) i (O := tallyL l) (W := W) (R := 0) (m := 0) (T := ∅)
      ((Nat.zero_add _).trans (hN.trans (expect_comm A hs).symm))) $$ [Hc HO Hat]
  · isplitr; · iexact HIb
    isplitl [Hc]; · rw [hN]; iexact Hc
    isplitl [HO]; · iexact HO
    isplitr; · iapply (mayWait_tallyL hi c (.dma s1) l hl); iexact Hlev
    iexact Hat
  iintro ⟨HO, Hat, -, Hpay⟩
  imod (Rounds.cell_close ER (Rd A) (Set.mem_univ (κ (cell c (.dma s1)))) id (duties_later A (cell c (.dma s1)))) $$ [Hat] with Hz
  · isplitr; · iexact HIb
    iexact Hat
  iapply Hk
  isplitl [Hpay]; · rw [← rest_comm A hs]; iexact Hpay
  isplitl [Hz]; · iexact Hz
  iexists _; iexact HO

/-! ## What a copy lands -/

/-- Elements rewritten through a view hold g, if g is there what was written. -/
theorem landed {s : Shape} {e : EltTy} {sp : Space} (c : Dev nD) (v : View sig .tc sp s e) (q : PosShare TreeShare) (fd g : Buf (Elt F) (v.loc (c : Thread nD τ))) (w : s.Idx → Elt F e)
    (h : ∀ x, v.read (Elt F) g x = w x) :
    (v.loc (c : Thread nD τ) ↦[v.set]{q} v.write (Elt F) fd w Finset.univ : sProp 𝕄) = (v.loc (c : Thread nD τ) ↦[v.set]{q} g) :=
  pointsTo_congr fun i hi => by
    obtain ⟨x, -, rfl⟩ := Finset.mem_map.mp hi
    rw [View.write_emb_of_mem _ _ (Finset.mem_univ _), ← h x]
    unfold View.read
    rw [cast_cast]; rfl

/-- An index of a 128-row piece, as its two coordinates. -/
theorem slot_row (j : Fin 7) (x : S128x768.Idx) : slotOf ((slot j).view.emb x) = j := by
  have h : (((slot j).view.emb x) 0 : Fin 896).val = 128 * j.val + (x 0 : Fin 128).val := ValueKit.rect_emb_unit_val (s := S896x768) (rowOff j.val) S128x768.size (inb7 j) x 0
  have hx : (x 0 : Fin 128).val < 128 := (x 0).isLt
  refine Fin.ext ?_
  show (((slot j).view.emb x) 0 : Fin 896).val / 128 = j.val
  rw [h]; omega

theorem src_row (d : Dev nD) (j : Fin 7) (x : S128x768.Idx) : srcRow d ((slot j).view.emb x) = (chunk sM d).view.emb x := by
  have h : (((slot j).view.emb x) 0 : Fin 896).val = 128 * j.val + (x 0 : Fin 128).val := ValueKit.rect_emb_unit_val (s := S896x768) (rowOff j.val) S128x768.size (inb7 j) x 0
  have h1 : (((slot j).view.emb x) 1 : Fin 768).val = 0 + (x 1 : Fin 768).val := ValueKit.rect_emb_unit_val (s := S896x768) (rowOff j.val) S128x768.size (inb7 j) x 1
  have k : (((chunk sM d).view.emb x) 0 : Fin 1024).val = 128 * d.val + (x 0 : Fin 128).val := ValueKit.rect_emb_unit_val (s := S1024x768) (rowOff d.val) S128x768.size (inb8 d) x 0
  have k1 : (((chunk sM d).view.emb x) 1 : Fin 768).val = 0 + (x 1 : Fin 768).val := ValueKit.rect_emb_unit_val (s := S1024x768) (rowOff d.val) S128x768.size (inb8 d) x 1
  have hx : (x 0 : Fin 128).val < 128 := (x 0).isLt
  refine funext fun a => ?_
  fin_cases a <;> refine Fin.ext ?_
  · refine Eq.trans ?_ k.symm
    show 128 * d.val + (((slot j).view.emb x) 0 : Fin 896).val % 128 = _
    rw [h]; omega
  · refine Eq.trans ?_ k1.symm
    exact h1

/-- What the copy from c lands in its slot at `peer c j`. -/
theorem rs_landed (c : Dev nD) (j : Fin 7) (fd : Buf (Elt F) ((slot j.rev).view.loc (peer c j : Thread nD τ))) :
    ((slot j.rev).view.loc (peer c j : Thread nD τ) ↦[(slot j.rev).view.set]{fullShare}
        (slot j.rev).view.write (Elt F) fd ((chunk sM (peer c j)).view.read (Elt F) (A.S c)) Finset.univ : sProp 𝕄)
      ⊢ payOf A (peer c j) (useOf (rsR j.rev)) 0 := by
  rw [use_rsR]
  refine Entails.of_eq (landed (peer c j) (slot j.rev).view fullShare fd (rcv A (peer c j)) _ fun x => ?_)
  show rcv A (peer c j) ((slot j.rev).view.emb x) = A.S c ((chunk sM (peer c j)).view.emb x)
  unfold rcv
  rw [slot_row, src_row, peer_peer]

/-- What the copy from c lands in chunk c of the result at `peer c j`. -/
theorem ag_landed (c : Dev nD) (j : Fin 7) (fd : Buf (Elt F) ((chunk oM c).view.loc (peer c j : Thread nD τ))) :
    ((chunk oM c).view.loc (peer c j : Thread nD τ) ↦[(chunk oM c).view.set]{fullShare}
        (chunk oM c).view.write (Elt F) fd ((chunk sM c).view.read (Elt F) A.T) Finset.univ : sProp 𝕄)
      ⊢ payOf A (peer c j) (useOf (agR j.rev)) 0 := by
  rw [use_agR]
  show _ ⊢ pc oM (peer c j) (peer (peer c j) j.rev) fullShare A.T
  rw [peer_peer]
  exact Entails.of_eq (landed (peer c j) (chunk oM c).view fullShare fd A.T _ fun x => rfl)

/-! ## The two exchanges -/

/-- What device c needs to start its copy j of the first exchange, but for the chunk itself. -/
def rsIn (c : Dev nD) (j : Fin 7) : sProp 𝕄 :=
  iprop((∃ f, ps (peer c j) j.rev f) ∗ reached ER (cell (peer c j) (rsR j.rev)) 0 ∗ dutyTok ER (cell c (rsS j)) 0 0 ∗ reached ER (cell c (rsS j)) 0
    ∗ dutyTok ER (cell (peer c j) (rsR j.rev)) 0 0)

/-- What device c needs to start its copy j of the second exchange. -/
def agIn (c : Dev nD) (j : Fin 7) : sProp 𝕄 :=
  iprop((∃ f, pc oM (peer c j) c fullShare f) ∗ reached ER (cell (peer c j) (agR j.rev)) 0 ∗ dutyTok ER (cell c (agS j)) 0 0 ∗ reached ER (cell c (agS j)) 0
    ∗ dutyTok ER (cell (peer c j) (agR j.rev)) 0 0)

theorem credit_eq (M : Memref sig .tc .vmem S1024x768 .bf16) (hM : M = sM ∨ M = oM) (t : Dev nD) : (chunk M t).view.dmaCredit = N := by
  rcases hM with rfl | rfl <;> rfl

theorem slot_credit (j : Fin 7) : (slot j).view.dmaCredit = N := rfl

/-- A copy of the first exchange, begun. -/
theorem rs_send (c : Dev nD) (j : Fin 7) (l : List (Pay nD τ sig)) {d : Dev nD} (hd : d = peer c j) {off : Fin 2 → ℕ} (ho : off = rowOff (peer c j).val)
    {inb : ∀ a, off a + S128x768.size a ≤ S1024x768.size a} {dst : Memref sig .tc .vmem S128x768 .bf16} (hq : dst = slot j.rev)
    {s1 s2 : DmaSem sig} (h1 : SemLoc.dma s1 = rsS j) (h2 : SemLoc.dma s2 = rsR j.rev)
    {hsc} {hsrc : (sM.slice (Rect.unit (s := S1024x768) off S128x768.size inb) (fun _ => rfl)).view.WordExact} {hdst : dst.view.WordExact}
    {hsem : DmaTarget.Typed .vmem (.dma s2) (.remote (Dev.tc d) dst (.dma s1) hsc)}
    {α : Type} {k : PUnit → Prog (TpuEff nD τ sig (Elt F) Λ₀ .tc) α} {Q : α → sProp 𝕄} :
    iprop(invs A κ ∗ rsIn c j ∗ pc sM c (peer c j) fullShare (A.S c) ∗ ow c (rsDue c j :: l))
      ⊢ iprop(((cred (tallyAt (cell c (rsS j)) 0 N) ∗ ow c l) -∗ run c (k ⟨⟩) Q)
        -∗ run c (Prog.lift (.enqueueDma (sM.slice (Rect.unit (s := S1024x768) off S128x768.size inb) (fun _ => rfl)) (.remote (Dev.tc d) dst (.dma s1) hsc) (.dma s2) hsrc hdst hsem) >>= k) Q) := by
  subst hd ho hq
  unfold rsIn
  iintro ⟨#HI, ⟨⟨%fd, Hd⟩, #Hr2, Ht1, #Hr1, Ht2⟩, Hs, HO⟩ Hk
  iapply (send_core A κ c (peer c j) (mem_rsS j) (comm_rsS j) (mem_rsR j.rev) (comm_rsR j.rev) 2 l (src := chunk sM (peer c j)) (dst := slot j.rev) h1 h2
    (q := fullShare) (fs := A.S c) (fd := fd) (slot_credit _) (Entails.of_eq (by rw [use_rsS]; rfl)) (rs_landed A c j fd)) $$ [Hd Ht1 Ht2 Hs HO]
  · isplitr; · iexact HI
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- A copy of the second exchange, begun. -/
theorem ag_send (c : Dev nD) (j : Fin 7) (l : List (Pay nD τ sig)) {d : Dev nD} (hd : d = peer c j) {off : Fin 2 → ℕ} (ho : off = rowOff c.val)
    {inb : ∀ a, off a + S128x768.size a ≤ S1024x768.size a} {s1 s2 : DmaSem sig} (h1 : SemLoc.dma s1 = agS j) (h2 : SemLoc.dma s2 = agR j.rev)
    {hsc} {hsrc : (sM.slice (Rect.unit (s := S1024x768) off S128x768.size inb) (fun _ => rfl)).view.WordExact}
    {hdst : (oM.slice (Rect.unit (s := S1024x768) off S128x768.size inb) (fun _ => rfl)).view.WordExact}
    {hsem : DmaTarget.Typed .vmem (.dma s2) (.remote (Dev.tc d) (oM.slice (Rect.unit (s := S1024x768) off S128x768.size inb) (fun _ => rfl)) (.dma s1) hsc)}
    {α : Type} {k : PUnit → Prog (TpuEff nD τ sig (Elt F) Λ₀ .tc) α} {Q : α → sProp 𝕄} :
    iprop(invs A κ ∗ agIn c j ∗ pc sM c c (shareOf j) A.T ∗ ow c (agDue c j :: l))
      ⊢ iprop(((cred (tallyAt (cell c (agS j)) 0 N) ∗ ow c l) -∗ run c (k ⟨⟩) Q)
        -∗ run c (Prog.lift (.enqueueDma (sM.slice (Rect.unit (s := S1024x768) off S128x768.size inb) (fun _ => rfl))
          (.remote (Dev.tc d) (oM.slice (Rect.unit (s := S1024x768) off S128x768.size inb) (fun _ => rfl)) (.dma s1) hsc) (.dma s2) hsrc hdst hsem) >>= k) Q) := by
  subst hd ho
  unfold agIn
  iintro ⟨#HI, ⟨⟨%fd, Hd⟩, #Hr2, Ht1, #Hr1, Ht2⟩, Hs, HO⟩ Hk
  iapply (send_core A κ c (peer c j) (mem_agS j) (comm_agS j) (mem_agR j.rev) (comm_agR j.rev) 3 l (src := chunk sM c) (dst := chunk oM c) h1 h2
    (q := shareOf j) (fs := A.T) (fd := fd) (credit_eq oM (.inr rfl) _) (Entails.of_eq (by rw [use_agS]; rfl)) (ag_landed A c j fd)) $$ [Hd Ht1 Ht2 Hs HO]
  · isplitr; · iexact HI
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- Copy j of the first exchange once the first half is made: begun, or not yet. -/
def mid (c : Dev nD) (j : Fin 7) : sProp 𝕄 := if Low (peer c j) then cred (tallyAt (cell c (rsS j)) 0 N) else rsIn c j
/-- The chunk for `peer c j`, if the first half made it; if the second did. -/
def chunk0 (c : Dev nD) (j : Fin 7) : sProp 𝕄 := if Low (peer c j) then pc sM c (peer c j) fullShare (A.S c) else iprop(emp)
@[inherit_doc chunk0] def chunk1 (c : Dev nD) (j : Fin 7) : sProp 𝕄 := if Low (peer c j) then iprop(emp) else pc sM c (peer c j) fullShare (A.S c)

/-- The conditional start of copy j after the first half. -/
theorem rs_start0 (c : Dev nD) (j : Fin 7) (l : List (Pay nD τ sig)) {C : Prop} [Decidable C] (hC : C ↔ Low (peer c j))
    {d : C → Dev nD} (hd : ∀ h, d h = peer c j) {off : Fin 2 → ℕ} (ho : C → off = rowOff (peer c j).val)
    {inb : ∀ _ : C, ∀ a, off a + S128x768.size a ≤ S1024x768.size a} {dst : Memref sig .tc .vmem S128x768 .bf16} (hq : dst = slot j.rev)
    {s1 s2 : DmaSem sig} (h1 : SemLoc.dma s1 = rsS j) (h2 : SemLoc.dma s2 = rsR j.rev)
    {hsc : C → dst.view.ref.isScScratch = false} {hsrc : ∀ h : C, (sM.slice (Rect.unit (s := S1024x768) off S128x768.size (inb h)) (fun _ => rfl)).view.WordExact} {hdst : C → dst.view.WordExact}
    {hsem : ∀ h : C, DmaTarget.Typed .vmem (.dma s2) (.remote (Dev.tc (d h)) dst (.dma s1) (hsc h))}
    {α : Type} {K : Prog (TpuEff nD τ sig (Elt F) Λ₀ .tc) α} {Q : α → sProp 𝕄} :
    iprop(invs A κ ∗ rsIn c j ∗ chunk0 A c j ∗ ow c (rsDue0 c j ++ l))
      ⊢ iprop(((mid c j ∗ ow c l) -∗ run c K Q)
        -∗ run c (dite C (fun h => Prog.lift (.enqueueDma (sM.slice (Rect.unit (s := S1024x768) off S128x768.size (inb h)) (fun _ => rfl))
          (.remote (Dev.tc (d h)) dst (.dma s1) (hsc h)) (.dma s2) (hsrc h) (hdst h) (hsem h)) >>= fun _ => K) (fun _ => K)) Q) := by
  by_cases h : C
  · have hL := hC.mp h
    unfold mid chunk0 rsDue0
    rw [dif_pos h, if_pos hL, if_pos hL, if_pos hL]
    exact rs_send A κ c j l (hd h) (ho h) hq h1 h2 (k := fun _ => K)
  · have hL := mt hC.mpr h
    unfold mid chunk0 rsDue0
    rw [dif_neg h, if_neg hL, if_neg hL, if_neg hL, List.nil_append]
    iintro ⟨-, H, -, HO⟩ Hk
    iapply Hk
    isplitl [H]; · iexact H
    iexact HO

/-- The conditional start of copy j after the second half. -/
theorem rs_start1 (c : Dev nD) (j : Fin 7) (l : List (Pay nD τ sig)) {C : Prop} [Decidable C] (hC : C ↔ ¬ Low (peer c j))
    {d : C → Dev nD} (hd : ∀ h, d h = peer c j) {off : Fin 2 → ℕ} (ho : C → off = rowOff (peer c j).val)
    {inb : ∀ _ : C, ∀ a, off a + S128x768.size a ≤ S1024x768.size a} {dst : Memref sig .tc .vmem S128x768 .bf16} (hq : dst = slot j.rev)
    {s1 s2 : DmaSem sig} (h1 : SemLoc.dma s1 = rsS j) (h2 : SemLoc.dma s2 = rsR j.rev)
    {hsc : C → dst.view.ref.isScScratch = false} {hsrc : ∀ h : C, (sM.slice (Rect.unit (s := S1024x768) off S128x768.size (inb h)) (fun _ => rfl)).view.WordExact} {hdst : C → dst.view.WordExact}
    {hsem : ∀ h : C, DmaTarget.Typed .vmem (.dma s2) (.remote (Dev.tc (d h)) dst (.dma s1) (hsc h))}
    {α : Type} {K : Prog (TpuEff nD τ sig (Elt F) Λ₀ .tc) α} {Q : α → sProp 𝕄} :
    iprop(invs A κ ∗ mid c j ∗ chunk1 A c j ∗ ow c (rsDue1 c j ++ l))
      ⊢ iprop(((cred (tallyAt (cell c (rsS j)) 0 N) ∗ ow c l) -∗ run c K Q)
        -∗ run c (dite C (fun h => Prog.lift (.enqueueDma (sM.slice (Rect.unit (s := S1024x768) off S128x768.size (inb h)) (fun _ => rfl))
          (.remote (Dev.tc (d h)) dst (.dma s1) (hsc h)) (.dma s2) (hsrc h) (hdst h) (hsem h)) >>= fun _ => K) (fun _ => K)) Q) := by
  by_cases h : C
  · have hL := hC.mp h
    unfold mid chunk1 rsDue1
    rw [dif_pos h, if_neg hL, if_neg hL, if_neg hL]
    exact rs_send A κ c j l (hd h) (ho h) hq h1 h2 (k := fun _ => K)
  · have hL := not_not.mp (mt hC.mpr h)
    unfold mid chunk1 rsDue1
    rw [dif_neg h, if_pos hL, if_pos hL, if_pos hL, List.nil_append]
    iintro ⟨-, H, -, HO⟩ Hk
    iapply Hk
    isplitl [H]; · iexact H
    iexact HO

end Cert.KernelIdeal.Run
-- ==== Proof.Places.lean ====
/-
  Where the kernel's index arithmetic lands: the device each signal and each copy is for, the chunk it copies, and under which
  condition, each read off for all eight devices.
-/
module

public import proofs.«01_k».proof.Proof.Steps

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal.Gen

theorem sig_dev1 : ∀ c : Dev nD, (⟨k0_dev1 c, k0_dev1_lt c⟩ : Dev nD) = peer c 0 := by decide +kernel
theorem sig_dev2 : ∀ c : Dev nD, (⟨k0_dev2 c, k0_dev2_lt c⟩ : Dev nD) = peer c 1 := by decide +kernel
theorem sig_dev3 : ∀ c : Dev nD, (⟨k0_dev3 c, k0_dev3_lt c⟩ : Dev nD) = peer c 2 := by decide +kernel
theorem sig_dev4 : ∀ c : Dev nD, (⟨k0_dev4 c, k0_dev4_lt c⟩ : Dev nD) = peer c 3 := by decide +kernel
theorem sig_dev5 : ∀ c : Dev nD, (⟨k0_dev5 c, k0_dev5_lt c⟩ : Dev nD) = peer c 4 := by decide +kernel
theorem sig_dev6 : ∀ c : Dev nD, (⟨k0_dev6 c, k0_dev6_lt c⟩ : Dev nD) = peer c 5 := by decide +kernel
theorem sig_dev7 : ∀ c : Dev nD, (⟨k0_dev7 c, k0_dev7_lt c⟩ : Dev nD) = peer c 6 := by decide +kernel

theorem rs_cond1 : ∀ c : Dev nD, k0_cond1 c = 1#1 ↔ Low (peer c 0) := by decide +kernel
theorem rs_dev1 : ∀ (c : Dev nD) (h : k0_cond1 c = 1#1), (⟨k0_dev8 c, k0_dev8_lt c h⟩ : Dev nD) = peer c 0 := by decide +kernel
theorem rs_off1 : ∀ c : Dev nD, k0_cond1 c = 1#1 → k0_off1 c = rowOff (peer c 0).val := by decide +kernel
theorem rs_cond2 : ∀ c : Dev nD, k0_cond2 c = 1#1 ↔ Low (peer c 1) := by decide +kernel
theorem rs_dev2 : ∀ (c : Dev nD) (h : k0_cond2 c = 1#1), (⟨k0_dev9 c, k0_dev9_lt c h⟩ : Dev nD) = peer c 1 := by decide +kernel
theorem rs_off2 : ∀ c : Dev nD, k0_cond2 c = 1#1 → k0_off2 c = rowOff (peer c 1).val := by decide +kernel
theorem rs_cond3 : ∀ c : Dev nD, k0_cond3 c = 1#1 ↔ Low (peer c 2) := by decide +kernel
theorem rs_dev3 : ∀ (c : Dev nD) (h : k0_cond3 c = 1#1), (⟨k0_dev10 c, k0_dev10_lt c h⟩ : Dev nD) = peer c 2 := by decide +kernel
theorem rs_off3 : ∀ c : Dev nD, k0_cond3 c = 1#1 → k0_off3 c = rowOff (peer c 2).val := by decide +kernel
theorem rs_cond4 : ∀ c : Dev nD, k0_cond4 c = 1#1 ↔ Low (peer c 3) := by decide +kernel
theorem rs_dev4 : ∀ (c : Dev nD) (h : k0_cond4 c = 1#1), (⟨k0_dev11 c, k0_dev11_lt c h⟩ : Dev nD) = peer c 3 := by decide +kernel
theorem rs_off4 : ∀ c : Dev nD, k0_cond4 c = 1#1 → k0_off4 c = rowOff (peer c 3).val := by decide +kernel
theorem rs_cond5 : ∀ c : Dev nD, k0_cond5 c = 1#1 ↔ Low (peer c 4) := by decide +kernel
theorem rs_dev5 : ∀ (c : Dev nD) (h : k0_cond5 c = 1#1), (⟨k0_dev12 c, k0_dev12_lt c h⟩ : Dev nD) = peer c 4 := by decide +kernel
theorem rs_off5 : ∀ c : Dev nD, k0_cond5 c = 1#1 → k0_off5 c = rowOff (peer c 4).val := by decide +kernel
theorem rs_cond6 : ∀ c : Dev nD, k0_cond6 c = 1#1 ↔ Low (peer c 5) := by decide +kernel
theorem rs_dev6 : ∀ (c : Dev nD) (h : k0_cond6 c = 1#1), (⟨k0_dev13 c, k0_dev13_lt c h⟩ : Dev nD) = peer c 5 := by decide +kernel
theorem rs_off6 : ∀ c : Dev nD, k0_cond6 c = 1#1 → k0_off6 c = rowOff (peer c 5).val := by decide +kernel
theorem rs_cond7 : ∀ c : Dev nD, k0_cond7 c = 1#1 ↔ Low (peer c 6) := by decide +kernel
theorem rs_dev7 : ∀ (c : Dev nD) (h : k0_cond7 c = 1#1), (⟨k0_dev14 c, k0_dev14_lt c h⟩ : Dev nD) = peer c 6 := by decide +kernel
theorem rs_off7 : ∀ c : Dev nD, k0_cond7 c = 1#1 → k0_off7 c = rowOff (peer c 6).val := by decide +kernel
theorem rs_cond8 : ∀ c : Dev nD, k0_cond8 c = 1#1 ↔ ¬ Low (peer c 0) := by decide +kernel
theorem rs_dev8 : ∀ (c : Dev nD) (h : k0_cond8 c = 1#1), (⟨k0_dev15 c, k0_dev15_lt c h⟩ : Dev nD) = peer c 0 := by decide +kernel
theorem rs_off8 : ∀ c : Dev nD, k0_cond8 c = 1#1 → k0_off8 c = rowOff (peer c 0).val := by decide +kernel
theorem rs_cond9 : ∀ c : Dev nD, k0_cond9 c = 1#1 ↔ ¬ Low (peer c 1) := by decide +kernel
theorem rs_dev9 : ∀ (c : Dev nD) (h : k0_cond9 c = 1#1), (⟨k0_dev16 c, k0_dev16_lt c h⟩ : Dev nD) = peer c 1 := by decide +kernel
theorem rs_off9 : ∀ c : Dev nD, k0_cond9 c = 1#1 → k0_off9 c = rowOff (peer c 1).val := by decide +kernel
theorem rs_cond10 : ∀ c : Dev nD, k0_cond10 c = 1#1 ↔ ¬ Low (peer c 2) := by decide +kernel
theorem rs_dev10 : ∀ (c : Dev nD) (h : k0_cond10 c = 1#1), (⟨k0_dev17 c, k0_dev17_lt c h⟩ : Dev nD) = peer c 2 := by decide +kernel
theorem rs_off10 : ∀ c : Dev nD, k0_cond10 c = 1#1 → k0_off10 c = rowOff (peer c 2).val := by decide +kernel
theorem rs_cond11 : ∀ c : Dev nD, k0_cond11 c = 1#1 ↔ ¬ Low (peer c 3) := by decide +kernel
theorem rs_dev11 : ∀ (c : Dev nD) (h : k0_cond11 c = 1#1), (⟨k0_dev18 c, k0_dev18_lt c h⟩ : Dev nD) = peer c 3 := by decide +kernel
theorem rs_off11 : ∀ c : Dev nD, k0_cond11 c = 1#1 → k0_off11 c = rowOff (peer c 3).val := by decide +kernel
theorem rs_cond12 : ∀ c : Dev nD, k0_cond12 c = 1#1 ↔ ¬ Low (peer c 4) := by decide +kernel
theorem rs_dev12 : ∀ (c : Dev nD) (h : k0_cond12 c = 1#1), (⟨k0_dev19 c, k0_dev19_lt c h⟩ : Dev nD) = peer c 4 := by decide +kernel
theorem rs_off12 : ∀ c : Dev nD, k0_cond12 c = 1#1 → k0_off12 c = rowOff (peer c 4).val := by decide +kernel
theorem rs_cond13 : ∀ c : Dev nD, k0_cond13 c = 1#1 ↔ ¬ Low (peer c 5) := by decide +kernel
theorem rs_dev13 : ∀ (c : Dev nD) (h : k0_cond13 c = 1#1), (⟨k0_dev20 c, k0_dev20_lt c h⟩ : Dev nD) = peer c 5 := by decide +kernel
theorem rs_off13 : ∀ c : Dev nD, k0_cond13 c = 1#1 → k0_off13 c = rowOff (peer c 5).val := by decide +kernel
theorem rs_cond14 : ∀ c : Dev nD, k0_cond14 c = 1#1 ↔ ¬ Low (peer c 6) := by decide +kernel
theorem rs_dev14 : ∀ (c : Dev nD) (h : k0_cond14 c = 1#1), (⟨k0_dev21 c, k0_dev21_lt c h⟩ : Dev nD) = peer c 6 := by decide +kernel
theorem rs_off14 : ∀ c : Dev nD, k0_cond14 c = 1#1 → k0_off14 c = rowOff (peer c 6).val := by decide +kernel

theorem ag_dev0 : ∀ c : Dev nD, (⟨k0_dev22 c, k0_dev22_lt c⟩ : Dev nD) = peer c 0 := by decide +kernel
theorem ag_dev1 : ∀ c : Dev nD, (⟨k0_dev23 c, k0_dev23_lt c⟩ : Dev nD) = peer c 1 := by decide +kernel
theorem ag_dev2 : ∀ c : Dev nD, (⟨k0_dev24 c, k0_dev24_lt c⟩ : Dev nD) = peer c 2 := by decide +kernel
theorem ag_dev3 : ∀ c : Dev nD, (⟨k0_dev25 c, k0_dev25_lt c⟩ : Dev nD) = peer c 3 := by decide +kernel
theorem ag_dev4 : ∀ c : Dev nD, (⟨k0_dev26 c, k0_dev26_lt c⟩ : Dev nD) = peer c 4 := by decide +kernel
theorem ag_dev5 : ∀ c : Dev nD, (⟨k0_dev27 c, k0_dev27_lt c⟩ : Dev nD) = peer c 5 := by decide +kernel
theorem ag_dev6 : ∀ c : Dev nD, (⟨k0_dev28 c, k0_dev28_lt c⟩ : Dev nD) = peer c 6 := by decide +kernel

theorem off15_eq : ∀ c : Dev nD, k0_off15 c = rowOff c.val := by decide +kernel
theorem off17_eq : ∀ c : Dev nD, k0_off17 c = rowOff c.val := by decide +kernel

end Cert.KernelIdeal.Run
-- ==== Proof.Heads.lean ====
/-
  What the kernel computes on a device, and its pieces up to the end of the first half's heads.

  A device's staged inputs are its two rows of x, its block of the query weights (scaled), its eight heads of keys and values, its
  block of the output weights. From them it makes two 512-row halves of a partial result; each half is a chain of the kernel's own
  intermediate values.
-/
module

public import proofs.«01_k».proof.Proof.Places

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal.Gen

variable {F : FTy → Type} [FloatOps F]

local notation "𝕄" => MT nD τ sig ℕ (Elt F) ℕ UU ℕ

section
variable (F)

/-! The kernel's pieces at its own buffers. -/
abbrev P1 := k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P2 := k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P3 := k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P4 := k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P5 := k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P6 := k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P7 := k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P8 := k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P9 := k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P10 := k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P11 := k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P12 := k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P13 := k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P14 := k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P15 := k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P16 := k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P17 := k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P18 := k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P19 := k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P20 := k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P21 := k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P22 := k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P23 := k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P24 := k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P25 := k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P26 := k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P27 := k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P28 := k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5

end

/-- What a device's input windows hold. -/
structure Staged (F : FTy → Type) where
  x : S2x512x768.Idx → Elt F .bf16
  wq : S768x512.Idx → Elt F .bf16
  k : S2x512x8x64.Idx → Elt F .bf16
  v : S2x512x8x64.Idx → Elt F .bf16
  wo : S512x768.Idx → Elt F .bf16

/-- The windows hold w. -/
def inp (c : Dev nD) (w : Staged F) : sProp 𝕄 :=
  iprop((((c : Thread nD τ).loc cc0_stg0_0) ↦{fullShare} w.x) ∗ (((c : Thread nD τ).loc cc0_stg1_0) ↦{fullShare} w.wq) ∗ (((c : Thread nD τ).loc cc0_stg2_0) ↦{fullShare} w.k)
    ∗ (((c : Thread nD τ).loc cc0_stg3_0) ↦{fullShare} w.v) ∗ (((c : Thread nD τ).loc cc0_stg4_0) ↦{fullShare} w.wo))

/-! ## The values -/

section Values

variable (w : Staged F)

/-- One batch row of x, read. -/
abbrev ldX (off : Fin 3 → ℕ) (inb : ∀ a, off a + S1x512x768.size a ≤ S2x512x768.size a) : Vec F S1x512x768 .bf16 :=
  ((Memref.whole cc0_stg0_0).access (Rect.unit (s := S2x512x768) off S1x512x768.size inb)).read (Elt F) w.x
/-- The query weights, read. -/
abbrev ldQ : Vec F S768x512 .bf16 := ((Memref.whole cc0_stg1_0).access (Rect.unit (s := S768x512) ![0, 0] S768x512.size inb_S768x512_S768x512_0_0)).read (Elt F) w.wq
/-- One head's keys, read. -/
abbrev ldK (off : Fin 4 → ℕ) (inb : ∀ a, off a + S1x512x1x64.size a ≤ S2x512x8x64.size a) : Vec F S1x512x1x64 .bf16 :=
  ((Memref.whole cc0_stg2_0).access (Rect.unit (s := S2x512x8x64) off S1x512x1x64.size inb)).read (Elt F) w.k
/-- One head's values, read. -/
abbrev ldV (off : Fin 4 → ℕ) (inb : ∀ a, off a + S1x512x1x64.size a ≤ S2x512x8x64.size a) : Vec F S1x512x1x64 .bf16 :=
  ((Memref.whole cc0_stg3_0).access (Rect.unit (s := S2x512x8x64) off S1x512x1x64.size inb)).read (Elt F) w.v
/-- The output weights, read. -/
abbrev ldO : Vec F S512x768 .bf16 := ((Memref.whole cc0_stg4_0).access (Rect.unit (s := S512x768) ![0, 0] S512x768.size inb_S512x768_S512x768_0_0)).read (Elt F) w.wo

/-- The attention mask. -/
def mask : IVec S512x512 1 := k0_pay2 (iota .tc S512x512 32 [0] iota_S512x512_d0_w32) 64#32 k0_pay1 0#32

abbrev v231 : FVec F S768x512 .bf16 := k0_pay3 (ldQ w)
abbrev v233 : FVec F S512x768 .bf16 := k0_pay4 (ldO w)
abbrev v236 : FVec F S512x512 .f32 := k0_pay5 (ldQ w) (ldX w ![0, 0, 0] inb_S2x512x768_S1x512x768_0_0_0)
abbrev v252 : FVec F S512x64 .f32 := k0_pay8 (k0_pay6 (ldV w ![0, 0, 0, 0] inb_S2x512x8x64_S1x512x1x64_0_0_0_0)) (k0_pay7 mask (ldQ w) (ldX w ![0, 0, 0] inb_S2x512x768_S1x512x768_0_0_0) (ldK w ![0, 0, 0, 0] inb_S2x512x8x64_S1x512x1x64_0_0_0_0))
abbrev v268 : FVec F S512x64 .f32 := k0_pay9 mask (v236 w) (ldK w ![0, 0, 1, 0] inb_S2x512x8x64_S1x512x1x64_0_0_1_0) (ldV w ![0, 0, 1, 0] inb_S2x512x8x64_S1x512x1x64_0_0_1_0)
abbrev v284 : FVec F S512x64 .f32 := k0_pay10 mask (v236 w) (ldK w ![0, 0, 2, 0] inb_S2x512x8x64_S1x512x1x64_0_0_2_0) (ldV w ![0, 0, 2, 0] inb_S2x512x8x64_S1x512x1x64_0_0_2_0)
abbrev v300 : FVec F S512x64 .f32 := k0_pay12 mask (k0_pay11 (v236 w)) (ldK w ![0, 0, 3, 0] inb_S2x512x8x64_S1x512x1x64_0_0_3_0) (ldV w ![0, 0, 3, 0] inb_S2x512x8x64_S1x512x1x64_0_0_3_0)
abbrev v316 : FVec F S512x64 .f32 := k0_pay13 mask (v236 w) (ldK w ![0, 0, 4, 0] inb_S2x512x8x64_S1x512x1x64_0_0_4_0) (ldV w ![0, 0, 4, 0] inb_S2x512x8x64_S1x512x1x64_0_0_4_0)
abbrev v332 : FVec F S512x64 .f32 := k0_pay15 mask (k0_pay14 (v236 w)) (ldK w ![0, 0, 5, 0] inb_S2x512x8x64_S1x512x1x64_0_0_5_0) (ldV w ![0, 0, 5, 0] inb_S2x512x8x64_S1x512x1x64_0_0_5_0)
abbrev v348 : FVec F S512x64 .f32 := k0_pay16 mask (v236 w) (ldK w ![0, 0, 6, 0] inb_S2x512x8x64_S1x512x1x64_0_0_6_0) (ldV w ![0, 0, 6, 0] inb_S2x512x8x64_S1x512x1x64_0_0_6_0)
/-- The partial result of batch row 0. -/
abbrev half0 : FVec F S512x768 .bf16 := k0_pay19 mask (v233 w) (v252 w) (v268 w) (v284 w) (v300 w) (v316 w) (v332 w) (v348 w) (k0_pay17 (v236 w)) (k0_pay18 (ldK w ![0, 0, 7, 0] inb_S2x512x8x64_S1x512x1x64_0_0_7_0)) (ldV w ![0, 0, 7, 0] inb_S2x512x8x64_S1x512x1x64_0_0_7_0)
abbrev v409 : FVec F S512x512 .f32 := k0_pay20 (v231 w) (ldX w ![1, 0, 0] inb_S2x512x768_S1x512x768_1_0_0)
abbrev v425 : FVec F S512x64 .f32 := k0_pay22 mask (k0_pay21 (v231 w) (ldX w ![1, 0, 0] inb_S2x512x768_S1x512x768_1_0_0)) (ldK w ![1, 0, 0, 0] inb_S2x512x8x64_S1x512x1x64_1_0_0_0) (ldV w ![1, 0, 0, 0] inb_S2x512x8x64_S1x512x1x64_1_0_0_0)
abbrev v441 : FVec F S512x64 .f32 := k0_pay23 mask (v409 w) (ldK w ![1, 0, 1, 0] inb_S2x512x8x64_S1x512x1x64_1_0_1_0) (ldV w ![1, 0, 1, 0] inb_S2x512x8x64_S1x512x1x64_1_0_1_0)
abbrev v457 : FVec F S512x64 .f32 := k0_pay25 mask (k0_pay24 (v409 w)) (ldK w ![1, 0, 2, 0] inb_S2x512x8x64_S1x512x1x64_1_0_2_0) (ldV w ![1, 0, 2, 0] inb_S2x512x8x64_S1x512x1x64_1_0_2_0)
abbrev v473 : FVec F S512x64 .f32 := k0_pay26 mask (v409 w) (ldK w ![1, 0, 3, 0] inb_S2x512x8x64_S1x512x1x64_1_0_3_0) (ldV w ![1, 0, 3, 0] inb_S2x512x8x64_S1x512x1x64_1_0_3_0)
abbrev v489 : FVec F S512x64 .f32 := k0_pay29 mask (k0_pay27 (v409 w)) (k0_pay28 (ldK w ![1, 0, 4, 0] inb_S2x512x8x64_S1x512x1x64_1_0_4_0)) (ldV w ![1, 0, 4, 0] inb_S2x512x8x64_S1x512x1x64_1_0_4_0)
abbrev v505 : FVec F S512x64 .f32 := k0_pay30 mask (v409 w) (ldK w ![1, 0, 5, 0] inb_S2x512x8x64_S1x512x1x64_1_0_5_0) (ldV w ![1, 0, 5, 0] inb_S2x512x8x64_S1x512x1x64_1_0_5_0)
/-- The partial result of batch row 1. -/
abbrev half1 : FVec F S512x768 .bf16 := k0_pay34 mask (v233 w) (v409 w) (v425 w) (v441 w) (v457 w) (v473 w) (v489 w) (v505 w) (k0_pay31 (v409 w)) (k0_pay32 (ldK w ![1, 0, 6, 0] inb_S2x512x8x64_S1x512x1x64_1_0_6_0)) (k0_pay33 (ldV w ![1, 0, 6, 0] inb_S2x512x8x64_S1x512x1x64_1_0_6_0)) (constant S512x512 .f32 0x00000000#32) (ldK w ![1, 0, 7, 0] inb_S2x512x8x64_S1x512x1x64_1_0_7_0) (ldV w ![1, 0, 7, 0] inb_S2x512x8x64_S1x512x1x64_1_0_7_0)

end Values

/-! ## Running the pieces -/

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39

theorem run_deviceId (c : Dev nD) {α : Type} {k : Dev nD → Prog (TpuEff nD τ sig (Elt F) Λ₀ .tc) α} {Q : α → sProp 𝕄} :
    run c (Prog.lift .deviceId >>= k) Q = run c (k c) Q := wp_deviceId 𝒱₀ (c : Thread nD τ) none Set.univ

theorem run_pure (c : Dev nD) {α : Type} {a : α} {Q : α → sProp 𝕄} : (Q a : sProp 𝕄) ⊢ run c (pure a) Q := by
  show Q a ⊢ iprop(|={Set.univ}[Idealize.ShloMosaic.frame]=> Q a)
  iintro H; imodintro; iexact H

variable (A : Data F) (κ : GSem nD τ sig → ℕ)

theorem part1 (c : Dev nD) (l : List (Pay nD τ sig)) {Q : (Σ' (d0 : Dev nD) (v2 : BitVec 32) (v3 : Sems sig S_) (v30 : BitVec 32) (c8_i32_18 : BitVec 32), BitVec 1) → sProp 𝕄} :
    iprop(invs A κ ∗ sigIn c 0 ∗ sigIn c 1 ∗ ow c (barDue c 0 :: barDue c 1 :: l))
      ⊢ iprop((∀ w1 w3 w4 w5, (ow c l) -∗ Q ⟨c, w1, (SemArray.scalar (sig.barrier 0 rfl)), w3, w4, w5⟩) -∗ run c (P1 F ) Q) := by
  unfold P1; rw [k0_part1_eq_skeleton]; unfold k0_part1_skel
  rw [run_deviceId]
  iintro ⟨#HI, H0, H1, HO⟩ Hk
  iapply (sig_step A κ c 0 _ (sig_dev1 c) rfl) $$ [H0 HO]
  · isplitr; · iexact HI
    isplitl [H0]; · iexact H0
    iexact HO
  iintro HO
  iapply (sig_step A κ c 1 _ (sig_dev2 c) rfl) $$ [H1 HO]
  · isplitr; · iexact HI
    isplitl [H1]; · iexact H1
    iexact HO
  iintro HO
  iapply run_pure
  iapply Hk
  iexact HO

theorem part2 (c : Dev nD) (v2 : BitVec 32) (v30 : BitVec 32) (c8_i32_18 : BitVec 32) (v31 : BitVec 1) (l : List (Pay nD τ sig)) {Q : (Σ' (v59 : BitVec 32) (v64 : BitVec 1), BitVec 32) → sProp 𝕄} :
    iprop(invs A κ ∗ sigIn c 2 ∗ sigIn c 3 ∗ ow c (barDue c 2 :: barDue c 3 :: l))
      ⊢ iprop((∀ w0 w1 w2, (ow c l) -∗ Q ⟨w0, w1, w2⟩) -∗ run c (P2 F c v2 (SemArray.scalar (sig.barrier 0 rfl)) v30 c8_i32_18 v31) Q) := by
  unfold P2; rw [k0_part2_eq_skeleton]; unfold k0_part2_skel
  iintro ⟨#HI, H2, H3, HO⟩ Hk
  iapply (sig_step A κ c 2 _ (sig_dev3 c) rfl) $$ [H2 HO]
  · isplitr; · iexact HI
    isplitl [H2]; · iexact H2
    iexact HO
  iintro HO
  iapply (sig_step A κ c 3 _ (sig_dev4 c) rfl) $$ [H3 HO]
  · isplitr; · iexact HI
    isplitl [H3]; · iexact H3
    iexact HO
  iintro HO
  iapply run_pure
  iapply Hk
  iexact HO

theorem part3 (c : Dev nD) (v2 : BitVec 32) (v59 : BitVec 32) (v64 : BitVec 1) (v65 : BitVec 32) (l : List (Pay nD τ sig)) {Q : (Σ' (v95 : IVec S512x512 32) (c64_i32 : BitVec 32) (v97 : IVec S512x512 32), BitVec 32) → sProp 𝕄} :
    iprop(invs A κ ∗ sigIn c 4 ∗ sigIn c 5 ∗ sigIn c 6 ∗ ow c (barDue c 4 :: barDue c 5 :: barDue c 6 :: l))
      ⊢ iprop(((ow c l) -∗ Q ⟨(iota .tc S512x512 32 [0] iota_S512x512_d0_w32), 64#32, k0_pay1, 0#32⟩) -∗ run c (P3 F c v2 (SemArray.scalar (sig.barrier 0 rfl)) v59 v64 v65) Q) := by
  unfold P3; rw [k0_part3_eq_skeleton]; unfold k0_part3_skel
  iintro ⟨#HI, H4, H5, H6, HO⟩ Hk
  iapply (sig_step A κ c 4 _ (sig_dev5 c) rfl) $$ [H4 HO]
  · isplitr; · iexact HI
    isplitl [H4]; · iexact H4
    iexact HO
  iintro HO
  iapply (sig_step A κ c 5 _ (sig_dev6 c) rfl) $$ [H5 HO]
  · isplitr; · iexact HI
    isplitl [H5]; · iexact H5
    iexact HO
  iintro HO
  iapply (sig_step A κ c 6 _ (sig_dev7 c) rfl) $$ [H6 HO]
  · isplitr; · iexact HI
    isplitl [H6]; · iexact H6
    iexact HO
  iintro HO
  iapply run_pure
  iapply Hk
  iexact HO

theorem part5 (c : Dev nD) (v2 : BitVec 32) {Q : (Σ' (v156 : BitVec 32) (v168 : BitVec 32), BitVec 32) → sProp 𝕄} : iprop(∀ w0 w1 w2, Q ⟨w0, w1, w2⟩) ⊢ run c (P5 F v2) Q := by
  unfold P5; rw [k0_part5_eq_skeleton]; unfold k0_part5_skel
  iintro H
  iapply run_pure
  iapply H

theorem part6 (c : Dev nD) (v2 : BitVec 32) {Q : (Σ' (v192 : BitVec 32) (v204 : BitVec 32), BitVec 32) → sProp 𝕄} : iprop(∀ w0 w1 w2, Q ⟨w0, w1, w2⟩) ⊢ run c (P6 F v2) Q := by
  unfold P6; rw [k0_part6_eq_skeleton]; unfold k0_part6_skel
  iintro H
  iapply run_pure
  iapply H

theorem part4 (c : Dev nD) {Q : IVec S512x512 1 → sProp 𝕄} : (Q mask : sProp 𝕄) ⊢ run c (P4 F (iota .tc S512x512 32 [0] iota_S512x512_d0_w32) 64#32 k0_pay1 0#32) Q := by
  unfold P4; rw [k0_part4_eq_skeleton]; unfold k0_part4_skel
  exact run_pure c

theorem part7 (c : Dev nD) (v2 : BitVec 32) (w : Staged F) {Q : (Σ' (v228 : BitVec 32) (v231 : FVec F S768x512 .bf16) (v233 : FVec F S512x768 .bf16) (v236 : FVec F S512x512 .f32) (v242 : FVec F S512x64 .bf16), FVec F S512x512 .f32) → sProp 𝕄} :
    iprop(inp c w)
      ⊢ iprop((∀ w0, (inp c w) -∗ Q ⟨w0, (v231 w), (v233 w), (v236 w), (k0_pay6 (ldV w ![0, 0, 0, 0] inb_S2x512x8x64_S1x512x1x64_0_0_0_0)), (k0_pay7 mask (ldQ w) (ldX w ![0, 0, 0] inb_S2x512x768_S1x512x768_0_0_0) (ldK w ![0, 0, 0, 0] inb_S2x512x8x64_S1x512x1x64_0_0_0_0))⟩) -∗ run c (P7 F v2 mask) Q) := by
  unfold P7; rw [k0_part7_eq_skeleton]; unfold k0_part7_skel
  iintro I Hk
  unfold inp
  icases I with ⟨I0, I1, I2, I3, I4⟩
  iapply (load_step c (Finset.subset_univ _)) $$ [I1]
  · iexact I1
  iintro I1
  iapply (load_step c (Finset.subset_univ _)) $$ [I4]
  · iexact I4
  iintro I4
  iapply (load_step c (Finset.subset_univ _)) $$ [I0]
  · iexact I0
  iintro I0
  iapply (load_step c (Finset.subset_univ _)) $$ [I2]
  · iexact I2
  iintro I2
  iapply (load_step c (Finset.subset_univ _)) $$ [I3]
  · iexact I3
  iintro I3
  iapply run_pure
  iapply Hk
  isplitl [I0]; · iexact I0
  isplitl [I1]; · iexact I1
  isplitl [I2]; · iexact I2
  isplitl [I3]; · iexact I3
  iexact I4

theorem part8 (c : Dev nD) (w : Staged F) {Q : (Σ' (v252 : FVec F S512x64 .f32) (v268 : FVec F S512x64 .f32) (v284 : FVec F S512x64 .f32), FVec F S512x64 .f32) → sProp 𝕄} :
    iprop(inp c w)
      ⊢ iprop(((inp c w) -∗ Q ⟨(v252 w), (v268 w), (v284 w), (k0_pay11 (v236 w))⟩) -∗ run c (P8 F mask (v236 w) (k0_pay6 (ldV w ![0, 0, 0, 0] inb_S2x512x8x64_S1x512x1x64_0_0_0_0)) (k0_pay7 mask (ldQ w) (ldX w ![0, 0, 0] inb_S2x512x768_S1x512x768_0_0_0) (ldK w ![0, 0, 0, 0] inb_S2x512x8x64_S1x512x1x64_0_0_0_0))) Q) := by
  unfold P8; rw [k0_part8_eq_skeleton]; unfold k0_part8_skel
  iintro I Hk
  unfold inp
  icases I with ⟨I0, I1, I2, I3, I4⟩
  iapply (load_step c (Finset.subset_univ _)) $$ [I2]
  · iexact I2
  iintro I2
  iapply (load_step c (Finset.subset_univ _)) $$ [I3]
  · iexact I3
  iintro I3
  iapply (load_step c (Finset.subset_univ _)) $$ [I2]
  · iexact I2
  iintro I2
  iapply (load_step c (Finset.subset_univ _)) $$ [I3]
  · iexact I3
  iintro I3
  iapply run_pure
  iapply Hk
  isplitl [I0]; · iexact I0
  isplitl [I1]; · iexact I1
  isplitl [I2]; · iexact I2
  isplitl [I3]; · iexact I3
  iexact I4

theorem part9 (c : Dev nD) (w : Staged F) {Q : (Σ' (v300 : FVec F S512x64 .f32) (v316 : FVec F S512x64 .f32), FVec F S512x64 .bf16) → sProp 𝕄} :
    iprop(inp c w)
      ⊢ iprop(((inp c w) -∗ Q ⟨(v300 w), (v316 w), (k0_pay14 (v236 w))⟩) -∗ run c (P9 F mask (v236 w) (k0_pay11 (v236 w))) Q) := by
  unfold P9; rw [k0_part9_eq_skeleton]; unfold k0_part9_skel
  iintro I Hk
  unfold inp
  icases I with ⟨I0, I1, I2, I3, I4⟩
  iapply (load_step c (Finset.subset_univ _)) $$ [I2]
  · iexact I2
  iintro I2
  iapply (load_step c (Finset.subset_univ _)) $$ [I3]
  · iexact I3
  iintro I3
  iapply (load_step c (Finset.subset_univ _)) $$ [I2]
  · iexact I2
  iintro I2
  iapply (load_step c (Finset.subset_univ _)) $$ [I3]
  · iexact I3
  iintro I3
  iapply run_pure
  iapply Hk
  isplitl [I0]; · iexact I0
  isplitl [I1]; · iexact I1
  isplitl [I2]; · iexact I2
  isplitl [I3]; · iexact I3
  iexact I4

theorem part10 (c : Dev nD) (w : Staged F) {Q : (Σ' (v332 : FVec F S512x64 .f32) (v348 : FVec F S512x64 .f32) (v350 : FVec F S512x64 .bf16), FVec F S512x64 .bf16) → sProp 𝕄} :
    iprop(inp c w)
      ⊢ iprop(((inp c w) -∗ Q ⟨(v332 w), (v348 w), (k0_pay17 (v236 w)), (k0_pay18 (ldK w ![0, 0, 7, 0] inb_S2x512x8x64_S1x512x1x64_0_0_7_0))⟩) -∗ run c (P10 F mask (v236 w) (k0_pay14 (v236 w))) Q) := by
  unfold P10; rw [k0_part10_eq_skeleton]; unfold k0_part10_skel
  iintro I Hk
  unfold inp
  icases I with ⟨I0, I1, I2, I3, I4⟩
  iapply (load_step c (Finset.subset_univ _)) $$ [I2]
  · iexact I2
  iintro I2
  iapply (load_step c (Finset.subset_univ _)) $$ [I3]
  · iexact I3
  iintro I3
  iapply (load_step c (Finset.subset_univ _)) $$ [I2]
  · iexact I2
  iintro I2
  iapply (load_step c (Finset.subset_univ _)) $$ [I3]
  · iexact I3
  iintro I3
  iapply (load_step c (Finset.subset_univ _)) $$ [I2]
  · iexact I2
  iintro I2
  iapply run_pure
  iapply Hk
  isplitl [I0]; · iexact I0
  isplitl [I1]; · iexact I1
  isplitl [I2]; · iexact I2
  isplitl [I3]; · iexact I3
  iexact I4

theorem part13 (c : Dev nD) (w : Staged F) {Q : (Σ' (v425 : FVec F S512x64 .f32) (v441 : FVec F S512x64 .f32) (v443 : FVec F S512x64 .bf16), Vec F S1x512x1x64 .bf16) → sProp 𝕄} :
    iprop(inp c w)
      ⊢ iprop(((inp c w) -∗ Q ⟨(v425 w), (v441 w), (k0_pay24 (v409 w)), (ldK w ![1, 0, 2, 0] inb_S2x512x8x64_S1x512x1x64_1_0_2_0)⟩) -∗ run c (P13 F mask (v409 w) (k0_pay21 (v231 w) (ldX w ![1, 0, 0] inb_S2x512x768_S1x512x768_1_0_0))) Q) := by
  unfold P13; rw [k0_part13_eq_skeleton]; unfold k0_part13_skel
  iintro I Hk
  unfold inp
  icases I with ⟨I0, I1, I2, I3, I4⟩
  iapply (load_step c (Finset.subset_univ _)) $$ [I2]
  · iexact I2
  iintro I2
  iapply (load_step c (Finset.subset_univ _)) $$ [I3]
  · iexact I3
  iintro I3
  iapply (load_step c (Finset.subset_univ _)) $$ [I2]
  · iexact I2
  iintro I2
  iapply (load_step c (Finset.subset_univ _)) $$ [I3]
  · iexact I3
  iintro I3
  iapply (load_step c (Finset.subset_univ _)) $$ [I2]
  · iexact I2
  iintro I2
  iapply run_pure
  iapply Hk
  isplitl [I0]; · iexact I0
  isplitl [I1]; · iexact I1
  isplitl [I2]; · iexact I2
  isplitl [I3]; · iexact I3
  iexact I4

theorem part14 (c : Dev nD) (w : Staged F) {Q : (Σ' (v457 : FVec F S512x64 .f32) (v473 : FVec F S512x64 .f32) (v475 : FVec F S512x64 .bf16), FVec F S512x64 .bf16) → sProp 𝕄} :
    iprop(inp c w)
      ⊢ iprop(((inp c w) -∗ Q ⟨(v457 w), (v473 w), (k0_pay27 (v409 w)), (k0_pay28 (ldK w ![1, 0, 4, 0] inb_S2x512x8x64_S1x512x1x64_1_0_4_0))⟩) -∗ run c (P14 F mask (v409 w) (k0_pay24 (v409 w)) (ldK w ![1, 0, 2, 0] inb_S2x512x8x64_S1x512x1x64_1_0_2_0)) Q) := by
  unfold P14; rw [k0_part14_eq_skeleton]; unfold k0_part14_skel
  iintro I Hk
  unfold inp
  icases I with ⟨I0, I1, I2, I3, I4⟩
  iapply (load_step c (Finset.subset_univ _)) $$ [I3]
  · iexact I3
  iintro I3
  iapply (load_step c (Finset.subset_univ _)) $$ [I2]
  · iexact I2
  iintro I2
  iapply (load_step c (Finset.subset_univ _)) $$ [I3]
  · iexact I3
  iintro I3
  iapply (load_step c (Finset.subset_univ _)) $$ [I2]
  · iexact I2
  iintro I2
  iapply run_pure
  iapply Hk
  isplitl [I0]; · iexact I0
  isplitl [I1]; · iexact I1
  isplitl [I2]; · iexact I2
  isplitl [I3]; · iexact I3
  iexact I4

theorem part15 (c : Dev nD) (w : Staged F) {Q : (Σ' (v489 : FVec F S512x64 .f32) (v505 : FVec F S512x64 .f32) (v507 : FVec F S512x64 .bf16) (v509 : FVec F S512x64 .bf16) (v511 : FVec F S512x64 .bf16), FVec F S512x512 .f32) → sProp 𝕄} :
    iprop(inp c w)
      ⊢ iprop(((inp c w) -∗ Q ⟨(v489 w), (v505 w), (k0_pay31 (v409 w)), (k0_pay32 (ldK w ![1, 0, 6, 0] inb_S2x512x8x64_S1x512x1x64_1_0_6_0)), (k0_pay33 (ldV w ![1, 0, 6, 0] inb_S2x512x8x64_S1x512x1x64_1_0_6_0)), (constant S512x512 .f32 0x00000000#32)⟩) -∗ run c (P15 F mask (v409 w) (k0_pay27 (v409 w)) (k0_pay28 (ldK w ![1, 0, 4, 0] inb_S2x512x8x64_S1x512x1x64_1_0_4_0))) Q) := by
  unfold P15; rw [k0_part15_eq_skeleton]; unfold k0_part15_skel
  iintro I Hk
  unfold inp
  icases I with ⟨I0, I1, I2, I3, I4⟩
  iapply (load_step c (Finset.subset_univ _)) $$ [I3]
  · iexact I3
  iintro I3
  iapply (load_step c (Finset.subset_univ _)) $$ [I2]
  · iexact I2
  iintro I2
  iapply (load_step c (Finset.subset_univ _)) $$ [I3]
  · iexact I3
  iintro I3
  iapply (load_step c (Finset.subset_univ _)) $$ [I2]
  · iexact I2
  iintro I2
  iapply (load_step c (Finset.subset_univ _)) $$ [I3]
  · iexact I3
  iintro I3
  iapply run_pure
  iapply Hk
  isplitl [I0]; · iexact I0
  isplitl [I1]; · iexact I1
  isplitl [I2]; · iexact I2
  isplitl [I3]; · iexact I3
  iexact I4

end Cert.KernelIdeal.Run
-- ==== Proof.Pieces.lean ====
/-
  Cutting the buffers into the pieces the copies move.

  The send buffer is written as two halves of 512 rows and sent as eight chunks of 128; the receive buffer is seven slots; the output
  is eight chunks. The lemmas here split a whole buffer into such pieces and join the pieces again.
-/
module

public import proofs.«01_k».proof.Proof.Steps

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal.Gen

variable {F : FTy → Type} [FloatOps F]

local notation "𝕄" => MT nD τ sig ℕ (Elt F) ℕ UU ℕ

/-! ## Sums over the devices -/

theorem bigSep_dev (c : Dev nD) (Φ : Dev nD → sProp 𝕄) : bigSep Finset.univ Φ = iprop(Φ c ∗ bigSep Finset.univ fun j : Fin 7 => Φ (peer c j)) := by
  have h : (Finset.univ : Finset (Dev nD)) = insert c (Finset.univ.image (peer c)) := by revert c; decide
  have hc : c ∉ Finset.univ.image (peer c) := by
    rw [Finset.mem_image]; rintro ⟨j, -, e⟩; exact peer_ne c j e
  rw [h, bigSep_insert hc, bigSep_image_of_injOn (fun i _ j _ e => peer_inj c i j e)]
  rfl

/-- Seven things, listed. -/
theorem bigSep7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  repeat rw [bigSep_insert (by decide)]
  rw [bigSep_singleton]
  rfl

/-- Eight things, listed. -/
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  repeat rw [bigSep_insert (by decide)]
  rw [bigSep_singleton]
  rfl

/-! ## Rows -/

/-- The rows of chunk t. -/
abbrev crow (t : Dev nD) : Finset S1024x768.Idx := (Rect.unit (s := S1024x768) (rowOff t.val) S128x768.size (inb8 t)).set
/-- The rows of slot j. -/
abbrev srow (j : Fin 7) : Finset S896x768.Idx := (Rect.unit (s := S896x768) (rowOff j.val) S128x768.size (inb7 j)).set
/-- The rows of the first half, and of the second. -/
abbrev rows0 : Finset S1024x768.Idx := (Rect.unit (s := S1024x768) ![0, 0] S512x768.size inb_S1024x768_S512x768_0_0).set
@[inherit_doc rows0] abbrev rows1 : Finset S1024x768.Idx := (Rect.unit (s := S1024x768) ![512, 0] S512x768.size inb_S1024x768_S512x768_512_0).set

theorem mem_crow (t : Dev nD) (i : S1024x768.Idx) : i ∈ crow t ↔ 128 * t.val ≤ (i 0 : Fin 1024).val ∧ (i 0 : Fin 1024).val < 128 * t.val + 128 := by
  rw [Rect.mem_set_unit]
  refine ⟨fun h => h 0, fun h a => ?_⟩
  fin_cases a
  · exact h
  · exact ⟨Nat.zero_le _, by show (i 1 : Fin 768).val < 0 + 768; have h1 : (i 1 : Fin 768).val < 768 := (i 1 : Fin 768).isLt; omega⟩

theorem mem_srow (j : Fin 7) (i : S896x768.Idx) : i ∈ srow j ↔ 128 * j.val ≤ (i 0 : Fin 896).val ∧ (i 0 : Fin 896).val < 128 * j.val + 128 := by
  rw [Rect.mem_set_unit]
  refine ⟨fun h => h 0, fun h a => ?_⟩
  fin_cases a
  · exact h
  · exact ⟨Nat.zero_le _, by show (i 1 : Fin 768).val < 0 + 768; have h1 : (i 1 : Fin 768).val < 768 := (i 1 : Fin 768).isLt; omega⟩

theorem mem_rows0 (i : S1024x768.Idx) : i ∈ rows0 ↔ (i 0 : Fin 1024).val < 512 := by
  rw [Rect.mem_set_unit]
  refine ⟨fun h => by have := (h 0).2; exact (by simpa using this), fun h a => ?_⟩
  fin_cases a
  · exact ⟨Nat.zero_le _, by show (i 0 : Fin 1024).val < 0 + 512; omega⟩
  · exact ⟨Nat.zero_le _, by show (i 1 : Fin 768).val < 0 + 768; have h1 : (i 1 : Fin 768).val < 768 := (i 1 : Fin 768).isLt; omega⟩

theorem mem_rows1 (i : S1024x768.Idx) : i ∈ rows1 ↔ 512 ≤ (i 0 : Fin 1024).val := by
  rw [Rect.mem_set_unit]
  refine ⟨fun h => (h 0).1, fun h a => ?_⟩
  fin_cases a
  · exact ⟨h, by show (i 0 : Fin 1024).val < 512 + 512; have h1 : (i 0 : Fin 1024).val < 1024 := (i 0 : Fin 1024).isLt; omega⟩
  · exact ⟨Nat.zero_le _, by show (i 1 : Fin 768).val < 0 + 768; have h1 : (i 1 : Fin 768).val < 768 := (i 1 : Fin 768).isLt; omega⟩

theorem crow_disjoint (S : Finset (Dev nD)) : ∀ t ∈ S, ∀ t' ∈ S, t ≠ t' → Disjoint (crow t) (crow t') := by
  intro t _ t' _ hne
  rw [Finset.disjoint_left]
  intro i h h'
  rw [mem_crow] at h h'
  exact hne (Fin.ext (by omega))

theorem srow_disjoint : ∀ t ∈ (Finset.univ : Finset (Fin 7)), ∀ t' ∈ (Finset.univ : Finset (Fin 7)), t ≠ t' → Disjoint (srow t) (srow t') := by
  intro t _ t' _ hne
  rw [Finset.disjoint_left]
  intro i h h'
  rw [mem_srow] at h h'
  exact hne (Fin.ext (by omega))

/-- The chunk a row lies in. -/
def rowDev (i : S1024x768.Idx) : Dev nD := ⟨(i 0 : Fin 1024).val / 128, by have h : (i 0 : Fin 1024).val < 1024 := (i 0 : Fin 1024).isLt; show _ < 8; omega⟩

theorem mem_rowDev (i : S1024x768.Idx) : i ∈ crow (rowDev i) := by
  rw [mem_crow]
  have e : (rowDev i).val = (i 0 : Fin 1024).val / 128 := rfl
  rw [e]; omega

theorem crow_union : (Finset.univ : Finset (Dev nD)).biUnion crow = Finset.univ :=
  Finset.eq_univ_iff_forall.mpr fun i => Finset.mem_biUnion.mpr ⟨rowDev i, Finset.mem_univ _, mem_rowDev i⟩

theorem srow_union : (Finset.univ : Finset (Fin 7)).biUnion srow = Finset.univ :=
  Finset.eq_univ_iff_forall.mpr fun i => Finset.mem_biUnion.mpr ⟨slotOf i, Finset.mem_univ _, by
    rw [mem_srow]
    have e : (slotOf i).val = (i 0 : Fin 896).val / 128 := rfl
    rw [e]; omega⟩

theorem low_union : (Finset.univ.filter fun t : Dev nD => Low t).biUnion crow = rows0 := by
  ext i
  rw [Finset.mem_biUnion, mem_rows0]
  constructor
  · rintro ⟨t, ht, hi⟩
    have h4 : t.val < 4 := (Finset.mem_filter.mp ht).2
    rw [mem_crow] at hi
    omega
  · intro h
    refine ⟨rowDev i, Finset.mem_filter.mpr ⟨Finset.mem_univ _, ?_⟩, mem_rowDev i⟩
    show (i 0 : Fin 1024).val / 128 < 4
    omega

theorem high_union : (Finset.univ.filter fun t : Dev nD => ¬ Low t).biUnion crow = rows1 := by
  ext i
  rw [Finset.mem_biUnion, mem_rows1]
  constructor
  · rintro ⟨t, ht, hi⟩
    have h4 : ¬ t.val < 4 := (Finset.mem_filter.mp ht).2
    rw [mem_crow] at hi
    omega
  · intro h
    refine ⟨rowDev i, Finset.mem_filter.mpr ⟨Finset.mem_univ _, ?_⟩, mem_rowDev i⟩
    show ¬ (i 0 : Fin 1024).val / 128 < 4
    omega

theorem rows1_eq : (Finset.univ : Finset S1024x768.Idx) \ rows0 = rows1 := by
  ext i
  rw [Finset.mem_sdiff, mem_rows0, mem_rows1]
  exact ⟨fun h => by omega, fun h => ⟨Finset.mem_univ _, by omega⟩⟩

/-! ## Buffers as pieces -/

/-- Device c's part of the send buffer on the rows I. -/
abbrev sOn (c : Dev nD) (I : Finset S1024x768.Idx) (q : PosShare TreeShare) (f : Big F) : sProp 𝕄 := ((c : Thread nD τ).loc cc0_scratch0) ↦[I]{q} f
/-- Device c's part of the output window on the rows I. -/
abbrev oOn (c : Dev nD) (I : Finset S1024x768.Idx) (f : Big F) : sProp 𝕄 := ((c : Thread nD τ).loc cc0_stg5_0) ↦[I]{fullShare} f
/-- Device c's part of the receive buffer on the rows I. -/
abbrev rOn (c : Dev nD) (I : Finset S896x768.Idx) (f : Rcv F) : sProp 𝕄 := ((c : Thread nD τ).loc cc0_scratch1) ↦[I]{fullShare} f

theorem pc_s (c t : Dev nD) (q : PosShare TreeShare) (f : Big F) : (pc sM c t q f : sProp 𝕄) = sOn c (crow t) q f := by
  show ((c : Thread nD τ).loc cc0_scratch0 ↦[(chunk sM t).view.set]{q} f) = _
  rw [show (chunk sM t).view.set = crow t from View.set_slice_whole _ _]
theorem pc_o (c t : Dev nD) (f : Big F) : (pc oM c t fullShare f : sProp 𝕄) = oOn c (crow t) f := by
  show ((c : Thread nD τ).loc cc0_stg5_0 ↦[(chunk oM t).view.set]{fullShare} f) = _
  rw [show (chunk oM t).view.set = crow t from View.set_slice_whole _ _]
theorem ps_r (c : Dev nD) (j : Fin 7) (f : Rcv F) : (ps c j f : sProp 𝕄) = rOn c (srow j) f := by
  show ((c : Thread nD τ).loc cc0_scratch1 ↦[(slot j).view.set]{fullShare} f) = _
  rw [show (slot j).view.set = srow j from View.set_slice_whole _ _]

/-- The output window is the device's own chunk and the seven others. -/
theorem out_split (c : Dev nD) (f : Big F) :
    (oOn c Finset.univ f : sProp 𝕄) = iprop(pc oM c c fullShare f ∗ bigSep Finset.univ fun j => pc oM c (peer c j) fullShare f) := by
  rw [oOn, ← crow_union, pointsTo_biUnion _ _ (crow_disjoint _), bigSep_dev c, pc_o]
  simp only [pc_o]

/-- The receive buffer is its seven slots. -/
theorem rcv_split (c : Dev nD) (f : Rcv F) : (rOn c Finset.univ f : sProp 𝕄) = bigSep Finset.univ fun j => ps c j f := by
  rw [rOn, ← srow_union, pointsTo_biUnion _ _ srow_disjoint]
  simp only [ps_r]

/-- The send buffer is its two halves. -/
theorem send_split (c : Dev nD) (f : Big F) : (sOn c Finset.univ fullShare f : sProp 𝕄) ⊢ iprop(sOn c rows0 fullShare f ∗ sOn c rows1 fullShare f) := by
  rw [← rows1_eq]
  exact (pointsTo_split_subset (Finset.subset_univ rows0)).1

variable (A : Data F)

/-- The device's own chunk, if the first half made it; if the second did. -/
def own0 (c : Dev nD) : sProp 𝕄 := if Low c then pc sM c c fullShare (A.S c) else iprop(emp)
@[inherit_doc own0] def own1 (c : Dev nD) : sProp 𝕄 := if Low c then iprop(emp) else pc sM c c fullShare (A.S c)

theorem half0_split (c : Dev nD) : (sOn c rows0 fullShare (A.S c) : sProp 𝕄) = iprop(own0 A c ∗ bigSep Finset.univ (chunk0 A c)) := by
  rw [sOn, ← low_union, pointsTo_biUnion _ _ (crow_disjoint _), bigSep_filter, bigSep_dev c]
  unfold own0
  refine congrArg₂ BI.sep ?_ (congrArg _ (funext fun j => ?_))
  · rw [pc_s]; rfl
  · unfold chunk0; rw [pc_s]; rfl

theorem half1_split (c : Dev nD) : (sOn c rows1 fullShare (A.S c) : sProp 𝕄) = iprop(own1 A c ∗ bigSep Finset.univ (chunk1 A c)) := by
  rw [sOn, ← high_union, pointsTo_biUnion _ _ (crow_disjoint _), bigSep_filter, bigSep_dev c]
  unfold own1
  refine congrArg₂ BI.sep ?_ (congrArg _ (funext fun j => ?_))
  · rw [pc_s]; by_cases h : Low c
    · rw [if_neg (not_not.mpr h), if_pos h]; rfl
    · rw [if_pos h, if_neg h]
  · unfold chunk1; rw [pc_s]; by_cases h : Low (peer c j)
    · rw [if_neg (not_not.mpr h), if_pos h]; rfl
    · rw [if_pos h, if_neg h]

theorem own_join (c : Dev nD) : iprop(own0 A c ∗ own1 A c) ⊢ (pc sM c c fullShare (A.S c) : sProp 𝕄) := by
  unfold own0 own1
  by_cases h : Low c
  · rw [if_pos h, if_pos h]; iintro ⟨H, -⟩; iexact H
  · rw [if_neg h, if_neg h]; iintro ⟨-, H⟩; iexact H

/-- The share of the own chunk that no copy reads. -/
def shareRest : PosShare TreeShare := ShareLeaves.leaf 3 fullShare ⟨7, by decide⟩

theorem leaves8 {ℓ : Loc nD τ sig} (I : Finset (Idx ℓ)) (f : Buf (Elt F) ℓ) :
    (ℓ ↦[I]{fullShare} f : sProp 𝕄) = bigSep Finset.univ fun i : Fin 8 => ℓ ↦[I]{ShareLeaves.leaf 3 fullShare i} f :=
  ShareLeaves.pointsTo_leaves I f 3 fullShare

/-- The device's own chunk is the seven shares its copies read, and one more. -/
theorem own_shares (c : Dev nD) (f : Big F) : (pc sM c c fullShare f : sProp 𝕄) = iprop((bigSep Finset.univ fun j => pc sM c c (shareOf j) f) ∗ pc sM c c shareRest f) := by
  have e : (sOn c (crow c) fullShare f : sProp 𝕄) = bigSep Finset.univ fun i : Fin 8 => sOn c (crow c) (ShareLeaves.leaf 3 fullShare i) f :=
    leaves8 (ℓ := (c : Thread nD τ).loc cc0_scratch0) (crow c) f
  rw [pc_s, e, bigSep7, bigSep8]
  simp only [pc_s]
  refine BI.Entails.antisymm (?_ : (_ : sProp 𝕄) ⊢ _) (?_ : (_ : sProp 𝕄) ⊢ _)
  · iintro ⟨H0, H1, H2, H3, H4, H5, H6, H7⟩
    isplitr [H7]
    · isplitl [H0]; · iexact H0
      isplitl [H1]; · iexact H1
      isplitl [H2]; · iexact H2
      isplitl [H3]; · iexact H3
      isplitl [H4]; · iexact H4
      isplitl [H5]; · iexact H5
      iexact H6
    · iexact H7
  · iintro ⟨⟨H0, H1, H2, H3, H4, H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- Pieces with whatever values, joined. -/
theorem join_any {ℓ : Loc nD τ sig} (K : Dev nD → Finset (Idx ℓ)) (G : Dev nD → Buf (Elt F) ℓ) (f : Buf (Elt F) ℓ)
    (h : ∀ t ∈ Finset.univ, ∀ t' ∈ Finset.univ, t ≠ t' → Disjoint (K t) (K t')) (hu : Finset.univ.biUnion K = Finset.univ) :
    (bigSep Finset.univ fun t : Dev nD => ℓ ↦[K t]{fullShare} G t : sProp 𝕄) ⊢ iprop(∃ g, ℓ ↦{fullShare} g) := by
  refine (pointsTo_biUnion_join Finset.univ K G f h).trans ?_
  rw [hu]
  iintro ⟨%g, -, H⟩
  iexists g
  iexact H

/-- The chunks of the send buffer, joined. -/
theorem send_join (c : Dev nD) (f g : Big F) :
    iprop(pc sM c c fullShare f ∗ bigSep Finset.univ fun j => pc sM c (peer c j) fullShare g) ⊢ (iprop(∃ h, sOn c Finset.univ fullShare h) : sProp 𝕄) := by
  refine Entails.trans (Entails.of_eq ?_) (join_any (ℓ := (c : Thread nD τ).loc cc0_scratch0) crow (fun t => if t = c then f else g) f (crow_disjoint _) crow_union)
  rw [bigSep_dev c, if_pos rfl, pc_s]
  simp only [pc_s, if_neg (peer_ne c _)]

end Cert.KernelIdeal.Run
-- ==== Proof.Sends.lean ====
/-
  The kernel's pieces that store the two halves, wait for the devices to be ready, and begin the first exchange.
-/
module

public import proofs.«01_k».proof.Proof.Heads
public import proofs.«01_k».proof.Proof.Pieces

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal.Gen

variable {F : FTy → Type} [FloatOps F]

local notation "𝕄" => MT nD τ sig ℕ (Elt F) ℕ UU ℕ

variable (A : Data F) (κ : GSem nD τ sig → ℕ)

/-! ## Levels -/

/-- Every payment of l is a TensorCore's, at a level above i. -/
def Over (i : ℕ) (l : List (Pay nD τ sig)) : Prop := ∀ x ∈ l, x.1.1.2 = .tc ∧ i < x.2.1 ∧ x.2.1 < Lv

theorem over_nil (i : ℕ) : Over i [] := fun x hx => by cases hx
theorem over_append {i : ℕ} {l l' : List (Pay nD τ sig)} (h : Over i l) (h' : Over i l') : Over i (l ++ l') := fun x hx => by
  rcases List.mem_append.mp hx with hx | hx
  exacts [h x hx, h' x hx]
theorem over_mono {i i' : ℕ} (hi : i' ≤ i) {l : List (Pay nD τ sig)} (h : Over i l) : Over i' l := fun x hx => by
  obtain ⟨h1, h2, h3⟩ := h x hx
  exact ⟨h1, by omega, h3⟩
theorem over_rs0 (c : Dev nD) (j : Fin 7) : Over 1 (rsDue0 c j) := fun x hx => by
  unfold rsDue0 at hx
  split at hx
  · rw [List.mem_singleton.mp hx]; exact ⟨rfl, by show 1 < 2; omega, by show 2 < 4; omega⟩
  · cases hx
theorem over_rs1 (c : Dev nD) (j : Fin 7) : Over 1 (rsDue1 c j) := fun x hx => by
  unfold rsDue1 at hx
  split at hx
  · cases hx
  · rw [List.mem_singleton.mp hx]; exact ⟨rfl, by show 1 < 2; omega, by show 2 < 4; omega⟩
theorem over_ag (c : Dev nD) (j : Fin 7) {l : List (Pay nD τ sig)} (h : Over 2 l) : Over 2 (agDue c j :: l) := fun x hx => by
  rcases List.mem_cons.mp hx with rfl | hx
  · exact ⟨rfl, by show 2 < 3; omega, by show 3 < 4; omega⟩
  · exact h x hx

/-! ## Getting ready -/

/-- What starting copy j of the first exchange takes besides what the barrier brings; likewise of the second. -/
def tokRS (c : Dev nD) (j : Fin 7) : sProp 𝕄 :=
  iprop(dutyTok ER (cell c (rsS j)) 0 0 ∗ reached ER (cell c (rsS j)) 0 ∗ dutyTok ER (cell (peer c j) (rsR j.rev)) 0 0)
@[inherit_doc tokRS] def tokAG (c : Dev nD) (j : Fin 7) : sProp 𝕄 :=
  iprop(dutyTok ER (cell c (agS j)) 0 0 ∗ reached ER (cell c (agS j)) 0 ∗ dutyTok ER (cell (peer c j) (agR j.rev)) 0 0)

theorem ready_one (c : Dev nD) (j : Fin 7) : iprop(barPay c j ∗ tokRS c j ∗ tokAG c j) ⊢ (iprop(rsIn c j ∗ agIn c j) : sProp 𝕄) := by
  unfold barPay tokRS tokAG rsIn agIn
  iintro ⟨⟨Hr, Ho, H1, H2⟩, ⟨T1, T2, T3⟩, ⟨U1, U2, U3⟩⟩
  isplitl [Hr H1 T1 T2 T3]
  · isplitl [Hr]; · iexact Hr
    isplitl [H1]; · iexact H1
    isplitl [T1]; · iexact T1
    isplitl [T2]; · iexact T2
    iexact T3
  · isplitl [Ho]; · iexact Ho
    isplitl [H2]; · iexact H2
    isplitl [U1]; · iexact U1
    isplitl [U2]; · iexact U2
    iexact U3

/-- What the barrier brings makes every copy ready to start. -/
theorem ready (c : Dev nD) : iprop(bigSep Finset.univ (barPay c) ∗ bigSep Finset.univ (tokRS c) ∗ bigSep Finset.univ (tokAG c))
    ⊢ (iprop((rsIn c 0 ∗ rsIn c 1 ∗ rsIn c 2 ∗ rsIn c 3 ∗ rsIn c 4 ∗ rsIn c 5 ∗ rsIn c 6) ∗ bigSep Finset.univ (agIn c)) : sProp 𝕄) := by
  rw [← bigSep_sep', ← bigSep_sep', ← bigSep7, ← bigSep_sep']
  exact bigSep_mono fun j _ => ready_one c j

theorem half0_list (c : Dev nD) : (sOn c rows0 fullShare (A.S c) : sProp 𝕄)
    ⊢ iprop(own0 A c ∗ chunk0 A c 0 ∗ chunk0 A c 1 ∗ chunk0 A c 2 ∗ chunk0 A c 3 ∗ chunk0 A c 4 ∗ chunk0 A c 5 ∗ chunk0 A c 6) := by
  rw [half0_split, bigSep7]
theorem half1_list (c : Dev nD) : (sOn c rows1 fullShare (A.S c) : sProp 𝕄)
    ⊢ iprop(own1 A c ∗ chunk1 A c 0 ∗ chunk1 A c 1 ∗ chunk1 A c 2 ∗ chunk1 A c 3 ∗ chunk1 A c 4 ∗ chunk1 A c 5 ∗ chunk1 A c 6) := by
  rw [half1_split, bigSep7]

/-! ## The halves stored -/

/-- The first half of the send buffer, as the kernel stores it; the second. -/
abbrev acc0 : View sig .tc .vmem S512x768 .bf16 := sM.access (Rect.unit (s := S1024x768) ![0, 0] S512x768.size inb_S1024x768_S512x768_0_0)
@[inherit_doc acc0] abbrev acc1 : View sig .tc .vmem S512x768 .bf16 := sM.access (Rect.unit (s := S1024x768) ![512, 0] S512x768.size inb_S1024x768_S512x768_512_0)

theorem acc_sub (r : Rect S1024x768) : (sM.access r).set ⊆ r.set := (View.set_slice_whole _ _).subset

theorem stored0 (c : Dev nD) (f : Big F) (w : FVec F S512x768 .bf16) (h : ∀ x, acc0.read (Elt F) (A.S c) x = w x) :
    (sOn c rows0 fullShare (acc0.write (Elt F) f w Finset.univ) : sProp 𝕄) ⊢ sOn c rows0 fullShare (A.S c) := by
  have e := landed c acc0 fullShare f (A.S c) w h
  rw [show acc0.set = rows0 from View.set_slice_whole _ _] at e
  exact Entails.of_eq e
theorem stored1 (c : Dev nD) (f : Big F) (w : FVec F S512x768 .bf16) (h : ∀ x, acc1.read (Elt F) (A.S c) x = w x) :
    (sOn c rows1 fullShare (acc1.write (Elt F) f w Finset.univ) : sProp 𝕄) ⊢ sOn c rows1 fullShare (A.S c) := by
  have e := landed c acc1 fullShare f (A.S c) w h
  rw [show acc1.set = rows1 from View.set_slice_whole _ _] at e
  exact Entails.of_eq e

/-! ## The pieces -/

/-- The cell c holds at its start; the receipt for a copy completing on it, at level i. -/
abbrev at0 (c : Dev nD) (s : SemLoc sig) : sProp 𝕄 := atPos ER (cell c s) 0 ∅ 0
@[inherit_doc at0] abbrev crd (c : Dev nD) (s : SemLoc sig) (i : ℕ) : sProp 𝕄 := cred (tallyAt (cell c s) i N)

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39

/-- The first half stored, the devices met, the first two copies begun. -/
theorem part11 (c : Dev nD) (v156 : BitVec 32) (v168 : BitVec 32) (v180 : BitVec 32)
    (w : Staged F) (l : List (Pay nD τ sig)) (hl : Over 1 l) (h0 : ∀ x, acc0.read (Elt F) (A.S c) x = half0 w x) {Q : (BitVec 1) → sProp 𝕄} :
    iprop(invs A κ ∗ lvs ∗ inp c w ∗ (∃ f, sOn c rows0 fullShare f) ∗ cred (tallyAt (cell c barL) 1 7) ∗ at0 c barL ∗ bigSep Finset.univ (tokRS c) ∗ bigSep Finset.univ (tokAG c) ∗ ow c (rsDue0 c 0 ++ (rsDue0 c 1 ++ l)))
      ⊢ iprop((∀ w0, (inp c w ∗ mid c 0 ∗ mid c 1 ∗ rsIn c 2 ∗ rsIn c 3 ∗ rsIn c 4 ∗ rsIn c 5 ∗ rsIn c 6 ∗ chunk0 A c 2 ∗ chunk0 A c 3 ∗ chunk0 A c 4 ∗ chunk0 A c 5 ∗ chunk0 A c 6 ∗ bigSep Finset.univ (agIn c) ∗ own0 A c ∗ semVal (cell c barL) 0 ∗ ow c l) -∗ Q w0) -∗ run c (P11 F c (SemArray.scalar (sig.barrier 0 rfl)) mask v156 v168 v180 (v233 w) (v252 w) (v268 w) (v284 w) (v300 w) (v316 w) (v332 w) (v348 w) (k0_pay17 (v236 w)) (k0_pay18 (ldK w ![0, 0, 7, 0] inb_S2x512x8x64_S1x512x1x64_0_0_7_0))) Q) := by
  unfold P11; rw [k0_part11_eq_skeleton]; unfold k0_part11_skel
  iintro ⟨#HI, #HL, I, SB, CB, AB, TR, TA, HO⟩ Hk
  unfold inp
  icases I with ⟨I0, I1, I2, I3, I4⟩
  iapply (load_step c (Finset.subset_univ _)) $$ [I3]
  · iexact I3
  iintro I3
  icases SB with ⟨%f, SB⟩
  iapply (load_step c (acc_sub _)) $$ [SB]
  · iexact SB
  iintro SB
  iapply (store_step c (acc_sub _)) $$ [SB]
  · iexact SB
  iintro SB
  ihave SB := (stored0 A c f _ h0) $$ [SB]
  · iexact SB
  iapply (bar_step A κ c _ (over_append (over_rs0 c 0) (over_append (over_rs0 c 1) hl)) rfl) $$ [CB AB HO]
  · isplitr; · iexact HI
    isplitr; · iexact HL
    isplitl [CB]; · iexact CB
    isplitl [AB]; · iexact AB
    iexact HO
  iintro ⟨HB, VB, HO⟩
  ihave HR := (ready c) $$ [HB TR TA]
  · isplitl [HB]; · iexact HB
    isplitl [TR]; · iexact TR
    iexact TA
  icases HR with ⟨⟨R0, R1, R2, R3, R4, R5, R6⟩, AG⟩
  ihave SC := (half0_list A c) $$ [SB]
  · iexact SB
  icases SC with ⟨O0, C0, C1, C2, C3, C4, C5, C6⟩
  iapply (rs_start0 A κ c 0 _ (rs_cond1 c) (rs_dev1 c) (rs_off1 c)
      (dst := rM.slice (Rect.unit (s := S896x768) ![768, 0] S128x768.size inb_S896x768_S128x768_768_0) (fun _ => rfl)) rfl
      (s1 := ((cc0_scratch2.slice (Rect.unit (s := S7) ![0] S1.size inb_S7_S1_0)).squeeze S_ squeezes_S1_S_).sem)
      (s2 := ((cc0_scratch3.slice (Rect.unit (s := S7) ![6] S1.size inb_S7_S1_6)).squeeze S_ squeezes_S1_S_).sem) rfl rfl) $$ [R0 C0 HO]
  · isplitr; · iexact HI
    isplitl [R0]; · iexact R0
    isplitl [C0]; · iexact C0
    iexact HO
  iintro ⟨M0, HO⟩
  iapply (rs_start0 A κ c 1 _ (rs_cond2 c) (rs_dev2 c) (rs_off2 c)
      (dst := rM.slice (Rect.unit (s := S896x768) ![640, 0] S128x768.size inb_S896x768_S128x768_640_0) (fun _ => rfl)) rfl
      (s1 := ((cc0_scratch2.slice (Rect.unit (s := S7) ![1] S1.size inb_S7_S1_1)).squeeze S_ squeezes_S1_S_).sem)
      (s2 := ((cc0_scratch3.slice (Rect.unit (s := S7) ![5] S1.size inb_S7_S1_5)).squeeze S_ squeezes_S1_S_).sem) rfl rfl) $$ [R1 C1 HO]
  · isplitr; · iexact HI
    isplitl [R1]; · iexact R1
    isplitl [C1]; · iexact C1
    iexact HO
  iintro ⟨M1, HO⟩
  iapply run_pure
  iapply Hk
  isplitl [I0 I1 I2 I3 I4]
  · isplitl [I0]; · iexact I0
    isplitl [I1]; · iexact I1
    isplitl [I2]; · iexact I2
    isplitl [I3]; · iexact I3
    iexact I4
  isplitl [M0]; · iexact M0
  isplitl [M1]; · iexact M1
  isplitl [R2]; · iexact R2
  isplitl [R3]; · iexact R3
  isplitl [R4]; · iexact R4
  isplitl [R5]; · iexact R5
  isplitl [R6]; · iexact R6
  isplitl [C2]; · iexact C2
  isplitl [C3]; · iexact C3
  isplitl [C4]; · iexact C4
  isplitl [C5]; · iexact C5
  isplitl [C6]; · iexact C6
  isplitl [AG]; · iexact AG
  isplitl [O0]; · iexact O0
  isplitl [VB]; · iexact VB
  iexact HO

theorem part12 (c : Dev nD) (v180 : BitVec 32) (v192 : BitVec 32) (v204 : BitVec 32) (v216 : BitVec 32) (v228 : BitVec 32) (v384 : BitVec 1) (w : Staged F) (l : List (Pay nD τ sig)) {Q : (Σ' (v409 : FVec F S512x512 .f32), FVec F S512x64 .bf16) → sProp 𝕄} :
    iprop(invs A κ ∗ inp c w ∗ rsIn c 2 ∗ rsIn c 3 ∗ rsIn c 4 ∗ rsIn c 5 ∗ rsIn c 6 ∗ chunk0 A c 2 ∗ chunk0 A c 3 ∗ chunk0 A c 4 ∗ chunk0 A c 5 ∗ chunk0 A c 6 ∗ ow c (rsDue0 c 2 ++ (rsDue0 c 3 ++ (rsDue0 c 4 ++ (rsDue0 c 5 ++ (rsDue0 c 6 ++ l))))))
      ⊢ iprop(((inp c w ∗ mid c 2 ∗ mid c 3 ∗ mid c 4 ∗ mid c 5 ∗ mid c 6 ∗ ow c l) -∗ Q ⟨(v409 w), (k0_pay21 (v231 w) (ldX w ![1, 0, 0] inb_S2x512x768_S1x512x768_1_0_0))⟩) -∗ run c (P12 F c v180 v192 v204 v216 v228 (v231 w) v384) Q) := by
  unfold P12; rw [k0_part12_eq_skeleton]; unfold k0_part12_skel
  iintro ⟨#HI, I, R2, R3, R4, R5, R6, C2, C3, C4, C5, C6, HO⟩ Hk
  unfold inp
  icases I with ⟨I0, I1, I2, I3, I4⟩
  iapply (rs_start0 A κ c 2 _ (rs_cond3 c) (rs_dev3 c) (rs_off3 c)
      (dst := rM.slice (Rect.unit (s := S896x768) ![512, 0] S128x768.size inb_S896x768_S128x768_512_0) (fun _ => rfl)) rfl
      (s1 := ((cc0_scratch2.slice (Rect.unit (s := S7) ![2] S1.size inb_S7_S1_2)).squeeze S_ squeezes_S1_S_).sem)
      (s2 := ((cc0_scratch3.slice (Rect.unit (s := S7) ![4] S1.size inb_S7_S1_4)).squeeze S_ squeezes_S1_S_).sem) rfl rfl) $$ [R2 C2 HO]
  · isplitr; · iexact HI
    isplitl [R2]; · iexact R2
    isplitl [C2]; · iexact C2
    iexact HO
  iintro ⟨M2, HO⟩
  iapply (rs_start0 A κ c 3 _ (rs_cond4 c) (rs_dev4 c) (rs_off4 c)
      (dst := rM.slice (Rect.unit (s := S896x768) ![384, 0] S128x768.size inb_S896x768_S128x768_384_0) (fun _ => rfl)) rfl
      (s1 := ((cc0_scratch2.slice (Rect.unit (s := S7) ![3] S1.size inb_S7_S1_3)).squeeze S_ squeezes_S1_S_).sem)
      (s2 := ((cc0_scratch3.slice (Rect.unit (s := S7) ![3] S1.size inb_S7_S1_3)).squeeze S_ squeezes_S1_S_).sem) rfl rfl) $$ [R3 C3 HO]
  · isplitr; · iexact HI
    isplitl [R3]; · iexact R3
    isplitl [C3]; · iexact C3
    iexact HO
  iintro ⟨M3, HO⟩
  iapply (rs_start0 A κ c 4 _ (rs_cond5 c) (rs_dev5 c) (rs_off5 c)
      (dst := rM.slice (Rect.unit (s := S896x768) ![256, 0] S128x768.size inb_S896x768_S128x768_256_0) (fun _ => rfl)) rfl
      (s1 := ((cc0_scratch2.slice (Rect.unit (s := S7) ![4] S1.size inb_S7_S1_4)).squeeze S_ squeezes_S1_S_).sem)
      (s2 := ((cc0_scratch3.slice (Rect.unit (s := S7) ![2] S1.size inb_S7_S1_2)).squeeze S_ squeezes_S1_S_).sem) rfl rfl) $$ [R4 C4 HO]
  · isplitr; · iexact HI
    isplitl [R4]; · iexact R4
    isplitl [C4]; · iexact C4
    iexact HO
  iintro ⟨M4, HO⟩
  iapply (rs_start0 A κ c 5 _ (rs_cond6 c) (rs_dev6 c) (rs_off6 c)
      (dst := rM.slice (Rect.unit (s := S896x768) ![128, 0] S128x768.size inb_S896x768_S128x768_128_0) (fun _ => rfl)) rfl
      (s1 := ((cc0_scratch2.slice (Rect.unit (s := S7) ![5] S1.size inb_S7_S1_5)).squeeze S_ squeezes_S1_S_).sem)
      (s2 := ((cc0_scratch3.slice (Rect.unit (s := S7) ![1] S1.size inb_S7_S1_1)).squeeze S_ squeezes_S1_S_).sem) rfl rfl) $$ [R5 C5 HO]
  · isplitr; · iexact HI
    isplitl [R5]; · iexact R5
    isplitl [C5]; · iexact C5
    iexact HO
  iintro ⟨M5, HO⟩
  iapply (rs_start0 A κ c 6 _ (rs_cond7 c) (rs_dev7 c) (rs_off7 c)
      (dst := rM.slice (Rect.unit (s := S896x768) ![0, 0] S128x768.size inb_S896x768_S128x768_0_0) (fun _ => rfl)) rfl
      (s1 := ((cc0_scratch2.slice (Rect.unit (s := S7) ![6] S1.size inb_S7_S1_6)).squeeze S_ squeezes_S1_S_).sem)
      (s2 := ((cc0_scratch3.slice (Rect.unit (s := S7) ![0] S1.size inb_S7_S1_0)).squeeze S_ squeezes_S1_S_).sem) rfl rfl) $$ [R6 C6 HO]
  · isplitr; · iexact HI
    isplitl [R6]; · iexact R6
    isplitl [C6]; · iexact C6
    iexact HO
  iintro ⟨M6, HO⟩
  iapply (load_step c (Finset.subset_univ _)) $$ [I0]
  · iexact I0
  iintro I0
  iapply run_pure
  iapply Hk
  isplitl [I0 I1 I2 I3 I4]
  · isplitl [I0]; · iexact I0
    isplitl [I1]; · iexact I1
    isplitl [I2]; · iexact I2
    isplitl [I3]; · iexact I3
    iexact I4
  isplitl [M2]; · iexact M2
  isplitl [M3]; · iexact M3
  isplitl [M4]; · iexact M4
  isplitl [M5]; · iexact M5
  isplitl [M6]; · iexact M6
  iexact HO

/-- The second half stored. -/
theorem part16 (c : Dev nD) (v156 : BitVec 32)
    (w : Staged F) (h1 : ∀ x, acc1.read (Elt F) (A.S c) x = half1 w x) {Q : (BitVec 32) → sProp 𝕄} :
    iprop(inp c w ∗ (∃ f, sOn c rows1 fullShare f))
      ⊢ iprop((∀ w0, (inp c w ∗ own1 A c ∗ chunk1 A c 0 ∗ chunk1 A c 1 ∗ chunk1 A c 2 ∗ chunk1 A c 3 ∗ chunk1 A c 4 ∗ chunk1 A c 5 ∗ chunk1 A c 6) -∗ Q w0) -∗ run c (P16 F mask v156 (v233 w) (v409 w) (v425 w) (v441 w) (v457 w) (v473 w) (v489 w) (v505 w) (k0_pay31 (v409 w)) (k0_pay32 (ldK w ![1, 0, 6, 0] inb_S2x512x8x64_S1x512x1x64_1_0_6_0)) (k0_pay33 (ldV w ![1, 0, 6, 0] inb_S2x512x8x64_S1x512x1x64_1_0_6_0)) (constant S512x512 .f32 0x00000000#32)) Q) := by
  unfold P16; rw [k0_part16_eq_skeleton]; unfold k0_part16_skel
  iintro ⟨I, SB⟩ Hk
  unfold inp
  icases I with ⟨I0, I1, I2, I3, I4⟩
  iapply (load_step c (Finset.subset_univ _)) $$ [I2]
  · iexact I2
  iintro I2
  iapply (load_step c (Finset.subset_univ _)) $$ [I3]
  · iexact I3
  iintro I3
  icases SB with ⟨%f, SB⟩
  iapply (load_step c (acc_sub _)) $$ [SB]
  · iexact SB
  iintro SB
  iapply (store_step c (acc_sub _)) $$ [SB]
  · iexact SB
  iintro SB
  ihave SB := (stored1 A c f _ h1) $$ [SB]
  · iexact SB
  ihave SC := (half1_list A c) $$ [SB]
  · iexact SB
  icases SC with ⟨O1, C0, C1, C2, C3, C4, C5, C6⟩
  iapply run_pure
  iapply Hk
  isplitl [I0 I1 I2 I3 I4]
  · isplitl [I0]; · iexact I0
    isplitl [I1]; · iexact I1
    isplitl [I2]; · iexact I2
    isplitl [I3]; · iexact I3
    iexact I4
  isplitl [O1]; · iexact O1
  isplitl [C0]; · iexact C0
  isplitl [C1]; · iexact C1
  isplitl [C2]; · iexact C2
  isplitl [C3]; · iexact C3
  isplitl [C4]; · iexact C4
  isplitl [C5]; · iexact C5
  iexact C6

theorem part17 (c : Dev nD) (v156 : BitVec 32) (v168 : BitVec 32) (v180 : BitVec 32) (v192 : BitVec 32) (v204 : BitVec 32) (v216 : BitVec 32) (v228 : BitVec 32) (v548 : BitVec 32) (l : List (Pay nD τ sig)) {Q : (BitVec 1) → sProp 𝕄} :
    iprop(invs A κ ∗ mid c 0 ∗ mid c 1 ∗ mid c 2 ∗ mid c 3 ∗ mid c 4 ∗ mid c 5 ∗ chunk1 A c 0 ∗ chunk1 A c 1 ∗ chunk1 A c 2 ∗ chunk1 A c 3 ∗ chunk1 A c 4 ∗ chunk1 A c 5 ∗ ow c (rsDue1 c 0 ++ (rsDue1 c 1 ++ (rsDue1 c 2 ++ (rsDue1 c 3 ++ (rsDue1 c 4 ++ (rsDue1 c 5 ++ l)))))))
      ⊢ iprop((∀ w0, (crd c (rsS 0) 0 ∗ crd c (rsS 1) 0 ∗ crd c (rsS 2) 0 ∗ crd c (rsS 3) 0 ∗ crd c (rsS 4) 0 ∗ crd c (rsS 5) 0 ∗ ow c l) -∗ Q w0) -∗ run c (P17 F c v156 v168 v180 v192 v204 v216 v228 v548) Q) := by
  unfold P17; rw [k0_part17_eq_skeleton]; unfold k0_part17_skel
  iintro ⟨#HI, M0, M1, M2, M3, M4, M5, C0, C1, C2, C3, C4, C5, HO⟩ Hk
  iapply (rs_start1 A κ c 0 _ (rs_cond8 c) (rs_dev8 c) (rs_off8 c)
      (dst := rM.slice (Rect.unit (s := S896x768) ![768, 0] S128x768.size inb_S896x768_S128x768_768_0) (fun _ => rfl)) rfl
      (s1 := ((cc0_scratch2.slice (Rect.unit (s := S7) ![0] S1.size inb_S7_S1_0)).squeeze S_ squeezes_S1_S_).sem)
      (s2 := ((cc0_scratch3.slice (Rect.unit (s := S7) ![6] S1.size inb_S7_S1_6)).squeeze S_ squeezes_S1_S_).sem) rfl rfl) $$ [M0 C0 HO]
  · isplitr; · iexact HI
    isplitl [M0]; · iexact M0
    isplitl [C0]; · iexact C0
    iexact HO
  iintro ⟨X0, HO⟩
  iapply (rs_start1 A κ c 1 _ (rs_cond9 c) (rs_dev9 c) (rs_off9 c)
      (dst := rM.slice (Rect.unit (s := S896x768) ![640, 0] S128x768.size inb_S896x768_S128x768_640_0) (fun _ => rfl)) rfl
      (s1 := ((cc0_scratch2.slice (Rect.unit (s := S7) ![1] S1.size inb_S7_S1_1)).squeeze S_ squeezes_S1_S_).sem)
      (s2 := ((cc0_scratch3.slice (Rect.unit (s := S7) ![5] S1.size inb_S7_S1_5)).squeeze S_ squeezes_S1_S_).sem) rfl rfl) $$ [M1 C1 HO]
  · isplitr; · iexact HI
    isplitl [M1]; · iexact M1
    isplitl [C1]; · iexact C1
    iexact HO
  iintro ⟨X1, HO⟩
  iapply (rs_start1 A κ c 2 _ (rs_cond10 c) (rs_dev10 c) (rs_off10 c)
      (dst := rM.slice (Rect.unit (s := S896x768) ![512, 0] S128x768.size inb_S896x768_S128x768_512_0) (fun _ => rfl)) rfl
      (s1 := ((cc0_scratch2.slice (Rect.unit (s := S7) ![2] S1.size inb_S7_S1_2)).squeeze S_ squeezes_S1_S_).sem)
      (s2 := ((cc0_scratch3.slice (Rect.unit (s := S7) ![4] S1.size inb_S7_S1_4)).squeeze S_ squeezes_S1_S_).sem) rfl rfl) $$ [M2 C2 HO]
  · isplitr; · iexact HI
    isplitl [M2]; · iexact M2
    isplitl [C2]; · iexact C2
    iexact HO
  iintro ⟨X2, HO⟩
  iapply (rs_start1 A κ c 3 _ (rs_cond11 c) (rs_dev11 c) (rs_off11 c)
      (dst := rM.slice (Rect.unit (s := S896x768) ![384, 0] S128x768.size inb_S896x768_S128x768_384_0) (fun _ => rfl)) rfl
      (s1 := ((cc0_scratch2.slice (Rect.unit (s := S7) ![3] S1.size inb_S7_S1_3)).squeeze S_ squeezes_S1_S_).sem)
      (s2 := ((cc0_scratch3.slice (Rect.unit (s := S7) ![3] S1.size inb_S7_S1_3)).squeeze S_ squeezes_S1_S_).sem) rfl rfl) $$ [M3 C3 HO]
  · isplitr; · iexact HI
    isplitl [M3]; · iexact M3
    isplitl [C3]; · iexact C3
    iexact HO
  iintro ⟨X3, HO⟩
  iapply (rs_start1 A κ c 4 _ (rs_cond12 c) (rs_dev12 c) (rs_off12 c)
      (dst := rM.slice (Rect.unit (s := S896x768) ![256, 0] S128x768.size inb_S896x768_S128x768_256_0) (fun _ => rfl)) rfl
      (s1 := ((cc0_scratch2.slice (Rect.unit (s := S7) ![4] S1.size inb_S7_S1_4)).squeeze S_ squeezes_S1_S_).sem)
      (s2 := ((cc0_scratch3.slice (Rect.unit (s := S7) ![2] S1.size inb_S7_S1_2)).squeeze S_ squeezes_S1_S_).sem) rfl rfl) $$ [M4 C4 HO]
  · isplitr; · iexact HI
    isplitl [M4]; · iexact M4
    isplitl [C4]; · iexact C4
    iexact HO
  iintro ⟨X4, HO⟩
  iapply (rs_start1 A κ c 5 _ (rs_cond13 c) (rs_dev13 c) (rs_off13 c)
      (dst := rM.slice (Rect.unit (s := S896x768) ![128, 0] S128x768.size inb_S896x768_S128x768_128_0) (fun _ => rfl)) rfl
      (s1 := ((cc0_scratch2.slice (Rect.unit (s := S7) ![5] S1.size inb_S7_S1_5)).squeeze S_ squeezes_S1_S_).sem)
      (s2 := ((cc0_scratch3.slice (Rect.unit (s := S7) ![1] S1.size inb_S7_S1_1)).squeeze S_ squeezes_S1_S_).sem) rfl rfl) $$ [M5 C5 HO]
  · isplitr; · iexact HI
    isplitl [M5]; · iexact M5
    isplitl [C5]; · iexact C5
    iexact HO
  iintro ⟨X5, HO⟩
  iapply run_pure
  iapply Hk
  isplitl [X0]; · iexact X0
  isplitl [X1]; · iexact X1
  isplitl [X2]; · iexact X2
  isplitl [X3]; · iexact X3
  isplitl [X4]; · iexact X4
  isplitl [X5]; · iexact X5
  iexact HO

end Cert.KernelIdeal.Run
-- ==== Proof.Sums.lean ====
/-
  The kernel's pieces that end the first exchange, add up the chunks received, and spread the finished chunk to every device.
-/
module

public import proofs.«01_k».proof.Proof.Sends

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal.Gen

variable {F : FTy → Type} [FloatOps F]

local notation "𝕄" => MT nD τ sig ℕ (Elt F) ℕ UU ℕ

variable (A : Data F) (κ : GSem nD τ sig → ℕ)

/-! ## What a device adds up -/

/-- The device's own chunk, read. -/
abbrev ldS (c : Dev nD) : Vec F S128x768 .bf16 :=
  (sM.access (Rect.unit (s := S1024x768) (k0_off15 c) S128x768.size (k0_off15_inb c))).read (Elt F) (A.S c)
/-- A slot of the receive buffer, read. -/
abbrev ldR (c : Dev nD) (off : Fin 2 → ℕ) (inb : ∀ a, off a + S128x768.size a ≤ S896x768.size a) : Vec F S128x768 .bf16 :=
  (rM.access (Rect.unit (s := S896x768) off S128x768.size inb)).read (Elt F) (rcv A c)

abbrev v596 (c : Dev nD) : FVec F S128x768 .f32 := k0_pay35 (ldS A c) (ldR A c ![768, 0] inb_S896x768_S128x768_768_0)
abbrev v622 (c : Dev nD) : FVec F S128x768 .f32 := k0_pay36 (v596 A c) (ldR A c ![640, 0] inb_S896x768_S128x768_640_0) (ldR A c ![512, 0] inb_S896x768_S128x768_512_0)
abbrev v648 (c : Dev nD) : FVec F S128x768 .f32 := k0_pay37 (v622 A c) (ldR A c ![384, 0] inb_S896x768_S128x768_384_0) (ldR A c ![256, 0] inb_S896x768_S128x768_256_0)
/-- The sum a device makes of its chunk and the seven received. -/
abbrev red (c : Dev nD) : FVec F S128x768 .bf16 := k0_pay38 (v648 A c) (ldR A c ![128, 0] inb_S896x768_S128x768_128_0) (ldR A c ![0, 0] inb_S896x768_S128x768_0_0)
theorem red_eq (c : Dev nD) : k0_pay39 (v648 A c) (ldR A c ![128, 0] inb_S896x768_S128x768_128_0) (ldR A c ![0, 0] inb_S896x768_S128x768_0_0) = red A c := shapeCast_self _ _

/-! ## Waits -/

theorem credit_any (dst : Memref sig .tc .vmem S128x768 .bf16) : dst.view.dmaCredit = N := rfl

section Waits

variable (c : Dev nD) (j : Fin 7) (l : List (Pay nD τ sig)) {s1 : DmaSem sig} {src dst : Memref sig .tc .vmem S128x768 .bf16}
  {hsrc : src.view.WordExact} {hdst : dst.view.WordExact}
  {α : Type} {k : PUnit → Prog (TpuEff nD τ sig (Elt F) Λ₀ .tc) α}

/-- A copy of the first exchange has left: its chunk comes back. -/
theorem wait_rsS (h1 : SemLoc.dma s1 = rsS j) (hl : Over 0 l) {Q : α → sProp 𝕄} :
    iprop(invs A κ ∗ lvs ∗ crd c (rsS j) 0 ∗ at0 c (rsS j) ∗ ow c l)
      ⊢ iprop(((pc sM c (peer c j) fullShare (A.S c) ∗ semVal (cell c (rsS j)) 0 ∗ ow c l) -∗ run c (k ⟨⟩) Q)
        -∗ run c (Prog.lift (.waitDma2 s1 src dst hsrc hdst) >>= k) Q) := by
  have h := wait_step A κ c (mem_rsS j) (comm_rsS j) 0 (by decide) l hl h1 (credit_any dst) (src := src) (hsrc := hsrc) (hdst := hdst) (k := k) (Q := Q)
  rw [use_rsS] at h
  exact h

/-- A copy of the first exchange has come: the slot holds it. -/
theorem wait_rsR (h1 : SemLoc.dma s1 = rsR j) (hl : Over 2 l) {Q : α → sProp 𝕄} :
    iprop(invs A κ ∗ lvs ∗ crd c (rsR j) 2 ∗ at0 c (rsR j) ∗ ow c l)
      ⊢ iprop(((ps c j (rcv A c) ∗ semVal (cell c (rsR j)) 0 ∗ ow c l) -∗ run c (k ⟨⟩) Q)
        -∗ run c (Prog.lift (.waitDma2 s1 src dst hsrc hdst) >>= k) Q) := by
  have h := wait_step A κ c (mem_rsR j) (comm_rsR j) 2 (by decide) l hl h1 (credit_any dst) (src := src) (hsrc := hsrc) (hdst := hdst) (k := k) (Q := Q)
  rw [use_rsR] at h
  exact h

/-- A copy of the second exchange has left. -/
theorem wait_agS (h1 : SemLoc.dma s1 = agS j) (hl : Over 0 l) {Q : α → sProp 𝕄} :
    iprop(invs A κ ∗ lvs ∗ crd c (agS j) 0 ∗ at0 c (agS j) ∗ ow c l)
      ⊢ iprop(((pc sM c c (shareOf j) A.T ∗ semVal (cell c (agS j)) 0 ∗ ow c l) -∗ run c (k ⟨⟩) Q)
        -∗ run c (Prog.lift (.waitDma2 s1 src dst hsrc hdst) >>= k) Q) := by
  have h := wait_step A κ c (mem_agS j) (comm_agS j) 0 (by decide) l hl h1 (credit_any dst) (src := src) (hsrc := hsrc) (hdst := hdst) (k := k) (Q := Q)
  rw [use_agS] at h
  exact h

/-- A copy of the second exchange has come. -/
theorem wait_agR (h1 : SemLoc.dma s1 = agR j) (hl : Over 3 l) {Q : α → sProp 𝕄} :
    iprop(invs A κ ∗ lvs ∗ crd c (agR j) 3 ∗ at0 c (agR j) ∗ ow c l)
      ⊢ iprop(((pc oM c (peer c j) fullShare A.T ∗ semVal (cell c (agR j)) 0 ∗ ow c l) -∗ run c (k ⟨⟩) Q)
        -∗ run c (Prog.lift (.waitDma2 s1 src dst hsrc hdst) >>= k) Q) := by
  have h := wait_step A κ c (mem_agR j) (comm_agR j) 3 (by decide) l hl h1 (credit_any dst) (src := src) (hsrc := hsrc) (hdst := hdst) (k := k) (Q := Q)
  rw [use_agR] at h
  exact h

end Waits

theorem sub_slot (j : Fin 7) {off : Fin 2 → ℕ} {inb : ∀ a, off a + S128x768.size a ≤ S896x768.size a} (ho : off = rowOff j.val) :
    (rM.access (Rect.unit (s := S896x768) off S128x768.size inb)).set ⊆ (slot j).view.set := by subst ho; exact Finset.Subset.refl _
theorem sub_chunk (M : Memref sig .tc .vmem S1024x768 .bf16) (c : Dev nD) {off : Fin 2 → ℕ} {inb : ∀ a, off a + S128x768.size a ≤ S1024x768.size a} (ho : off = rowOff c.val) :
    (M.access (Rect.unit (s := S1024x768) off S128x768.size inb)).set ⊆ (chunk M c).view.set := by subst ho; exact Finset.Subset.refl _

/-- The sum stored over the device's own chunk of the send buffer, and of the output. -/
theorem stored_s (c : Dev nD) (f : Big F) {off : Fin 2 → ℕ} {inb : ∀ a, off a + S128x768.size a ≤ S1024x768.size a} (ho : off = rowOff c.val)
    (w : FVec F S128x768 .bf16) (h : ∀ x, (chunk sM c).view.read (Elt F) A.T x = w x) :
    ((c : Thread nD τ).loc cc0_scratch0 ↦[(chunk sM c).view.set]{fullShare}
      ((sM.access (Rect.unit (s := S1024x768) off S128x768.size inb)).write (Elt F) f w Finset.univ) : sProp 𝕄) ⊢ pc sM c c fullShare A.T := by
  subst ho
  exact Entails.of_eq (landed c (chunk sM c).view fullShare f A.T w h)
@[inherit_doc stored_s] theorem stored_o (c : Dev nD) (f : Big F) {off : Fin 2 → ℕ} {inb : ∀ a, off a + S128x768.size a ≤ S1024x768.size a} (ho : off = rowOff c.val)
    (w : FVec F S128x768 .bf16) (h : ∀ x, (chunk sM c).view.read (Elt F) A.T x = w x) :
    ((c : Thread nD τ).loc cc0_stg5_0 ↦[(chunk oM c).view.set]{fullShare}
      ((oM.access (Rect.unit (s := S1024x768) off S128x768.size inb)).write (Elt F) f w Finset.univ) : sProp 𝕄) ⊢ pc oM c c fullShare A.T := by
  subst ho
  exact Entails.of_eq (landed c (chunk oM c).view fullShare f A.T w h)

/-! ## The pieces -/

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39

theorem part18 (c : Dev nD) (v2 : BitVec 32) (v156 : BitVec 32) (v168 : BitVec 32) (v228 : BitVec 32) (v575 : BitVec 1) (l : List (Pay nD τ sig)) (hl : Over 2 l) {Q : (Σ' (v596 : FVec F S128x768 .f32), BitVec 32) → sProp 𝕄} :
    iprop(invs A κ ∗ lvs ∗ mid c 6 ∗ chunk1 A c 6 ∗ pc sM c c fullShare (A.S c) ∗ crd c (rsS 0) 0 ∗ crd c (rsR 6) 2 ∗ crd c (rsS 1) 0 ∗ at0 c (rsS 0) ∗ at0 c (rsR 6) ∗ at0 c (rsS 1) ∗ ow c (rsDue1 c 6 ++ l))
      ⊢ iprop((∀ w1, (crd c (rsS 6) 0 ∗ pc sM c c fullShare (A.S c) ∗ pc sM c (peer c 0) fullShare (A.S c) ∗ ps c 6 (rcv A c) ∗ pc sM c (peer c 1) fullShare (A.S c) ∗ semVal (cell c (rsS 0)) 0 ∗ semVal (cell c (rsR 6)) 0 ∗ semVal (cell c (rsS 1)) 0 ∗ ow c l) -∗ Q ⟨(v596 A c), w1⟩) -∗ run c (P18 F c v2 v156 v168 v228 v575) Q) := by
  unfold P18; rw [k0_part18_eq_skeleton]; unfold k0_part18_skel
  iintro ⟨#HI, #HL, M6, C6, OW, XrsS0, XrsR6, XrsS1, ArsS0, ArsR6, ArsS1, HO⟩ Hk
  iapply (rs_start1 A κ c 6 _ (rs_cond14 c) (rs_dev14 c) (rs_off14 c)
      (dst := rM.slice (Rect.unit (s := S896x768) ![0, 0] S128x768.size inb_S896x768_S128x768_0_0) (fun _ => rfl)) rfl
      (s1 := ((cc0_scratch2.slice (Rect.unit (s := S7) ![6] S1.size inb_S7_S1_6)).squeeze S_ squeezes_S1_S_).sem)
      (s2 := ((cc0_scratch3.slice (Rect.unit (s := S7) ![0] S1.size inb_S7_S1_0)).squeeze S_ squeezes_S1_S_).sem) rfl rfl) $$ [M6 C6 HO]
  · isplitr; · iexact HI
    isplitl [M6]; · iexact M6
    isplitl [C6]; · iexact C6
    iexact HO
  iintro ⟨XX6, HO⟩
  iapply (load_step c (m := sM) (r := Rect.unit (s := S1024x768) (k0_off15 c) S128x768.size (k0_off15_inb c)) (S := (chunk sM c).view.set) (sub_chunk sM c (off15_eq c))) $$ [OW]
  · iexact OW
  iintro OW
  iapply (wait_rsS A κ c 0 l (s1 := ((cc0_scratch2.slice (Rect.unit (s := S7) ![0] S1.size inb_S7_S1_0)).squeeze S_ squeezes_S1_S_).sem) rfl (over_mono (by omega) hl)) $$ [XrsS0 ArsS0 HO]
  · isplitr; · iexact HI
    isplitr; · iexact HL
    isplitl [XrsS0]; · iexact XrsS0
    isplitl [ArsS0]; · iexact ArsS0
    iexact HO
  iintro ⟨PrsS0, VrsS0, HO⟩
  iapply (wait_rsR A κ c 6 l (s1 := ((cc0_scratch3.slice (Rect.unit (s := S7) ![6] S1.size inb_S7_S1_6)).squeeze S_ squeezes_S1_S_).sem) rfl hl) $$ [XrsR6 ArsR6 HO]
  · isplitr; · iexact HI
    isplitr; · iexact HL
    isplitl [XrsR6]; · iexact XrsR6
    isplitl [ArsR6]; · iexact ArsR6
    iexact HO
  iintro ⟨PrsR6, VrsR6, HO⟩
  iapply (load_step c (m := rM) (r := Rect.unit (s := S896x768) ![768, 0] S128x768.size inb_S896x768_S128x768_768_0) (S := (slot 6).view.set) (sub_slot 6 rfl)) $$ [PrsR6]
  · iexact PrsR6
  iintro PrsR6
  iapply (wait_rsS A κ c 1 l (s1 := ((cc0_scratch2.slice (Rect.unit (s := S7) ![1] S1.size inb_S7_S1_1)).squeeze S_ squeezes_S1_S_).sem) rfl (over_mono (by omega) hl)) $$ [XrsS1 ArsS1 HO]
  · isplitr; · iexact HI
    isplitr; · iexact HL
    isplitl [XrsS1]; · iexact XrsS1
    isplitl [ArsS1]; · iexact ArsS1
    iexact HO
  iintro ⟨PrsS1, VrsS1, HO⟩
  iapply run_pure
  iapply Hk
  isplitl [XX6]; · iexact XX6
  isplitl [OW]; · iexact OW
  isplitl [PrsS0]; · iexact PrsS0
  isplitl [PrsR6]; · iexact PrsR6
  isplitl [PrsS1]; · iexact PrsS1
  isplitl [VrsS0]; · iexact VrsS0
  isplitl [VrsR6]; · iexact VrsR6
  isplitl [VrsS1]; · iexact VrsS1
  iexact HO

theorem part19 (c : Dev nD) (v180 : BitVec 32) (v192 : BitVec 32) (v601 : BitVec 32) (l : List (Pay nD τ sig)) (hl : Over 2 l) {Q : (Σ' (v622 : FVec F S128x768 .f32), BitVec 32) → sProp 𝕄} :
    iprop(invs A κ ∗ lvs ∗ crd c (rsR 5) 2 ∗ crd c (rsS 2) 0 ∗ crd c (rsR 4) 2 ∗ crd c (rsS 3) 0 ∗ at0 c (rsR 5) ∗ at0 c (rsS 2) ∗ at0 c (rsR 4) ∗ at0 c (rsS 3) ∗ ow c l)
      ⊢ iprop((∀ w1, (ps c 5 (rcv A c) ∗ pc sM c (peer c 2) fullShare (A.S c) ∗ ps c 4 (rcv A c) ∗ pc sM c (peer c 3) fullShare (A.S c) ∗ semVal (cell c (rsR 5)) 0 ∗ semVal (cell c (rsS 2)) 0 ∗ semVal (cell c (rsR 4)) 0 ∗ semVal (cell c (rsS 3)) 0 ∗ ow c l) -∗ Q ⟨(v622 A c), w1⟩) -∗ run c (P19 F c v180 v192 (v596 A c) v601) Q) := by
  unfold P19; rw [k0_part19_eq_skeleton]; unfold k0_part19_skel
  iintro ⟨#HI, #HL, XrsR5, XrsS2, XrsR4, XrsS3, ArsR5, ArsS2, ArsR4, ArsS3, HO⟩ Hk
  iapply (wait_rsR A κ c 5 l (s1 := ((cc0_scratch3.slice (Rect.unit (s := S7) ![5] S1.size inb_S7_S1_5)).squeeze S_ squeezes_S1_S_).sem) rfl hl) $$ [XrsR5 ArsR5 HO]
  · isplitr; · iexact HI
    isplitr; · iexact HL
    isplitl [XrsR5]; · iexact XrsR5
    isplitl [ArsR5]; · iexact ArsR5
    iexact HO
  iintro ⟨PrsR5, VrsR5, HO⟩
  iapply (load_step c (m := rM) (r := Rect.unit (s := S896x768) ![640, 0] S128x768.size inb_S896x768_S128x768_640_0) (S := (slot 5).view.set) (sub_slot 5 rfl)) $$ [PrsR5]
  · iexact PrsR5
  iintro PrsR5
  iapply (wait_rsS A κ c 2 l (s1 := ((cc0_scratch2.slice (Rect.unit (s := S7) ![2] S1.size inb_S7_S1_2)).squeeze S_ squeezes_S1_S_).sem) rfl (over_mono (by omega) hl)) $$ [XrsS2 ArsS2 HO]
  · isplitr; · iexact HI
    isplitr; · iexact HL
    isplitl [XrsS2]; · iexact XrsS2
    isplitl [ArsS2]; · iexact ArsS2
    iexact HO
  iintro ⟨PrsS2, VrsS2, HO⟩
  iapply (wait_rsR A κ c 4 l (s1 := ((cc0_scratch3.slice (Rect.unit (s := S7) ![4] S1.size inb_S7_S1_4)).squeeze S_ squeezes_S1_S_).sem) rfl hl) $$ [XrsR4 ArsR4 HO]
  · isplitr; · iexact HI
    isplitr; · iexact HL
    isplitl [XrsR4]; · iexact XrsR4
    isplitl [ArsR4]; · iexact ArsR4
    iexact HO
  iintro ⟨PrsR4, VrsR4, HO⟩
  iapply (load_step c (m := rM) (r := Rect.unit (s := S896x768) ![512, 0] S128x768.size inb_S896x768_S128x768_512_0) (S := (slot 4).view.set) (sub_slot 4 rfl)) $$ [PrsR4]
  · iexact PrsR4
  iintro PrsR4
  iapply (wait_rsS A κ c 3 l (s1 := ((cc0_scratch2.slice (Rect.unit (s := S7) ![3] S1.size inb_S7_S1_3)).squeeze S_ squeezes_S1_S_).sem) rfl (over_mono (by omega) hl)) $$ [XrsS3 ArsS3 HO]
  · isplitr; · iexact HI
    isplitr; · iexact HL
    isplitl [XrsS3]; · iexact XrsS3
    isplitl [ArsS3]; · iexact ArsS3
    iexact HO
  iintro ⟨PrsS3, VrsS3, HO⟩
  iapply run_pure
  iapply Hk
  isplitl [PrsR5]; · iexact PrsR5
  isplitl [PrsS2]; · iexact PrsS2
  isplitl [PrsR4]; · iexact PrsR4
  isplitl [PrsS3]; · iexact PrsS3
  isplitl [VrsR5]; · iexact VrsR5
  isplitl [VrsS2]; · iexact VrsS2
  isplitl [VrsR4]; · iexact VrsR4
  isplitl [VrsS3]; · iexact VrsS3
  iexact HO

theorem part20 (c : Dev nD) (v204 : BitVec 32) (v216 : BitVec 32) (v627 : BitVec 32) (l : List (Pay nD τ sig)) (hl : Over 2 l) {Q : (Σ' (v648 : FVec F S128x768 .f32), BitVec 32) → sProp 𝕄} :
    iprop(invs A κ ∗ lvs ∗ crd c (rsR 3) 2 ∗ crd c (rsS 4) 0 ∗ crd c (rsR 2) 2 ∗ crd c (rsS 5) 0 ∗ at0 c (rsR 3) ∗ at0 c (rsS 4) ∗ at0 c (rsR 2) ∗ at0 c (rsS 5) ∗ ow c l)
      ⊢ iprop((∀ w1, (ps c 3 (rcv A c) ∗ pc sM c (peer c 4) fullShare (A.S c) ∗ ps c 2 (rcv A c) ∗ pc sM c (peer c 5) fullShare (A.S c) ∗ semVal (cell c (rsR 3)) 0 ∗ semVal (cell c (rsS 4)) 0 ∗ semVal (cell c (rsR 2)) 0 ∗ semVal (cell c (rsS 5)) 0 ∗ ow c l) -∗ Q ⟨(v648 A c), w1⟩) -∗ run c (P20 F c v204 v216 (v622 A c) v627) Q) := by
  unfold P20; rw [k0_part20_eq_skeleton]; unfold k0_part20_skel
  iintro ⟨#HI, #HL, XrsR3, XrsS4, XrsR2, XrsS5, ArsR3, ArsS4, ArsR2, ArsS5, HO⟩ Hk
  iapply (wait_rsR A κ c 3 l (s1 := ((cc0_scratch3.slice (Rect.unit (s := S7) ![3] S1.size inb_S7_S1_3)).squeeze S_ squeezes_S1_S_).sem) rfl hl) $$ [XrsR3 ArsR3 HO]
  · isplitr; · iexact HI
    isplitr; · iexact HL
    isplitl [XrsR3]; · iexact XrsR3
    isplitl [ArsR3]; · iexact ArsR3
    iexact HO
  iintro ⟨PrsR3, VrsR3, HO⟩
  iapply (load_step c (m := rM) (r := Rect.unit (s := S896x768) ![384, 0] S128x768.size inb_S896x768_S128x768_384_0) (S := (slot 3).view.set) (sub_slot 3 rfl)) $$ [PrsR3]
  · iexact PrsR3
  iintro PrsR3
  iapply (wait_rsS A κ c 4 l (s1 := ((cc0_scratch2.slice (Rect.unit (s := S7) ![4] S1.size inb_S7_S1_4)).squeeze S_ squeezes_S1_S_).sem) rfl (over_mono (by omega) hl)) $$ [XrsS4 ArsS4 HO]
  · isplitr; · iexact HI
    isplitr; · iexact HL
    isplitl [XrsS4]; · iexact XrsS4
    isplitl [ArsS4]; · iexact ArsS4
    iexact HO
  iintro ⟨PrsS4, VrsS4, HO⟩
  iapply (wait_rsR A κ c 2 l (s1 := ((cc0_scratch3.slice (Rect.unit (s := S7) ![2] S1.size inb_S7_S1_2)).squeeze S_ squeezes_S1_S_).sem) rfl hl) $$ [XrsR2 ArsR2 HO]
  · isplitr; · iexact HI
    isplitr; · iexact HL
    isplitl [XrsR2]; · iexact XrsR2
    isplitl [ArsR2]; · iexact ArsR2
    iexact HO
  iintro ⟨PrsR2, VrsR2, HO⟩
  iapply (load_step c (m := rM) (r := Rect.unit (s := S896x768) ![256, 0] S128x768.size inb_S896x768_S128x768_256_0) (S := (slot 2).view.set) (sub_slot 2 rfl)) $$ [PrsR2]
  · iexact PrsR2
  iintro PrsR2
  iapply (wait_rsS A κ c 5 l (s1 := ((cc0_scratch2.slice (Rect.unit (s := S7) ![5] S1.size inb_S7_S1_5)).squeeze S_ squeezes_S1_S_).sem) rfl (over_mono (by omega) hl)) $$ [XrsS5 ArsS5 HO]
  · isplitr; · iexact HI
    isplitr; · iexact HL
    isplitl [XrsS5]; · iexact XrsS5
    isplitl [ArsS5]; · iexact ArsS5
    iexact HO
  iintro ⟨PrsS5, VrsS5, HO⟩
  iapply run_pure
  iapply Hk
  isplitl [PrsR3]; · iexact PrsR3
  isplitl [PrsS4]; · iexact PrsS4
  isplitl [PrsR2]; · iexact PrsR2
  isplitl [PrsS5]; · iexact PrsS5
  isplitl [VrsR3]; · iexact VrsR3
  isplitl [VrsS4]; · iexact VrsS4
  isplitl [VrsR2]; · iexact VrsR2
  isplitl [VrsS5]; · iexact VrsS5
  iexact HO

theorem part21 (c : Dev nD) (v2 : BitVec 32) (v228 : BitVec 32) (v653 : BitVec 32)
    (l : List (Pay nD τ sig)) (hl : Over 2 l) (hT : ∀ x, (chunk sM c).view.read (Elt F) A.T x = red A c x) {Q : PUnit → sProp 𝕄} :
    iprop(invs A κ ∗ lvs ∗ crd c (rsR 1) 2 ∗ crd c (rsS 6) 0 ∗ crd c (rsR 0) 2 ∗ at0 c (rsR 1) ∗ at0 c (rsS 6) ∗ at0 c (rsR 0) ∗ pc sM c c fullShare (A.S c) ∗ (∃ f, pc oM c c fullShare f) ∗ ow c l)
      ⊢ iprop(((ps c 1 (rcv A c) ∗ pc sM c (peer c 6) fullShare (A.S c) ∗ ps c 0 (rcv A c) ∗ semVal (cell c (rsR 1)) 0 ∗ semVal (cell c (rsS 6)) 0 ∗ semVal (cell c (rsR 0)) 0 ∗ pc sM c c fullShare A.T ∗ pc oM c c fullShare A.T ∗ ow c l) -∗ Q PUnit.unit) -∗ run c (P21 F c v2 v228 (v648 A c) v653) Q) := by
  unfold P21; rw [k0_part21_eq_skeleton]; unfold k0_part21_skel
  iintro ⟨#HI, #HL, XrsR1, XrsS6, XrsR0, ArsR1, ArsS6, ArsR0, OW, OO, HO⟩ Hk
  iapply (wait_rsR A κ c 1 l (s1 := ((cc0_scratch3.slice (Rect.unit (s := S7) ![1] S1.size inb_S7_S1_1)).squeeze S_ squeezes_S1_S_).sem) rfl hl) $$ [XrsR1 ArsR1 HO]
  · isplitr; · iexact HI
    isplitr; · iexact HL
    isplitl [XrsR1]; · iexact XrsR1
    isplitl [ArsR1]; · iexact ArsR1
    iexact HO
  iintro ⟨PrsR1, VrsR1, HO⟩
  iapply (load_step c (m := rM) (r := Rect.unit (s := S896x768) ![128, 0] S128x768.size inb_S896x768_S128x768_128_0) (S := (slot 1).view.set) (sub_slot 1 rfl)) $$ [PrsR1]
  · iexact PrsR1
  iintro PrsR1
  iapply (wait_rsS A κ c 6 l (s1 := ((cc0_scratch2.slice (Rect.unit (s := S7) ![6] S1.size inb_S7_S1_6)).squeeze S_ squeezes_S1_S_).sem) rfl (over_mono (by omega) hl)) $$ [XrsS6 ArsS6 HO]
  · isplitr; · iexact HI
    isplitr; · iexact HL
    isplitl [XrsS6]; · iexact XrsS6
    isplitl [ArsS6]; · iexact ArsS6
    iexact HO
  iintro ⟨PrsS6, VrsS6, HO⟩
  iapply (wait_rsR A κ c 0 l (s1 := ((cc0_scratch3.slice (Rect.unit (s := S7) ![0] S1.size inb_S7_S1_0)).squeeze S_ squeezes_S1_S_).sem) rfl hl) $$ [XrsR0 ArsR0 HO]
  · isplitr; · iexact HI
    isplitr; · iexact HL
    isplitl [XrsR0]; · iexact XrsR0
    isplitl [ArsR0]; · iexact ArsR0
    iexact HO
  iintro ⟨PrsR0, VrsR0, HO⟩
  iapply (load_step c (m := rM) (r := Rect.unit (s := S896x768) ![0, 0] S128x768.size inb_S896x768_S128x768_0_0) (S := (slot 0).view.set) (sub_slot 0 rfl)) $$ [PrsR0]
  · iexact PrsR0
  iintro PrsR0
  iapply (load_step c (m := sM) (r := Rect.unit (s := S1024x768) (k0_off15 c) S128x768.size (k0_off15_inb c)) (S := (chunk sM c).view.set) (sub_chunk sM c (off15_eq c))) $$ [OW]
  · iexact OW
  iintro OW
  iapply (store_step c (m := sM) (r := Rect.unit (s := S1024x768) (k0_off15 c) S128x768.size (k0_off15_inb c)) (S := (chunk sM c).view.set) (sub_chunk sM c (off15_eq c))) $$ [OW]
  · iexact OW
  iintro OW
  ihave OW := (stored_s A c (A.S c) (off15_eq c) _ fun x => (hT x).trans (congrFun (red_eq A c) x).symm) $$ [OW]
  · iexact OW
  icases OO with ⟨%f, OO⟩
  iapply (load_step c (m := oM) (r := Rect.unit (s := S1024x768) (k0_off15 c) S128x768.size (k0_off15_inb c)) (S := (chunk oM c).view.set) (sub_chunk oM c (off15_eq c))) $$ [OO]
  · iexact OO
  iintro OO
  iapply (store_step c (m := oM) (r := Rect.unit (s := S1024x768) (k0_off15 c) S128x768.size (k0_off15_inb c)) (S := (chunk oM c).view.set) (sub_chunk oM c (off15_eq c))) $$ [OO]
  · iexact OO
  iintro OO
  ihave OO := (stored_o A c f (off15_eq c) _ hT) $$ [OO]
  · iexact OO
  iapply run_pure
  iapply Hk
  isplitl [PrsR1]; · iexact PrsR1
  isplitl [PrsS6]; · iexact PrsS6
  isplitl [PrsR0]; · iexact PrsR0
  isplitl [VrsR1]; · iexact VrsR1
  isplitl [VrsS6]; · iexact VrsS6
  isplitl [VrsR0]; · iexact VrsR0
  isplitl [OW]; · iexact OW
  isplitl [OO]; · iexact OO
  iexact HO

theorem part22 (c : Dev nD) (v2 : BitVec 32) (l : List (Pay nD τ sig)) {Q : (Σ' (v694 : BitVec 32), BitVec 32) → sProp 𝕄} :
    iprop(invs A κ ∗ agIn c 0 ∗ pc sM c c (shareOf 0) A.T ∗ ow c (agDue c 0 :: l))
      ⊢ iprop((∀ w0 w1, (crd c (agS 0) 0 ∗ ow c l) -∗ Q ⟨w0, w1⟩) -∗ run c (P22 F c v2) Q) := by
  unfold P22; rw [k0_part22_eq_skeleton]; unfold k0_part22_skel
  iintro ⟨#HI, G0, Q0, HO⟩ Hk
  iapply (ag_send A κ c 0 _ (ag_dev0 c) (off17_eq c) (s1 := ((cc0_scratch4.slice (Rect.unit (s := S7) ![0] S1.size inb_S7_S1_0)).squeeze S_ squeezes_S1_S_).sem)
      (s2 := ((cc0_scratch5.slice (Rect.unit (s := S7) ![6] S1.size inb_S7_S1_6)).squeeze S_ squeezes_S1_S_).sem) rfl rfl) $$ [G0 Q0 HO]
  · isplitr; · iexact HI
    isplitl [G0]; · iexact G0
    isplitl [Q0]; · iexact Q0
    iexact HO
  iintro ⟨XagS0, HO⟩
  iapply run_pure
  iapply Hk
  isplitl [XagS0]; · iexact XagS0
  iexact HO

theorem part23 (c : Dev nD) (v2 : BitVec 32) (v715 : BitVec 32) (l : List (Pay nD τ sig)) {Q : (Σ' (v736 : BitVec 32) (v749 : BitVec 32) (v750 : BitVec 32), BitVec 32) → sProp 𝕄} :
    iprop(invs A κ ∗ agIn c 1 ∗ agIn c 2 ∗ pc sM c c (shareOf 1) A.T ∗ pc sM c c (shareOf 2) A.T ∗ ow c (agDue c 1 :: agDue c 2 :: l))
      ⊢ iprop((∀ w0 w1 w2 w3, (crd c (agS 1) 0 ∗ crd c (agS 2) 0 ∗ ow c l) -∗ Q ⟨w0, w1, w2, w3⟩) -∗ run c (P23 F c v2 v715) Q) := by
  unfold P23; rw [k0_part23_eq_skeleton]; unfold k0_part23_skel
  iintro ⟨#HI, G1, G2, Q1, Q2, HO⟩ Hk
  iapply (ag_send A κ c 1 _ (ag_dev1 c) (off17_eq c) (s1 := ((cc0_scratch4.slice (Rect.unit (s := S7) ![1] S1.size inb_S7_S1_1)).squeeze S_ squeezes_S1_S_).sem)
      (s2 := ((cc0_scratch5.slice (Rect.unit (s := S7) ![5] S1.size inb_S7_S1_5)).squeeze S_ squeezes_S1_S_).sem) rfl rfl) $$ [G1 Q1 HO]
  · isplitr; · iexact HI
    isplitl [G1]; · iexact G1
    isplitl [Q1]; · iexact Q1
    iexact HO
  iintro ⟨XagS1, HO⟩
  iapply (ag_send A κ c 2 _ (ag_dev2 c) (off17_eq c) (s1 := ((cc0_scratch4.slice (Rect.unit (s := S7) ![2] S1.size inb_S7_S1_2)).squeeze S_ squeezes_S1_S_).sem)
      (s2 := ((cc0_scratch5.slice (Rect.unit (s := S7) ![4] S1.size inb_S7_S1_4)).squeeze S_ squeezes_S1_S_).sem) rfl rfl) $$ [G2 Q2 HO]
  · isplitr; · iexact HI
    isplitl [G2]; · iexact G2
    isplitl [Q2]; · iexact Q2
    iexact HO
  iintro ⟨XagS2, HO⟩
  iapply run_pure
  iapply Hk
  isplitl [XagS1]; · iexact XagS1
  isplitl [XagS2]; · iexact XagS2
  iexact HO

theorem part24 (c : Dev nD) (v2 : BitVec 32) (v749 : BitVec 32) (v750 : BitVec 32) (c0_i32_552 : BitVec 32) (l : List (Pay nD τ sig)) {Q : (Σ' (v757 : BitVec 32), BitVec 32) → sProp 𝕄} :
    iprop(invs A κ ∗ agIn c 3 ∗ pc sM c c (shareOf 3) A.T ∗ ow c (agDue c 3 :: l))
      ⊢ iprop((∀ w0 w1, (crd c (agS 3) 0 ∗ ow c l) -∗ Q ⟨w0, w1⟩) -∗ run c (P24 F c v2 v749 v750 c0_i32_552) Q) := by
  unfold P24; rw [k0_part24_eq_skeleton]; unfold k0_part24_skel
  iintro ⟨#HI, G3, Q3, HO⟩ Hk
  iapply (ag_send A κ c 3 _ (ag_dev3 c) (off17_eq c) (s1 := ((cc0_scratch4.slice (Rect.unit (s := S7) ![3] S1.size inb_S7_S1_3)).squeeze S_ squeezes_S1_S_).sem)
      (s2 := ((cc0_scratch5.slice (Rect.unit (s := S7) ![3] S1.size inb_S7_S1_3)).squeeze S_ squeezes_S1_S_).sem) rfl rfl) $$ [G3 Q3 HO]
  · isplitr; · iexact HI
    isplitl [G3]; · iexact G3
    isplitl [Q3]; · iexact Q3
    iexact HO
  iintro ⟨XagS3, HO⟩
  iapply run_pure
  iapply Hk
  isplitl [XagS3]; · iexact XagS3
  iexact HO

theorem part25 (c : Dev nD) (v2 : BitVec 32) (l : List (Pay nD τ sig)) {Q : (Σ' (v799 : BitVec 32), BitVec 32) → sProp 𝕄} :
    iprop(invs A κ ∗ agIn c 4 ∗ agIn c 5 ∗ pc sM c c (shareOf 4) A.T ∗ pc sM c c (shareOf 5) A.T ∗ ow c (agDue c 4 :: agDue c 5 :: l))
      ⊢ iprop((∀ w0 w1, (crd c (agS 4) 0 ∗ crd c (agS 5) 0 ∗ ow c l) -∗ Q ⟨w0, w1⟩) -∗ run c (P25 F c v2) Q) := by
  unfold P25; rw [k0_part25_eq_skeleton]; unfold k0_part25_skel
  iintro ⟨#HI, G4, G5, Q4, Q5, HO⟩ Hk
  iapply (ag_send A κ c 4 _ (ag_dev4 c) (off17_eq c) (s1 := ((cc0_scratch4.slice (Rect.unit (s := S7) ![4] S1.size inb_S7_S1_4)).squeeze S_ squeezes_S1_S_).sem)
      (s2 := ((cc0_scratch5.slice (Rect.unit (s := S7) ![2] S1.size inb_S7_S1_2)).squeeze S_ squeezes_S1_S_).sem) rfl rfl) $$ [G4 Q4 HO]
  · isplitr; · iexact HI
    isplitl [G4]; · iexact G4
    isplitl [Q4]; · iexact Q4
    iexact HO
  iintro ⟨XagS4, HO⟩
  iapply (ag_send A κ c 5 _ (ag_dev5 c) (off17_eq c) (s1 := ((cc0_scratch4.slice (Rect.unit (s := S7) ![5] S1.size inb_S7_S1_5)).squeeze S_ squeezes_S1_S_).sem)
      (s2 := ((cc0_scratch5.slice (Rect.unit (s := S7) ![1] S1.size inb_S7_S1_1)).squeeze S_ squeezes_S1_S_).sem) rfl rfl) $$ [G5 Q5 HO]
  · isplitr; · iexact HI
    isplitl [G5]; · iexact G5
    isplitl [Q5]; · iexact Q5
    iexact HO
  iintro ⟨XagS5, HO⟩
  iapply run_pure
  iapply Hk
  isplitl [XagS4]; · iexact XagS4
  isplitl [XagS5]; · iexact XagS5
  iexact HO

theorem part26 (c : Dev nD) (v2 : BitVec 32) (v694 : BitVec 32) (v715 : BitVec 32) (v820 : BitVec 32) {Q : PUnit → sProp 𝕄} :
    iprop(invs A κ ∗ lvs ∗ agIn c 6 ∗ pc sM c c (shareOf 6) A.T ∗ crd c (agS 0) 0 ∗ crd c (agR 6) 3 ∗ crd c (agS 1) 0 ∗ at0 c (agS 0) ∗ at0 c (agR 6) ∗ at0 c (agS 1) ∗ ow c [agDue c 6])
      ⊢ iprop(((crd c (agS 6) 0 ∗ pc sM c c (shareOf 0) A.T ∗ pc oM c (peer c 6) fullShare A.T ∗ pc sM c c (shareOf 1) A.T ∗ semVal (cell c (agS 0)) 0 ∗ semVal (cell c (agR 6)) 0 ∗ semVal (cell c (agS 1)) 0 ∗ ow c []) -∗ Q PUnit.unit) -∗ run c (P26 F c v2 v694 v715 v820) Q) := by
  unfold P26; rw [k0_part26_eq_skeleton]; unfold k0_part26_skel
  iintro ⟨#HI, #HL, G6, Q6, XagS0, XagR6, XagS1, AagS0, AagR6, AagS1, HO⟩ Hk
  iapply (ag_send A κ c 6 _ (ag_dev6 c) (off17_eq c) (s1 := ((cc0_scratch4.slice (Rect.unit (s := S7) ![6] S1.size inb_S7_S1_6)).squeeze S_ squeezes_S1_S_).sem)
      (s2 := ((cc0_scratch5.slice (Rect.unit (s := S7) ![0] S1.size inb_S7_S1_0)).squeeze S_ squeezes_S1_S_).sem) rfl rfl) $$ [G6 Q6 HO]
  · isplitr; · iexact HI
    isplitl [G6]; · iexact G6
    isplitl [Q6]; · iexact Q6
    iexact HO
  iintro ⟨XagS6, HO⟩
  iapply (wait_agS A κ c 0 [] (s1 := ((cc0_scratch4.slice (Rect.unit (s := S7) ![0] S1.size inb_S7_S1_0)).squeeze S_ squeezes_S1_S_).sem) rfl (over_nil _)) $$ [XagS0 AagS0 HO]
  · isplitr; · iexact HI
    isplitr; · iexact HL
    isplitl [XagS0]; · iexact XagS0
    isplitl [AagS0]; · iexact AagS0
    iexact HO
  iintro ⟨PagS0, VagS0, HO⟩
  iapply (wait_agR A κ c 6 [] (s1 := ((cc0_scratch5.slice (Rect.unit (s := S7) ![6] S1.size inb_S7_S1_6)).squeeze S_ squeezes_S1_S_).sem) rfl (over_nil _)) $$ [XagR6 AagR6 HO]
  · isplitr; · iexact HI
    isplitr; · iexact HL
    isplitl [XagR6]; · iexact XagR6
    isplitl [AagR6]; · iexact AagR6
    iexact HO
  iintro ⟨PagR6, VagR6, HO⟩
  iapply (wait_agS A κ c 1 [] (s1 := ((cc0_scratch4.slice (Rect.unit (s := S7) ![1] S1.size inb_S7_S1_1)).squeeze S_ squeezes_S1_S_).sem) rfl (over_nil _)) $$ [XagS1 AagS1 HO]
  · isplitr; · iexact HI
    isplitr; · iexact HL
    isplitl [XagS1]; · iexact XagS1
    isplitl [AagS1]; · iexact AagS1
    iexact HO
  iintro ⟨PagS1, VagS1, HO⟩
  iapply run_pure
  iapply Hk
  isplitl [XagS6]; · iexact XagS6
  isplitl [PagS0]; · iexact PagS0
  isplitl [PagR6]; · iexact PagR6
  isplitl [PagS1]; · iexact PagS1
  isplitl [VagS0]; · iexact VagS0
  isplitl [VagR6]; · iexact VagR6
  isplitl [VagS1]; · iexact VagS1
  iexact HO

theorem part27 (c : Dev nD) (v736 : BitVec 32) (v757 : BitVec 32) {Q : PUnit → sProp 𝕄} :
    iprop(invs A κ ∗ lvs ∗ crd c (agR 5) 3 ∗ crd c (agS 2) 0 ∗ crd c (agR 4) 3 ∗ crd c (agS 3) 0 ∗ crd c (agR 3) 3 ∗ at0 c (agR 5) ∗ at0 c (agS 2) ∗ at0 c (agR 4) ∗ at0 c (agS 3) ∗ at0 c (agR 3) ∗ ow c [])
      ⊢ iprop(((pc oM c (peer c 5) fullShare A.T ∗ pc sM c c (shareOf 2) A.T ∗ pc oM c (peer c 4) fullShare A.T ∗ pc sM c c (shareOf 3) A.T ∗ pc oM c (peer c 3) fullShare A.T ∗ semVal (cell c (agR 5)) 0 ∗ semVal (cell c (agS 2)) 0 ∗ semVal (cell c (agR 4)) 0 ∗ semVal (cell c (agS 3)) 0 ∗ semVal (cell c (agR 3)) 0 ∗ ow c []) -∗ Q PUnit.unit) -∗ run c (P27 F c v736 v757) Q) := by
  unfold P27; rw [k0_part27_eq_skeleton]; unfold k0_part27_skel
  iintro ⟨#HI, #HL, XagR5, XagS2, XagR4, XagS3, XagR3, AagR5, AagS2, AagR4, AagS3, AagR3, HO⟩ Hk
  iapply (wait_agR A κ c 5 [] (s1 := ((cc0_scratch5.slice (Rect.unit (s := S7) ![5] S1.size inb_S7_S1_5)).squeeze S_ squeezes_S1_S_).sem) rfl (over_nil _)) $$ [XagR5 AagR5 HO]
  · isplitr; · iexact HI
    isplitr; · iexact HL
    isplitl [XagR5]; · iexact XagR5
    isplitl [AagR5]; · iexact AagR5
    iexact HO
  iintro ⟨PagR5, VagR5, HO⟩
  iapply (wait_agS A κ c 2 [] (s1 := ((cc0_scratch4.slice (Rect.unit (s := S7) ![2] S1.size inb_S7_S1_2)).squeeze S_ squeezes_S1_S_).sem) rfl (over_nil _)) $$ [XagS2 AagS2 HO]
  · isplitr; · iexact HI
    isplitr; · iexact HL
    isplitl [XagS2]; · iexact XagS2
    isplitl [AagS2]; · iexact AagS2
    iexact HO
  iintro ⟨PagS2, VagS2, HO⟩
  iapply (wait_agR A κ c 4 [] (s1 := ((cc0_scratch5.slice (Rect.unit (s := S7) ![4] S1.size inb_S7_S1_4)).squeeze S_ squeezes_S1_S_).sem) rfl (over_nil _)) $$ [XagR4 AagR4 HO]
  · isplitr; · iexact HI
    isplitr; · iexact HL
    isplitl [XagR4]; · iexact XagR4
    isplitl [AagR4]; · iexact AagR4
    iexact HO
  iintro ⟨PagR4, VagR4, HO⟩
  iapply (wait_agS A κ c 3 [] (s1 := ((cc0_scratch4.slice (Rect.unit (s := S7) ![3] S1.size inb_S7_S1_3)).squeeze S_ squeezes_S1_S_).sem) rfl (over_nil _)) $$ [XagS3 AagS3 HO]
  · isplitr; · iexact HI
    isplitr; · iexact HL
    isplitl [XagS3]; · iexact XagS3
    isplitl [AagS3]; · iexact AagS3
    iexact HO
  iintro ⟨PagS3, VagS3, HO⟩
  iapply (wait_agR A κ c 3 [] (s1 := ((cc0_scratch5.slice (Rect.unit (s := S7) ![3] S1.size inb_S7_S1_3)).squeeze S_ squeezes_S1_S_).sem) rfl (over_nil _)) $$ [XagR3 AagR3 HO]
  · isplitr; · iexact HI
    isplitr; · iexact HL
    isplitl [XagR3]; · iexact XagR3
    isplitl [AagR3]; · iexact AagR3
    iexact HO
  iintro ⟨PagR3, VagR3, HO⟩
  iapply run_pure
  iapply Hk
  isplitl [PagR5]; · iexact PagR5
  isplitl [PagS2]; · iexact PagS2
  isplitl [PagR4]; · iexact PagR4
  isplitl [PagS3]; · iexact PagS3
  isplitl [PagR3]; · iexact PagR3
  isplitl [VagR5]; · iexact VagR5
  isplitl [VagS2]; · iexact VagS2
  isplitl [VagR4]; · iexact VagR4
  isplitl [VagS3]; · iexact VagS3
  isplitl [VagR3]; · iexact VagR3
  iexact HO

theorem part28 (c : Dev nD) (v778 : BitVec 32) (v799 : BitVec 32) (v820 : BitVec 32) {Q : PUnit → sProp 𝕄} :
    iprop(invs A κ ∗ lvs ∗ crd c (agS 4) 0 ∗ crd c (agR 2) 3 ∗ crd c (agS 5) 0 ∗ crd c (agR 1) 3 ∗ crd c (agS 6) 0 ∗ crd c (agR 0) 3 ∗ at0 c (agS 4) ∗ at0 c (agR 2) ∗ at0 c (agS 5) ∗ at0 c (agR 1) ∗ at0 c (agS 6) ∗ at0 c (agR 0) ∗ ow c [])
      ⊢ iprop(((pc sM c c (shareOf 4) A.T ∗ pc oM c (peer c 2) fullShare A.T ∗ pc sM c c (shareOf 5) A.T ∗ pc oM c (peer c 1) fullShare A.T ∗ pc sM c c (shareOf 6) A.T ∗ pc oM c (peer c 0) fullShare A.T ∗ semVal (cell c (agS 4)) 0 ∗ semVal (cell c (agR 2)) 0 ∗ semVal (cell c (agS 5)) 0 ∗ semVal (cell c (agR 1)) 0 ∗ semVal (cell c (agS 6)) 0 ∗ semVal (cell c (agR 0)) 0 ∗ ow c []) -∗ Q PUnit.unit) -∗ run c (P28 F c v778 v799 v820) Q) := by
  unfold P28; rw [k0_part28_eq_skeleton]; unfold k0_part28_skel
  iintro ⟨#HI, #HL, XagS4, XagR2, XagS5, XagR1, XagS6, XagR0, AagS4, AagR2, AagS5, AagR1, AagS6, AagR0, HO⟩ Hk
  iapply (wait_agS A κ c 4 [] (s1 := ((cc0_scratch4.slice (Rect.unit (s := S7) ![4] S1.size inb_S7_S1_4)).squeeze S_ squeezes_S1_S_).sem) rfl (over_nil _)) $$ [XagS4 AagS4 HO]
  · isplitr; · iexact HI
    isplitr; · iexact HL
    isplitl [XagS4]; · iexact XagS4
    isplitl [AagS4]; · iexact AagS4
    iexact HO
  iintro ⟨PagS4, VagS4, HO⟩
  iapply (wait_agR A κ c 2 [] (s1 := ((cc0_scratch5.slice (Rect.unit (s := S7) ![2] S1.size inb_S7_S1_2)).squeeze S_ squeezes_S1_S_).sem) rfl (over_nil _)) $$ [XagR2 AagR2 HO]
  · isplitr; · iexact HI
    isplitr; · iexact HL
    isplitl [XagR2]; · iexact XagR2
    isplitl [AagR2]; · iexact AagR2
    iexact HO
  iintro ⟨PagR2, VagR2, HO⟩
  iapply (wait_agS A κ c 5 [] (s1 := ((cc0_scratch4.slice (Rect.unit (s := S7) ![5] S1.size inb_S7_S1_5)).squeeze S_ squeezes_S1_S_).sem) rfl (over_nil _)) $$ [XagS5 AagS5 HO]
  · isplitr; · iexact HI
    isplitr; · iexact HL
    isplitl [XagS5]; · iexact XagS5
    isplitl [AagS5]; · iexact AagS5
    iexact HO
  iintro ⟨PagS5, VagS5, HO⟩
  iapply (wait_agR A κ c 1 [] (s1 := ((cc0_scratch5.slice (Rect.unit (s := S7) ![1] S1.size inb_S7_S1_1)).squeeze S_ squeezes_S1_S_).sem) rfl (over_nil _)) $$ [XagR1 AagR1 HO]
  · isplitr; · iexact HI
    isplitr; · iexact HL
    isplitl [XagR1]; · iexact XagR1
    isplitl [AagR1]; · iexact AagR1
    iexact HO
  iintro ⟨PagR1, VagR1, HO⟩
  iapply (wait_agS A κ c 6 [] (s1 := ((cc0_scratch4.slice (Rect.unit (s := S7) ![6] S1.size inb_S7_S1_6)).squeeze S_ squeezes_S1_S_).sem) rfl (over_nil _)) $$ [XagS6 AagS6 HO]
  · isplitr; · iexact HI
    isplitr; · iexact HL
    isplitl [XagS6]; · iexact XagS6
    isplitl [AagS6]; · iexact AagS6
    iexact HO
  iintro ⟨PagS6, VagS6, HO⟩
  iapply (wait_agR A κ c 0 [] (s1 := ((cc0_scratch5.slice (Rect.unit (s := S7) ![0] S1.size inb_S7_S1_0)).squeeze S_ squeezes_S1_S_).sem) rfl (over_nil _)) $$ [XagR0 AagR0 HO]
  · isplitr; · iexact HI
    isplitr; · iexact HL
    isplitl [XagR0]; · iexact XagR0
    isplitl [AagR0]; · iexact AagR0
    iexact HO
  iintro ⟨PagR0, VagR0, HO⟩
  iapply run_pure
  iapply Hk
  isplitl [PagS4]; · iexact PagS4
  isplitl [PagR2]; · iexact PagR2
  isplitl [PagS5]; · iexact PagS5
  isplitl [PagR1]; · iexact PagR1
  isplitl [PagS6]; · iexact PagS6
  isplitl [PagR0]; · iexact PagR0
  isplitl [VagS4]; · iexact VagS4
  isplitl [VagR2]; · iexact VagR2
  isplitl [VagS5]; · iexact VagS5
  isplitl [VagR1]; · iexact VagR1
  isplitl [VagS6]; · iexact VagS6
  isplitl [VagR0]; · iexact VagR0
  iexact HO

end Cert.KernelIdeal.Run
-- ==== Proof.Whole.lean ====
/-
  The kernel, whole, on one device: from what the launch gives it to what it leaves.
-/
module

public import proofs.«01_k».proof.Proof.Sums

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal.Gen

variable {F : FTy → Type} [FloatOps F]

local notation "𝕄" => MT nD τ sig ℕ (Elt F) ℕ UU ℕ

variable (A : Data F) (κ : GSem nD τ sig → ℕ)

theorem run_bind (c : Dev nD) {α β : Type} {p : Prog (TpuEff nD τ sig (Elt F) Λ₀ .tc) α} {k : α → Prog (TpuEff nD τ sig (Elt F) Λ₀ .tc) β}
    {Q : β → sProp 𝕄} : run c p (fun a => run c (k a) Q) ⊢ run c (p >>= k) Q := by
  unfold run; rw [wp_bind]

theorem list7 (Φ : Fin 7 → sProp 𝕄) : iprop(Φ 0 ∗ Φ 1 ∗ Φ 2 ∗ Φ 3 ∗ Φ 4 ∗ Φ 5 ∗ Φ 6) ⊢ bigSep Finset.univ Φ := Entails.of_eq (bigSep7 Φ).symm
theorem listed7 (Φ : Fin 7 → sProp 𝕄) : bigSep Finset.univ Φ ⊢ iprop(Φ 0 ∗ Φ 1 ∗ Φ 2 ∗ Φ 3 ∗ Φ 4 ∗ Φ 5 ∗ Φ 6) := Entails.of_eq (bigSep7 Φ)

/-! ## What the device owes -/

/-- The copies of the second exchange. -/
abbrev owedAG (c : Dev nD) : List (Pay nD τ sig) := [agDue c 0, agDue c 1, agDue c 2, agDue c 3, agDue c 4, agDue c 5, agDue c 6]
/-- Those, and the copies of the first exchange begun late. -/
abbrev owedLate (c : Dev nD) : List (Pay nD τ sig) := rsDue1 c 0 ++ (rsDue1 c 1 ++ (rsDue1 c 2 ++ (rsDue1 c 3 ++ (rsDue1 c 4 ++ (rsDue1 c 5 ++ (rsDue1 c 6 ++ owedAG c))))))
/-- Those, and the copies of the first exchange begun early but for the first two. -/
abbrev owedMid (c : Dev nD) : List (Pay nD τ sig) := rsDue0 c 2 ++ (rsDue0 c 3 ++ (rsDue0 c 4 ++ (rsDue0 c 5 ++ (rsDue0 c 6 ++ owedLate c))))
/-- All a device owes. -/
abbrev owed (c : Dev nD) : List (Pay nD τ sig) := barDue c 0 :: barDue c 1 :: barDue c 2 :: barDue c 3 :: barDue c 4 :: barDue c 5 :: barDue c 6 :: (rsDue0 c 0 ++ (rsDue0 c 1 ++ owedMid c))

theorem over_owedAG (c : Dev nD) : Over 2 (owedAG c) :=
  over_ag c 0 (over_ag c 1 (over_ag c 2 (over_ag c 3 (over_ag c 4 (over_ag c 5 (over_ag c 6 (over_nil 2)))))))
theorem over_owedLate (c : Dev nD) : Over 1 (owedLate c) :=
  over_append (over_rs1 c 0) (over_append (over_rs1 c 1) (over_append (over_rs1 c 2) (over_append (over_rs1 c 3) (over_append (over_rs1 c 4)
    (over_append (over_rs1 c 5) (over_append (over_rs1 c 6) (over_mono (by omega) (over_owedAG c))))))))
theorem over_owedMid (c : Dev nD) : Over 1 (owedMid c) :=
  over_append (over_rs0 c 2) (over_append (over_rs0 c 3) (over_append (over_rs0 c 4) (over_append (over_rs0 c 5) (over_append (over_rs0 c 6) (over_owedLate c)))))

/-! ## Before and after -/

/-- What the signal to `peer c j` hands over besides the pieces of the buffers. -/
def sigTok (c : Dev nD) (j : Fin 7) : sProp 𝕄 :=
  iprop(reached ER (cell c (rsR j)) 0 ∗ reached ER (cell c (agR j)) 0 ∗ dutyTok ER (cell (peer c j) barL) 0 j.rev ∗ reached ER (cell (peer c j) barL) 0)

/-- The device's four cells of the copies numbered j, and the receipts it is given for the two that receive. -/
def waits (c : Dev nD) (j : Fin 7) : sProp 𝕄 :=
  iprop(at0 c (rsS j) ∗ at0 c (rsR j) ∗ at0 c (agS j) ∗ at0 c (agR j) ∗ crd c (rsR j) 2 ∗ crd c (agR j) 3)

/-- Those four cells, given back. -/
def backs (c : Dev nD) (j : Fin 7) : sProp 𝕄 :=
  iprop(semVal (cell c (rsS j)) 0 ∗ semVal (cell c (rsR j)) 0 ∗ semVal (cell c (agS j)) 0 ∗ semVal (cell c (agR j)) 0)

theorem sig_one (c : Dev nD) (j : Fin 7) (f : Rcv F) (g : Big F) :
    iprop(ps c j f ∗ pc oM c (peer c j) fullShare g ∗ sigTok c j) ⊢ (sigIn c j : sProp 𝕄) := by
  unfold sigTok sigIn
  iintro ⟨H1, H2, H3, H4, H5, H6⟩
  isplitl [H1]; · iexists f; iexact H1
  isplitl [H2]; · iexists g; iexact H2
  isplitl [H3]; · iexact H3
  isplitl [H4]; · iexact H4
  isplitl [H5]; · iexact H5
  iexact H6

/-- The buffers cut up, ready for the signals. -/
theorem sig_all (c : Dev nD) (f : Rcv F) (g : Big F) : iprop(rOn c Finset.univ f ∗ oOn c Finset.univ g ∗ bigSep Finset.univ (sigTok c))
    ⊢ (iprop((sigIn c 0 ∗ sigIn c 1 ∗ sigIn c 2 ∗ sigIn c 3 ∗ sigIn c 4 ∗ sigIn c 5 ∗ sigIn c 6) ∗ pc oM c c fullShare g) : sProp 𝕄) := by
  rw [rcv_split, out_split]
  iintro ⟨HR, ⟨HO, HP⟩, HT⟩
  isplitr [HO]
  · iapply (listed7 (sigIn c))
    have h : iprop((bigSep Finset.univ fun j => ps c j f) ∗ (bigSep Finset.univ fun j => pc oM c (peer c j) fullShare g) ∗ bigSep Finset.univ (sigTok c))
        ⊢ (bigSep Finset.univ (sigIn c) : sProp 𝕄) := by
      rw [← bigSep_sep', ← bigSep_sep']
      exact bigSep_mono fun j _ => sig_one c j f g
    iapply h
    isplitl [HR]; · iexact HR
    isplitl [HP]; · iexact HP
    iexact HT
  · iexact HO

/-- The pieces of the buffers, once every copy has come, make the buffers up again. -/
theorem all_back (c : Dev nD) : iprop((bigSep Finset.univ fun j => pc sM c (peer c j) fullShare (A.S c)) ∗ (bigSep Finset.univ fun j => ps c j (rcv A c))
      ∗ (bigSep Finset.univ fun j => pc sM c c (shareOf j) A.T) ∗ pc sM c c shareRest A.T
      ∗ (bigSep Finset.univ fun j => pc oM c (peer c j) fullShare A.T) ∗ pc oM c c fullShare A.T)
    ⊢ (iprop((∃ f, sOn c Finset.univ fullShare f) ∗ (∃ f, rOn c Finset.univ f) ∗ oOn c Finset.univ A.T) : sProp 𝕄) := by
  iintro ⟨H1, H2, H3, H4, H5, H6⟩
  isplitl [H1 H3 H4]
  · iapply (send_join c A.T (A.S c))
    isplitr [H1]
    · rw [own_shares]
      isplitl [H3]; · iexact H3
      iexact H4
    · iexact H1
  isplitl [H2]
  · iexists (rcv A c); rw [rcv_split]; iexact H2
  · rw [out_split]
    isplitl [H6]; · iexact H6
    iexact H5

variable {A} in
/-- The contents of the exchange are what the devices compute from their windows. -/
structure Fits (A : Data F) (w : Dev nD → Staged F) : Prop where
  low : ∀ c x, acc0.read (Elt F) (A.S c) x = half0 (w c) x
  high : ∀ c x, acc1.read (Elt F) (A.S c) x = half1 (w c) x
  fin : ∀ c x, (chunk sM c).view.read (Elt F) A.T x = red A c x

/-- What the device starts from. -/
def start (c : Dev nD) (w : Staged F) : sProp 𝕄 :=
  iprop(invs A κ ∗ lvs ∗ inp c w ∗ (∃ f, sOn c Finset.univ fullShare f) ∗ (∃ f, rOn c Finset.univ f) ∗ (∃ f, oOn c Finset.univ f)
    ∗ bigSep Finset.univ (sigTok c) ∗ bigSep Finset.univ (tokRS c) ∗ bigSep Finset.univ (tokAG c)
    ∗ cred (tallyAt (cell c barL) 1 7) ∗ at0 c barL ∗ bigSep Finset.univ (waits c) ∗ ow c (owed c))

/-- What the device ends with. -/
def finish (c : Dev nD) (w : Staged F) : sProp 𝕄 :=
  iprop(inp c w ∗ (∃ f, sOn c Finset.univ fullShare f) ∗ (∃ f, rOn c Finset.univ f) ∗ oOn c Finset.univ A.T
    ∗ semVal (cell c barL) 0 ∗ bigSep Finset.univ (backs c) ∗ ow c [])

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39

set_option maxHeartbeats 4000000 in
/-- The kernel on device c. -/
theorem body_run (c : Dev nD) (w : Dev nD → Staged F) (hA : Fits A w) {Q : PUnit → sProp 𝕄} :
    start A κ c (w c) ⊢ iprop((finish A c (w c) -∗ Q ⟨⟩) -∗ run c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) Q) := by
  rw [cc0_body_eq_skeleton]; unfold cc0_body_skel
  unfold start
  iintro ⟨#HI, #HL, I, ⟨%fs, SB⟩, ⟨%fr, RB⟩, ⟨%fo, OB⟩, TS, TR, TA, CB, AB, WT, HO⟩ Hk
  ihave HS := (sig_all c fr fo) $$ [RB OB TS]
  · isplitl [RB]; · iexact RB
    isplitl [OB]; · iexact OB
    iexact TS
  icases HS with ⟨⟨H0, H1, H2, H3, H4, H5, H6⟩, OO⟩
  ihave HS := (send_split c fs) $$ [SB]
  · iexact SB
  icases HS with ⟨SB0, SB1⟩
  ihave HW := (listed7 (waits c)) $$ [WT]
  · iexact WT
  unfold waits
  icases HW with ⟨⟨ArsS0, ArsR0, AagS0, AagR0, XrsR0, XagR0⟩, ⟨ArsS1, ArsR1, AagS1, AagR1, XrsR1, XagR1⟩, ⟨ArsS2, ArsR2, AagS2, AagR2, XrsR2, XagR2⟩, ⟨ArsS3, ArsR3, AagS3, AagR3, XrsR3, XagR3⟩, ⟨ArsS4, ArsR4, AagS4, AagR4, XrsR4, XagR4⟩, ⟨ArsS5, ArsR5, AagS5, AagR5, XrsR5, XagR5⟩, ⟨ArsS6, ArsR6, AagS6, AagR6, XrsR6, XagR6⟩⟩
  iapply run_bind
  iapply (part1 A κ c _) $$ [H0 H1 HO]
  · isplitr; · iexact HI
    isplitl [H0]; · iexact H0
    isplitl [H1]; · iexact H1
    iexact HO
  iintro %_ %_ %_ %_ HO
  iapply run_bind
  iapply (part2 A κ c _ _ _ _ _) $$ [H2 H3 HO]
  · isplitr; · iexact HI
    isplitl [H2]; · iexact H2
    isplitl [H3]; · iexact H3
    iexact HO
  iintro %_ %_ %_ HO
  iapply run_bind
  iapply (part3 A κ c _ _ _ _ _) $$ [H4 H5 H6 HO]
  · isplitr; · iexact HI
    isplitl [H4]; · iexact H4
    isplitl [H5]; · iexact H5
    isplitl [H6]; · iexact H6
    iexact HO
  iintro HO
  iapply run_bind
  iapply (part4 c)
  iapply run_bind
  iapply (part5 c _)
  iintro %_ %_ %_
  iapply run_bind
  iapply (part6 c _)
  iintro %_ %_ %_
  iapply run_bind
  iapply (part7 c _ (w c)) $$ [I]
  · iexact I
  iintro %_ I
  iapply run_bind
  iapply (part8 c (w c)) $$ [I]
  · iexact I
  iintro I
  iapply run_bind
  iapply (part9 c (w c)) $$ [I]
  · iexact I
  iintro I
  iapply run_bind
  iapply (part10 c (w c)) $$ [I]
  · iexact I
  iintro I
  iapply run_bind
  iapply (part11 A κ c _ _ _ (w c) (owedMid c) (over_owedMid c) (hA.low c)) $$ [I SB0 CB AB TR TA HO]
  · isplitr; · iexact HI
    isplitr; · iexact HL
    isplitl [I]; · iexact I
    isplitl [SB0]; · iexists fs; iexact SB0
    isplitl [CB]; · iexact CB
    isplitl [AB]; · iexact AB
    isplitl [TR]; · iexact TR
    isplitl [TA]; · iexact TA
    iexact HO
  iintro %_ ⟨I, M0, M1, R2, R3, R4, R5, R6, C2, C3, C4, C5, C6, AG, O0, VB, HO⟩
  iapply run_bind
  iapply (part12 A κ c _ _ _ _ _ _ (w c) (owedLate c)) $$ [I R2 R3 R4 R5 R6 C2 C3 C4 C5 C6 HO]
  · isplitr; · iexact HI
    isplitl [I]; · iexact I
    isplitl [R2]; · iexact R2
    isplitl [R3]; · iexact R3
    isplitl [R4]; · iexact R4
    isplitl [R5]; · iexact R5
    isplitl [R6]; · iexact R6
    isplitl [C2]; · iexact C2
    isplitl [C3]; · iexact C3
    isplitl [C4]; · iexact C4
    isplitl [C5]; · iexact C5
    isplitl [C6]; · iexact C6
    iexact HO
  iintro ⟨I, M2, M3, M4, M5, M6, HO⟩
  iapply run_bind
  iapply (part13 c (w c)) $$ [I]
  · iexact I
  iintro I
  iapply run_bind
  iapply (part14 c (w c)) $$ [I]
  · iexact I
  iintro I
  iapply run_bind
  iapply (part15 c (w c)) $$ [I]
  · iexact I
  iintro I
  iapply run_bind
  iapply (part16 A c _ (w c) (hA.high c)) $$ [I SB1]
  · isplitl [I]; · iexact I
    iexists fs; iexact SB1
  iintro %_ ⟨I, O1, C0, C1, C2, C3, C4, C5, C6⟩
  ihave OW := (own_join A c) $$ [O0 O1]
  · isplitl [O0]; · iexact O0
    iexact O1
  iapply run_bind
  iapply (part17 A κ c _ _ _ _ _ _ _ _ _) $$ [M0 M1 M2 M3 M4 M5 C0 C1 C2 C3 C4 C5 HO]
  · isplitr; · iexact HI
    isplitl [M0]; · iexact M0
    isplitl [M1]; · iexact M1
    isplitl [M2]; · iexact M2
    isplitl [M3]; · iexact M3
    isplitl [M4]; · iexact M4
    isplitl [M5]; · iexact M5
    isplitl [C0]; · iexact C0
    isplitl [C1]; · iexact C1
    isplitl [C2]; · iexact C2
    isplitl [C3]; · iexact C3
    isplitl [C4]; · iexact C4
    isplitl [C5]; · iexact C5
    iexact HO
  iintro %_ ⟨XrsS0, XrsS1, XrsS2, XrsS3, XrsS4, XrsS5, HO⟩
  iapply run_bind
  iapply (part18 A κ c _ _ _ _ _ (owedAG c) (over_owedAG c)) $$ [M6 C6 OW XrsS0 XrsR6 XrsS1 ArsS0 ArsR6 ArsS1 HO]
  · isplitr; · iexact HI
    isplitr; · iexact HL
    isplitl [M6]; · iexact M6
    isplitl [C6]; · iexact C6
    isplitl [OW]; · iexact OW
    isplitl [XrsS0]; · iexact XrsS0
    isplitl [XrsR6]; · iexact XrsR6
    isplitl [XrsS1]; · iexact XrsS1
    isplitl [ArsS0]; · iexact ArsS0
    isplitl [ArsR6]; · iexact ArsR6
    isplitl [ArsS1]; · iexact ArsS1
    iexact HO
  iintro %_ ⟨XrsS6, OW, PrsS0, PrsR6, PrsS1, VrsS0, VrsR6, VrsS1, HO⟩
  iapply run_bind
  iapply (part19 A κ c _ _ _ (owedAG c) (over_owedAG c)) $$ [XrsR5 XrsS2 XrsR4 XrsS3 ArsR5 ArsS2 ArsR4 ArsS3 HO]
  · isplitr; · iexact HI
    isplitr; · iexact HL
    isplitl [XrsR5]; · iexact XrsR5
    isplitl [XrsS2]; · iexact XrsS2
    isplitl [XrsR4]; · iexact XrsR4
    isplitl [XrsS3]; · iexact XrsS3
    isplitl [ArsR5]; · iexact ArsR5
    isplitl [ArsS2]; · iexact ArsS2
    isplitl [ArsR4]; · iexact ArsR4
    isplitl [ArsS3]; · iexact ArsS3
    iexact HO
  iintro %_ ⟨PrsR5, PrsS2, PrsR4, PrsS3, VrsR5, VrsS2, VrsR4, VrsS3, HO⟩
  iapply run_bind
  iapply (part20 A κ c _ _ _ (owedAG c) (over_owedAG c)) $$ [XrsR3 XrsS4 XrsR2 XrsS5 ArsR3 ArsS4 ArsR2 ArsS5 HO]
  · isplitr; · iexact HI
    isplitr; · iexact HL
    isplitl [XrsR3]; · iexact XrsR3
    isplitl [XrsS4]; · iexact XrsS4
    isplitl [XrsR2]; · iexact XrsR2
    isplitl [XrsS5]; · iexact XrsS5
    isplitl [ArsR3]; · iexact ArsR3
    isplitl [ArsS4]; · iexact ArsS4
    isplitl [ArsR2]; · iexact ArsR2
    isplitl [ArsS5]; · iexact ArsS5
    iexact HO
  iintro %_ ⟨PrsR3, PrsS4, PrsR2, PrsS5, VrsR3, VrsS4, VrsR2, VrsS5, HO⟩
  iapply run_bind
  iapply (part21 A κ c _ _ _ (owedAG c) (over_owedAG c) (hA.fin c)) $$ [XrsR1 XrsS6 XrsR0 ArsR1 ArsS6 ArsR0 OW OO HO]
  · isplitr; · iexact HI
    isplitr; · iexact HL
    isplitl [XrsR1]; · iexact XrsR1
    isplitl [XrsS6]; · iexact XrsS6
    isplitl [XrsR0]; · iexact XrsR0
    isplitl [ArsR1]; · iexact ArsR1
    isplitl [ArsS6]; · iexact ArsS6
    isplitl [ArsR0]; · iexact ArsR0
    isplitl [OW]; · iexact OW
    isplitl [OO]; · iexists fo; iexact OO
    iexact HO
  iintro ⟨PrsR1, PrsS6, PrsR0, VrsR1, VrsS6, VrsR0, OW, OO, HO⟩
  ihave OW := (Entails.of_eq (own_shares c A.T)) $$ [OW]
  · iexact OW
  icases OW with ⟨OW, OR⟩
  ihave OW := (listed7 fun j => pc sM c c (shareOf j) A.T) $$ [OW]
  · iexact OW
  icases OW with ⟨Q0, Q1, Q2, Q3, Q4, Q5, Q6⟩
  ihave AG := (listed7 (agIn c)) $$ [AG]
  · iexact AG
  icases AG with ⟨G0, G1, G2, G3, G4, G5, G6⟩
  iapply run_bind
  iapply (part22 A κ c _ _) $$ [G0 Q0 HO]
  · isplitr; · iexact HI
    isplitl [G0]; · iexact G0
    isplitl [Q0]; · iexact Q0
    iexact HO
  iintro %_ %_ ⟨XagS0, HO⟩
  iapply run_bind
  iapply (part23 A κ c _ _ _) $$ [G1 G2 Q1 Q2 HO]
  · isplitr; · iexact HI
    isplitl [G1]; · iexact G1
    isplitl [G2]; · iexact G2
    isplitl [Q1]; · iexact Q1
    isplitl [Q2]; · iexact Q2
    iexact HO
  iintro %_ %_ %_ %_ ⟨XagS1, XagS2, HO⟩
  iapply run_bind
  iapply (part24 A κ c _ _ _ _ _) $$ [G3 Q3 HO]
  · isplitr; · iexact HI
    isplitl [G3]; · iexact G3
    isplitl [Q3]; · iexact Q3
    iexact HO
  iintro %_ %_ ⟨XagS3, HO⟩
  iapply run_bind
  iapply (part25 A κ c _ _) $$ [G4 G5 Q4 Q5 HO]
  · isplitr; · iexact HI
    isplitl [G4]; · iexact G4
    isplitl [G5]; · iexact G5
    isplitl [Q4]; · iexact Q4
    isplitl [Q5]; · iexact Q5
    iexact HO
  iintro %_ %_ ⟨XagS4, XagS5, HO⟩
  iapply run_bind
  iapply (part26 A κ c _ _ _ _) $$ [G6 Q6 XagS0 XagR6 XagS1 AagS0 AagR6 AagS1 HO]
  · isplitr; · iexact HI
    isplitr; · iexact HL
    isplitl [G6]; · iexact G6
    isplitl [Q6]; · iexact Q6
    isplitl [XagS0]; · iexact XagS0
    isplitl [XagR6]; · iexact XagR6
    isplitl [XagS1]; · iexact XagS1
    isplitl [AagS0]; · iexact AagS0
    isplitl [AagR6]; · iexact AagR6
    isplitl [AagS1]; · iexact AagS1
    iexact HO
  iintro ⟨XagS6, PagS0, PagR6, PagS1, VagS0, VagR6, VagS1, HO⟩
  iapply run_bind
  iapply (part27 A κ c _ _) $$ [XagR5 XagS2 XagR4 XagS3 XagR3 AagR5 AagS2 AagR4 AagS3 AagR3 HO]
  · isplitr; · iexact HI
    isplitr; · iexact HL
    isplitl [XagR5]; · iexact XagR5
    isplitl [XagS2]; · iexact XagS2
    isplitl [XagR4]; · iexact XagR4
    isplitl [XagS3]; · iexact XagS3
    isplitl [XagR3]; · iexact XagR3
    isplitl [AagR5]; · iexact AagR5
    isplitl [AagS2]; · iexact AagS2
    isplitl [AagR4]; · iexact AagR4
    isplitl [AagS3]; · iexact AagS3
    isplitl [AagR3]; · iexact AagR3
    iexact HO
  iintro ⟨PagR5, PagS2, PagR4, PagS3, PagR3, VagR5, VagS2, VagR4, VagS3, VagR3, HO⟩
  iapply run_bind
  iapply (part28 A κ c _ _ _) $$ [XagS4 XagR2 XagS5 XagR1 XagS6 XagR0 AagS4 AagR2 AagS5 AagR1 AagS6 AagR0 HO]
  · isplitr; · iexact HI
    isplitr; · iexact HL
    isplitl [XagS4]; · iexact XagS4
    isplitl [XagR2]; · iexact XagR2
    isplitl [XagS5]; · iexact XagS5
    isplitl [XagR1]; · iexact XagR1
    isplitl [XagS6]; · iexact XagS6
    isplitl [XagR0]; · iexact XagR0
    isplitl [AagS4]; · iexact AagS4
    isplitl [AagR2]; · iexact AagR2
    isplitl [AagS5]; · iexact AagS5
    isplitl [AagR1]; · iexact AagR1
    isplitl [AagS6]; · iexact AagS6
    isplitl [AagR0]; · iexact AagR0
    iexact HO
  iintro ⟨PagS4, PagR2, PagS5, PagR1, PagS6, PagR0, VagS4, VagR2, VagS5, VagR1, VagS6, VagR0, HO⟩
  iapply run_pure
  iapply Hk
  unfold finish
  isplitl [I]; · iexact I
  ihave HB := (all_back A c) $$ [PrsS0 PrsS1 PrsS2 PrsS3 PrsS4 PrsS5 PrsS6 PrsR0 PrsR1 PrsR2 PrsR3 PrsR4 PrsR5 PrsR6 PagS0 PagS1 PagS2 PagS3 PagS4 PagS5 PagS6 PagR0 PagR1 PagR2 PagR3 PagR4 PagR5 PagR6 OR OO]
  · isplitl [PrsS0 PrsS1 PrsS2 PrsS3 PrsS4 PrsS5 PrsS6]
    · iapply (list7 fun j => pc sM c (peer c j) fullShare (A.S c))
      isplitl [PrsS0]; · iexact PrsS0
      isplitl [PrsS1]; · iexact PrsS1
      isplitl [PrsS2]; · iexact PrsS2
      isplitl [PrsS3]; · iexact PrsS3
      isplitl [PrsS4]; · iexact PrsS4
      isplitl [PrsS5]; · iexact PrsS5
      iexact PrsS6
    isplitl [PrsR0 PrsR1 PrsR2 PrsR3 PrsR4 PrsR5 PrsR6]
    · iapply (list7 fun j => ps c j (rcv A c))
      isplitl [PrsR0]; · iexact PrsR0
      isplitl [PrsR1]; · iexact PrsR1
      isplitl [PrsR2]; · iexact PrsR2
      isplitl [PrsR3]; · iexact PrsR3
      isplitl [PrsR4]; · iexact PrsR4
      isplitl [PrsR5]; · iexact PrsR5
      iexact PrsR6
    isplitl [PagS0 PagS1 PagS2 PagS3 PagS4 PagS5 PagS6]
    · iapply (list7 fun j => pc sM c c (shareOf j) A.T)
      isplitl [PagS0]; · iexact PagS0
      isplitl [PagS1]; · iexact PagS1
      isplitl [PagS2]; · iexact PagS2
      isplitl [PagS3]; · iexact PagS3
      isplitl [PagS4]; · iexact PagS4
      isplitl [PagS5]; · iexact PagS5
      iexact PagS6
    isplitl [OR]; · iexact OR
    isplitl [PagR0 PagR1 PagR2 PagR3 PagR4 PagR5 PagR6]
    · iapply (list7 fun j => pc oM c (peer c j) fullShare A.T)
      isplitl [PagR0]; · iexact PagR0
      isplitl [PagR1]; · iexact PagR1
      isplitl [PagR2]; · iexact PagR2
      isplitl [PagR3]; · iexact PagR3
      isplitl [PagR4]; · iexact PagR4
      isplitl [PagR5]; · iexact PagR5
      iexact PagR6
    iexact OO
  icases HB with ⟨B1, B2, B3⟩
  isplitl [B1]; · iexact B1
  isplitl [B2]; · iexact B2
  isplitl [B3]; · iexact B3
  isplitl [VB]; · iexact VB
  isplitr [HO]
  · iapply (list7 (backs c))
    unfold backs
    isplitl [VrsS0 VrsR0 VagS0 VagR0]
    · isplitl [VrsS0]; · iexact VrsS0
      isplitl [VrsR0]; · iexact VrsR0
      isplitl [VagS0]; · iexact VagS0
      iexact VagR0
    isplitl [VrsS1 VrsR1 VagS1 VagR1]
    · isplitl [VrsS1]; · iexact VrsS1
      isplitl [VrsR1]; · iexact VrsR1
      isplitl [VagS1]; · iexact VagS1
      iexact VagR1
    isplitl [VrsS2 VrsR2 VagS2 VagR2]
    · isplitl [VrsS2]; · iexact VrsS2
      isplitl [VrsR2]; · iexact VrsR2
      isplitl [VagS2]; · iexact VagS2
      iexact VagR2
    isplitl [VrsS3 VrsR3 VagS3 VagR3]
    · isplitl [VrsS3]; · iexact VrsS3
      isplitl [VrsR3]; · iexact VrsR3
      isplitl [VagS3]; · iexact VagS3
      iexact VagR3
    isplitl [VrsS4 VrsR4 VagS4 VagR4]
    · isplitl [VrsS4]; · iexact VrsS4
      isplitl [VrsR4]; · iexact VrsR4
      isplitl [VagS4]; · iexact VagS4
      iexact VagR4
    isplitl [VrsS5 VrsR5 VagS5 VagR5]
    · isplitl [VrsS5]; · iexact VrsS5
      isplitl [VrsR5]; · iexact VrsR5
      isplitl [VagS5]; · iexact VagS5
      iexact VagR5
    isplitl [VrsS6]; · iexact VrsS6
    isplitl [VrsR6]; · iexact VrsR6
    isplitl [VagS6]; · iexact VagS6
    iexact VagR6
  · iexact HO

end Cert.KernelIdeal.Run
-- ==== Proof.Deal.lean ====
/-
  What the program's launch deals the devices: the credit for what they are paid, the tokens for what they pay, and the cells,
  opened when the kernel is entered.
-/
module

public import proofs.«01_k».proof.Proof.Whole

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal.Gen

variable {F : FTy → Type} [FloatOps F]

local notation "𝕄" => MT nD τ sig ℕ (Elt F) ℕ UU ℕ

variable (A : Data F)

/-! ## The launch credit -/

/-- A payment's tally. -/
abbrev tl (x : Pay nD τ sig) : CellTallies nD τ sig ℕ := tallyAt x.1 x.2.1 x.2.2

/-- What device c pays for its copies and signal numbered j. -/
def due (c : Dev nD) (j : Fin 7) : CellTallies nD τ sig ℕ := tl (barDue c j) + tl (rsDue c j) + tl (agDue c j)
/-- What device c is paid on its cells numbered j. -/
def got (c : Dev nD) (j : Fin 7) : CellTallies nD τ sig ℕ :=
  tallyAt (cell c barL) 1 1 + tallyAt (cell c (rsR j)) 2 N + tallyAt (cell c (agR j)) 3 N

theorem due_eq (c : Dev nD) (j : Fin 7) : due c j = got (peer c j) j.rev := rfl

theorem rsDue_split (c : Dev nD) (j : Fin 7) : tallyL (rsDue0 c j) + tallyL (rsDue1 c j) = tl (rsDue c j) := by
  unfold rsDue0 rsDue1
  split <;> simp only [tallyL, add_zero, zero_add]

theorem owed_sum (c : Dev nD) : tallyL (owed c) = ∑ j : Fin 7, due c j := by
  rw [Fin.sum_univ_seven]
  simp only [due, ← rsDue_split]
  simp only [tallyL, tallyL_append]
  abel

/-- The devices and the numbers, turned round: the other end of a copy. -/
def around : Dev nD × Fin 7 ≃ Dev nD × Fin 7 where
  toFun p := (peer p.1 p.2, p.2.rev)
  invFun p := (peer p.1 p.2, p.2.rev)
  left_inv p := Prod.ext (peer_peer _ _) (rev_rev _)
  right_inv p := Prod.ext (peer_peer _ _) (rev_rev _)

theorem due_sum : (∑ c : Dev nD, tallyL (owed c)) = ∑ c : Dev nD, ∑ j : Fin 7, got c j := by
  rw [Finset.sum_congr rfl fun c _ => owed_sum c, ← Finset.sum_product', ← Finset.sum_product']
  exact Finset.sum_equiv around (fun _ => by simp) fun p _ => due_eq p.1 p.2

theorem got_on (c : Dev nD) (g : GSem nD τ sig) (h : (∑ j : Fin 7, got c j) g ≠ 0) : g.1 = (c.tc : Thread nD τ) := by
  by_contra hg
  refine h ?_
  rw [Finset.sum_apply]
  refine Finset.sum_eq_zero fun j _ => ?_
  have hne (s : SemLoc sig) : g ≠ cell c s := fun e => hg (congrArg Prod.fst e)
  unfold got
  rw [Pi.add_apply, Pi.add_apply, tallyAt_ne_cell (hne _), tallyAt_ne_cell (hne _), tallyAt_ne_cell (hne _), add_zero, add_zero]

theorem ones (g : GSem nD τ sig) : (∑ _j : Fin 7, tallyAt g 1 1 : CellTallies nD τ sig ℕ) = tallyAt g 1 7 := by
  funext g'
  refine Finsupp.ext fun i => ?_
  rw [Finset.sum_apply, Finsupp.finset_sum_apply]
  simp only [tallyAt_apply]
  split <;> simp

/-- The credit the launch deals device c: for its barrier, and for the copies that land on it. -/
theorem credit (c : Dev nD) : (Pipeline.launchCred (fun d => tallyL (owed d)) c : sProp 𝕄)
    ⊢ iprop(cred (tallyAt (cell c barL) 1 7) ∗ bigSep Finset.univ fun j => iprop(crd c (rsR j) 2 ∗ crd c (agR j) 3)) := by
  rw [Pipeline.launchCred_of_sum _ _ due_sum got_on c]
  unfold got
  rw [Finset.sum_add_distrib, Finset.sum_add_distrib, ones, bigSep_sep', ← Pipeline.cred_finsetSum, ← Pipeline.cred_finsetSum]
  rw [BI.Entails.antisymm (cred_add _ _).1 (cred_add _ _).2, BI.Entails.antisymm (cred_add _ _).1 (cred_add _ _).2]
  iintro ⟨⟨H1, H2⟩, H3⟩
  isplitl [H1]; · iexact H1
  isplitl [H2]; · iexact H2
  iexact H3

/-! ## The tokens and the cells, one number at a time -/

/-- The kernel's own semaphores: four of each number. -/
def osem (p : Fin 7 × Fin 4) : SemLoc sig :=
  match p.2 with
  | 0 => rsS p.1 | 1 => rsR p.1 | 2 => agS p.1 | 3 => agR p.1

theorem osem_inj : Function.Injective osem := by decide
theorem commSems_eq : commSems = Finset.univ.map ⟨osem, osem_inj⟩ := by decide

theorem bigSep_four {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

theorem comm_cells (Φ : SemLoc sig → sProp 𝕄) :
    bigSep commSems Φ = bigSep Finset.univ fun j : Fin 7 => iprop(Φ (rsS j) ∗ Φ (rsR j) ∗ Φ (agS j) ∗ Φ (agR j)) := by
  rw [commSems_eq, bigSep_map, bigSep_univ_prod]
  exact bigSep_congr fun j _ => bigSep_four fun k => Φ (osem (j, k))

theorem own_cells (c : Dev nD) : (Pipeline.ownSems0 osem c : sProp 𝕄) = bigSep Finset.univ (backs c) := by
  unfold Pipeline.ownSems0
  rw [bigSep_univ_prod]
  exact bigSep_congr fun j _ => bigSep_four fun k => (semVal ((c : Thread nD τ), osem (j, k)) 0 : sProp 𝕄)

theorem tokL_nodup (c : Dev nD) (j : Fin 7) : (tokL c j).Nodup := by
  refine List.Nodup.of_map (fun x => useOf x.1.2) ?_
  simp only [tokL, List.map_cons, List.map_nil, use_bar, use_rsS, use_rsR, use_agS, use_agR]
  decide +revert

theorem tok_list (c : Dev nD) (Φ : GSem nD τ sig × ℕ × Fin 7 → sProp 𝕄) :
    bigSep (toks c) Φ = bigSep Finset.univ fun j : Fin 7 => bigSepL (tokL c j) Φ := by
  unfold toks
  rw [bigSep_biUnion_eq _ _ _ fun j _ j' _ hne => Finset.disjoint_left.mpr fun x hx hx' =>
    hne (congrArg Prod.snd ((payer_tok c j x hx).symm.trans (payer_tok c j' x hx')))]
  exact bigSep_congr fun j _ => bigSep_eq_bigSepL_of_eq _ rfl (tokL_nodup c j) Φ

/-! ## Opening the cells -/

variable (κ : GSem nD τ sig → ℕ)

/-- The tokens of the payments numbered j, before the device's own cells are open. -/
def held7 (c : Dev nD) (j : Fin 7) : sProp 𝕄 :=
  iprop((openTok ER (cell c (rsS j)) ∗ openTok ER (cell c (rsR j)) ∗ openTok ER (cell c (agS j)) ∗ openTok ER (cell c (agR j)))
    ∗ (dutyTok ER (cell (peer c j) barL) 0 j.rev ∗ dutyTok ER (cell c (rsS j)) 0 0 ∗ dutyTok ER (cell (peer c j) (rsR j.rev)) 0 0
      ∗ dutyTok ER (cell c (agS j)) 0 0 ∗ dutyTok ER (cell (peer c j) (agR j.rev)) 0 0)
    ∗ reached ER (cell (peer c j) barL) 0 ∗ (crd c (rsR j) 2 ∗ crd c (agR j) 3) ∗ backs c j)

theorem open_one (c : Dev nD) (s : SemLoc sig) (h : s ∈ fam.dorm 0) :
    iprop(invs A κ ∗ openTok ER (cell c s) ∗ semVal (cell c s) 0) ⊢ (|={Set.univ}=> iprop(at0 c s ∗ reached ER (cell c s) 0) : sProp 𝕄) := by
  iintro ⟨#HI, Ho, Hv⟩
  ihave #Hc := (inv_comm A κ c h) $$ HI
  iapply (Rounds.cell_open ER (Rd A) (g := cell c s) (Set.mem_univ (κ (cell c s))))
  isplitr; · iexact Hc
  isplitl [Ho] <;> iassumption

theorem open_seven (c : Dev nD) (j : Fin 7) :
    iprop(invs A κ ∗ held7 c j) ⊢ (|={Set.univ}=> iprop(sigTok c j ∗ tokRS c j ∗ tokAG c j ∗ waits c j) : sProp 𝕄) := by
  unfold held7 backs
  iintro ⟨#HI, ⟨O1, O2, O3, O4⟩, ⟨D0, D1, D2, D3, D4⟩, #RB, ⟨X1, X2⟩, ⟨V1, V2, V3, V4⟩⟩
  imod (open_one A κ c (rsS j) (mem_rsS j)) $$ [O1 V1] with ⟨A1, #R1⟩
  · isplitr; · iexact HI
    isplitl [O1] <;> iassumption
  imod (open_one A κ c (rsR j) (mem_rsR j)) $$ [O2 V2] with ⟨A2, #R2⟩
  · isplitr; · iexact HI
    isplitl [O2] <;> iassumption
  imod (open_one A κ c (agS j) (mem_agS j)) $$ [O3 V3] with ⟨A3, #R3⟩
  · isplitr; · iexact HI
    isplitl [O3] <;> iassumption
  imod (open_one A κ c (agR j) (mem_agR j)) $$ [O4 V4] with ⟨A4, #R4⟩
  · isplitr; · iexact HI
    isplitl [O4] <;> iassumption
  imodintro
  unfold sigTok tokRS tokAG waits
  isplitl [D0]
  · isplitr; · iexact R2
    isplitr; · iexact R4
    isplitl [D0]; · iexact D0
    iexact RB
  isplitl [D1 D2]
  · isplitl [D1]; · iexact D1
    isplitr; · iexact R1
    iexact D2
  isplitl [D3 D4]
  · isplitl [D3]; · iexact D3
    isplitr; · iexact R3
    iexact D4
  isplitl [A1]; · iexact A1
  isplitl [A2]; · iexact A2
  isplitl [A3]; · iexact A3
  isplitl [A4]; · iexact A4
  isplitl [X1]; · iexact X1
  iexact X2

theorem parted (c : Dev nD) : (bigSep Finset.univ fun j : Fin 7 => iprop(sigTok c j ∗ tokRS c j ∗ tokAG c j ∗ waits c j) : sProp 𝕄)
      ⊢ iprop(bigSep Finset.univ (sigTok c) ∗ bigSep Finset.univ (tokRS c) ∗ bigSep Finset.univ (tokAG c)
        ∗ bigSep Finset.univ (waits c)) := by
  rw [bigSep_sep', bigSep_sep', bigSep_sep']

/-- What a device carries from the program's launch to the kernel's. -/
def carried (c : Dev nD) : sProp 𝕄 :=
  iprop(Pipeline.launchCred (fun d => tallyL (owed d)) c ∗ fam.launched ER (Rd A) (fun _ => Finset.univ) c)

/-- What it has once its own cells are open: what the kernel starts from, but for the buffers and what is owed. -/
def opened (c : Dev nD) : sProp 𝕄 :=
  iprop((∃ κ, invs A κ) ∗ lvs
    ∗ bigSep Finset.univ (sigTok c) ∗ bigSep Finset.univ (tokRS c) ∗ bigSep Finset.univ (tokAG c)
    ∗ cred (tallyAt (cell c barL) 1 7) ∗ at0 c barL ∗ bigSep Finset.univ (waits c))

theorem open_all (c : Dev nD) :
    iprop(carried A c ∗ Pipeline.ownSems0 osem c ∗ lvs) ⊢ (|={Set.univ}=> opened A c : sProp 𝕄) := by
  unfold carried Fam.launched Fam.barPos
  rw [own_cells, show (Finset.univ : Finset (Fin 1)) = {0} from by decide, bigSep_singleton]
  unfold Fam.rides
  rw [show bigSep (fam.dorm 0) (fun sm => (openTok ER ((c.tc : Thread nD τ), sm) : sProp 𝕄)) = _ from
      comm_cells fun sm => (openTok ER (cell c sm) : sProp 𝕄),
    show bigSep (fam.toks c 0) (fun x => (dutyTok ER x.1 x.2.1 x.2.2 : sProp 𝕄)) = _ from tok_list c _]
  iintro ⟨⟨HC, ⟨-, HB, #HR⟩, ⟨⟨%κ, #HI⟩, HO, HT⟩⟩, HV, #HL⟩
  ihave HC := (credit c) $$ HC
  icases HC with ⟨CB, HC⟩
  have hr : (bigSep Finset.univ fun n : Dev nD => (reached ER ((n.tc : Thread nD τ), fam.bar) 0 : sProp 𝕄))
      ⊢ bigSep Finset.univ fun j : Fin 7 => reached ER (cell (peer c j) barL) 0 :=
    BI.sep_emp.2.trans ((BI.sep_mono (Idealize.SL.BI.Entails.refl _) (Idealize.SL.BI.BIBase.Entails.of_eq (bigSep_emp_const (Finset.univ : Finset (Fin 7))).symm)).trans
      (bigSep_with_persistent fun j _ => (BI.sep_and.trans BI.and_elimL).trans (bigSep_elim (Finset.mem_univ (peer c j)))))
  ihave HR7 := hr $$ HR
  have h7 : iprop((bigSep Finset.univ fun j : Fin 7 => iprop(openTok ER (cell c (rsS j)) ∗ openTok ER (cell c (rsR j)) ∗ openTok ER (cell c (agS j)) ∗ openTok ER (cell c (agR j))))
        ∗ (bigSep Finset.univ fun j : Fin 7 => bigSepL (tokL c j) fun x => (dutyTok ER x.1 x.2.1 x.2.2 : sProp 𝕄))
        ∗ (bigSep Finset.univ fun j : Fin 7 => reached ER (cell (peer c j) barL) 0)
        ∗ (bigSep Finset.univ fun j : Fin 7 => iprop(crd c (rsR j) 2 ∗ crd c (agR j) 3))
        ∗ bigSep Finset.univ (backs c)) ⊢ (bigSep Finset.univ (held7 c) : sProp 𝕄) := by
    rw [← bigSep_sep', ← bigSep_sep', ← bigSep_sep', ← bigSep_sep']
    exact bigSep_mono fun j _ => by unfold held7; exact Idealize.SL.BI.Entails.refl _
  ihave H7 := h7 $$ [HO HT HR7 HC HV]
  · isplitl [HO]; · iexact HO
    isplitl [HT]; · iexact HT
    isplitl [HR7]; · iexact HR7
    isplitl [HC]; · iexact HC
    iexact HV
  ihave H8 := (bigSep_with_persistent (R := invs A κ) (Φ := held7 c)
    (Ψ := fun j => iprop(|={Set.univ}=> iprop(sigTok c j ∗ tokRS c j ∗ tokAG c j ∗ waits c j))) fun j _ => open_seven A κ c j) $$ [H7]
  · isplitr; · iexact HI
    iexact H7
  imod (bigSep_fupd (E := Set.univ) Finset.univ fun j => iprop(sigTok c j ∗ tokRS c j ∗ tokAG c j ∗ waits c j)) $$ H8 with H9
  ihave H9 := (parted c) $$ H9
  imodintro
  icases H9 with ⟨T1, T2, T3, T4⟩
  unfold opened
  isplitr; · iexists κ; iexact HI
  isplitr; · iexact HL
  isplitl [T1]; · iexact T1
  isplitl [T2]; · iexact T2
  isplitl [T3]; · iexact T3
  isplitl [CB]; · iexact CB
  isplitl [HB]; · iexact HB
  iexact T4

/-- The program's launch makes on every device what it carries. -/
theorem funded : SiteBlocks.Funds ER (fun c : Dev nD => semVal ((c.tc : Thread nD τ), fam.bar) 0) (fun d => tallyL (owed d))
    (launchOf fam.S fam.Sd fam.T) (carried A) Set.univ := by
  have h := pass (fun d => tallyL (owed d)) (fam.funds ER (Rd A) (fun _ _ h => h) (fun _ => Finset.univ) (Es := Set.univ))
  simp only [zero_add] at h
  exact h

end Cert.KernelIdeal.Run
-- ==== Proof.Content.lean ====
/-
  What the send buffer and the output window hold, as functions of what is staged on the devices.
-/
module

public import proofs.«01_k».proof.Proof.Whole

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal.Gen

variable {F : FTy → Type} [FloatOps F]

local notation "𝕄" => MT nD τ sig ℕ (Elt F) ℕ UU ℕ

/-! ## What the buffers hold -/

/-- A row and a column, as an index of n rows of 768. -/
abbrev at2 {n : ℕ} (r : Fin n) (j : Fin 768) : (⟨2, ![n, 768]⟩ : Shape).Idx := Fin.cons r (Fin.cons j finZeroElim)

/-- Both halves of the partial product of a device, one above the other. -/
def both (w : Staged F) : Big F := fun i =>
  if h : (i 0 : Fin 1024).val < 512 then half0 w (at2 (n := 512) ⟨(i 0 : Fin 1024).val, h⟩ (i 1))
  else half1 w (at2 (n := 512) ⟨(i 0 : Fin 1024).val - 512, by have : (i 0 : Fin 1024).val < 1024 := (i 0 : Fin 1024).isLt; omega⟩ (i 1))

/-- The chunks, each summed over the devices by its own device, one above the other. -/
def whole (w : Dev nD → Staged F) : Big F := fun i =>
  red ⟨fun c => both (w c), both (w 0)⟩ (⟨(i 0 : Fin 1024).val / 128, by have : (i 0 : Fin 1024).val < 1024 := (i 0 : Fin 1024).isLt; show _ < 8; omega⟩ : Dev nD)
    (at2 (n := 128) ⟨(i 0 : Fin 1024).val % 128, Nat.mod_lt _ (by decide)⟩ (i 1))

/-- What the buffers hold, from what is staged on the devices. -/
def content (w : Dev nD → Staged F) : Data F := ⟨fun c => both (w c), whole w⟩

theorem at2_eq {n : ℕ} (x : (⟨2, ![n, 768]⟩ : Shape).Idx) {r : Fin n} (h : r.val = (x 0 : Fin n).val) : at2 r (x 1) = x := by
  funext a
  obtain ⟨a, ha⟩ := a
  match a with
  | 0 => exact Fin.ext h
  | 1 => rfl

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39

/-- A block of rows read off a whole buffer: its row r is the buffer's row off + r. -/
theorem rows_read (n off : ℕ) (inb) (f : Big F) (x : (⟨2, ![n, 768]⟩ : Shape).Idx) (h : off + (x 0 : Fin n).val < 1024) :
    (sM.access (Rect.unit (s := S1024x768) ![off, 0] ![n, 768] inb)).read (Elt F) f x = f (at2 (n := 1024) ⟨off + (x 0 : Fin n).val, h⟩ (x 1)) := by
  show f _ = f _
  congr 1
  funext a
  obtain ⟨a, ha⟩ := a
  match a with
  | 0 => exact Fin.ext (by show off + 1 * _ = off + _; rw [Nat.one_mul]; rfl)
  | 1 => exact Fin.ext (by show 0 + 1 * _ = _; rw [Nat.one_mul, Nat.zero_add]; rfl)

theorem fits (w : Dev nD → Staged F) : Fits (content w) w where
  low c x := by
    have hx : (x 0 : Fin 512).val < 512 := (x 0 : Fin 512).isLt
    refine (rows_read 512 0 _ _ x (by omega)).trans ?_
    exact (dif_pos (show 0 + (x 0 : Fin 512).val < 512 by omega)).trans (congrArg (half0 (w c)) (at2_eq x (Nat.zero_add _)))
  high c x := by
    have hx : (x 0 : Fin 512).val < 512 := (x 0 : Fin 512).isLt
    refine (rows_read 512 512 _ _ x (by omega)).trans ?_
    exact (dif_neg (show ¬ 512 + (x 0 : Fin 512).val < 512 by omega)).trans (congrArg (half1 (w c)) (at2_eq x (Nat.add_sub_cancel_left _ _)))
  fin c x := by
    have hx : (x 0 : Fin 128).val < 128 := (x 0 : Fin 128).isLt
    have hc : c.val < 8 := c.isLt
    refine (rows_read 128 (128 * c.val) _ _ x (by omega)).trans ?_
    have e : (⟨(128 * c.val + (x 0 : Fin 128).val) / 128, by show _ < 8; omega⟩ : Dev nD) = c := Fin.ext (by show _ / 128 = c.val; omega)
    have e' := at2_eq x (r := ⟨(128 * c.val + (x 0 : Fin 128).val) % 128, Nat.mod_lt _ (by decide)⟩) (by show _ % 128 = _; omega)
    exact congrArg₂ (fun (d : Dev nD) (y : S128x768.Idx) => red ⟨fun c => both (w c), both (w 0)⟩ d y) e e'

end Cert.KernelIdeal.Run
-- ==== Proof.Launch.lean ====
/-
  The program run: the kernel between the host operations, on all devices at once.
-/
module

public import proofs.«01_k».proof.Proof.Deal
public import proofs.«01_k».proof.Proof.Content
public import proofs.«01_k».proof.Proof.Gen.KernelIdeal.Regions
public import Idealize.ShloMosaic.Lib.Quiescent
public import Idealize.ShloMosaic.Lib.Pipeline.TalkSched

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal.Gen

open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

local notation "pcs" => pcfgs (F := F)

/-- What is staged on device c: its arguments, cut and scaled by the host operations before the kernel. -/
def stg (c : Dev nD) : Staged F := ⟨V1 m c main_arg0, V1 m c main_v11, V1 m c main_arg2, V1 m c main_arg3, V1 m c main_v16⟩

/-- What the buffers hold. -/
def cont : Data F := content (stg m)

/-! ## The region's proof data -/

/-- Beside the windows, before the kernel. -/
def before (c : Dev nD) : sProp 𝕄 :=
  iprop(opened (cont m) c ∗ (∃ f, sOn c Finset.univ fullShare f) ∗ (∃ f, rOn c Finset.univ f) ∗ ∃ r, prngReg c r)
/-- Beside the windows, after it. -/
def behind (c : Dev nD) : sProp 𝕄 :=
  iprop((∃ f : Big F, sOn c Finset.univ fullShare f) ∗ (∃ f : Rcv F, rOn c Finset.univ f) ∗ semVal (cell c barL) 0 ∗ bigSep Finset.univ (backs c) ∗ ∃ r, prngReg c r)

/-- The arrays the windows are cut from, and what the windows hold after the kernel. -/
def dat (c : Dev nD) : Dat τ (Elt F) ℕ ℕ UU ℕ cfg0 c where
  A w := V1 m c (Proc.devRef .tc (Pipeline.arrRef spec0 w))
  after w _ := match w with
    | 0 => (stg m c).x
    | 1 => (stg m c).wq
    | 2 => (stg m c).k
    | 3 => (stg m c).v
    | 4 => (stg m c).wo
    | 5 => (cont m).T
  Φ t := if t.val = 0 then before m c else behind c
  q _ := fullShare
  owed t := if t.val = 0 then tallyL (owed c) else 0

def pdats (p : Fin 1) (c : Dev nD) : Dat τ (Elt F) ℕ ℕ UU ℕ (cfgs p) c := match p with | 0 => dat m c

theorem owed_last (c : Dev nD) : (dat m c).owed (Fin.last cfg0.N) = 0 := by
  show (if (Fin.last cfg0.N).val = 0 then tallyL (owed c) else 0) = 0
  rw [Fin.val_last, if_neg (by rw [show cfg0.N = 1 from N_0]; decide)]
theorem phi_last (c : Dev nD) : (dat m c).Φ (Fin.last cfg0.N) = behind c := by
  show (if (Fin.last cfg0.N).val = 0 then before m c else behind c) = _
  rw [Fin.val_last, if_neg (by rw [show cfg0.N = 1 from N_0]; decide)]

/-- What a window holds on entry: the whole of its array. -/
theorem in0 (c : Dev nD) (d) : (dat m c).before 0 t0_0 d = (stg m c).x :=
  (Dat.before_fetched (dat m c) _ _ (fetch0_0 _) d).trans (funext fun j => by
    show V1 m c main_arg0 _ = V1 m c main_arg0 j
    congr 1
    funext a
    obtain ⟨a, ha⟩ := a
    match a with
    | 0 => exact Fin.ext (by show 0 + 1 * _ = _; rw [Nat.one_mul, Nat.zero_add])
    | 1 => exact Fin.ext (by show 0 + 1 * _ = _; rw [Nat.one_mul, Nat.zero_add])
    | 2 => exact Fin.ext (by show 0 + 1 * _ = _; rw [Nat.one_mul, Nat.zero_add])
    )
theorem in1 (c : Dev nD) (d) : (dat m c).before 1 t0_0 d = (stg m c).wq :=
  (Dat.before_fetched (dat m c) _ _ (fetch0_1 _) d).trans (funext fun j => by
    show V1 m c main_v11 _ = V1 m c main_v11 j
    congr 1
    funext a
    obtain ⟨a, ha⟩ := a
    match a with
    | 0 => exact Fin.ext (by show 0 + 1 * _ = _; rw [Nat.one_mul, Nat.zero_add])
    | 1 => exact Fin.ext (by show 0 + 1 * _ = _; rw [Nat.one_mul, Nat.zero_add])
    )
theorem in2 (c : Dev nD) (d) : (dat m c).before 2 t0_0 d = (stg m c).k :=
  (Dat.before_fetched (dat m c) _ _ (fetch0_2 _) d).trans (funext fun j => by
    show V1 m c main_arg2 _ = V1 m c main_arg2 j
    congr 1
    funext a
    obtain ⟨a, ha⟩ := a
    match a with
    | 0 => exact Fin.ext (by show 0 + 1 * _ = _; rw [Nat.one_mul, Nat.zero_add])
    | 1 => exact Fin.ext (by show 0 + 1 * _ = _; rw [Nat.one_mul, Nat.zero_add])
    | 2 => exact Fin.ext (by show 0 + 1 * _ = _; rw [Nat.one_mul, Nat.zero_add])
    | 3 => exact Fin.ext (by show 0 + 1 * _ = _; rw [Nat.one_mul, Nat.zero_add])
    )
theorem in3 (c : Dev nD) (d) : (dat m c).before 3 t0_0 d = (stg m c).v :=
  (Dat.before_fetched (dat m c) _ _ (fetch0_3 _) d).trans (funext fun j => by
    show V1 m c main_arg3 _ = V1 m c main_arg3 j
    congr 1
    funext a
    obtain ⟨a, ha⟩ := a
    match a with
    | 0 => exact Fin.ext (by show 0 + 1 * _ = _; rw [Nat.one_mul, Nat.zero_add])
    | 1 => exact Fin.ext (by show 0 + 1 * _ = _; rw [Nat.one_mul, Nat.zero_add])
    | 2 => exact Fin.ext (by show 0 + 1 * _ = _; rw [Nat.one_mul, Nat.zero_add])
    | 3 => exact Fin.ext (by show 0 + 1 * _ = _; rw [Nat.one_mul, Nat.zero_add])
    )
theorem in4 (c : Dev nD) (d) : (dat m c).before 4 t0_0 d = (stg m c).wo :=
  (Dat.before_fetched (dat m c) _ _ (fetch0_4 _) d).trans (funext fun j => by
    show V1 m c main_v16 _ = V1 m c main_v16 j
    congr 1
    funext a
    obtain ⟨a, ha⟩ := a
    match a with
    | 0 => exact Fin.ext (by show 0 + 1 * _ = _; rw [Nat.one_mul, Nat.zero_add])
    | 1 => exact Fin.ext (by show 0 + 1 * _ = _; rw [Nat.one_mul, Nat.zero_add])
    )

/-- A window's buffer, whole. -/
abbrev ownw (c : Dev nD) (b : Ref sig .tc) (f : b.ty.Contents (Elt F)) : sProp 𝕄 := owns (c : Thread nD τ) (Memref.whole b) fullShare f

theorem windows_in (c : Dev nD) : iprop((∃ d, ownw c cc0_stg0_0 ((dat m c).before 0 t0_0 d)) ∗ (∃ d, ownw c cc0_stg1_0 ((dat m c).before 1 t0_0 d))
      ∗ (∃ d, ownw c cc0_stg2_0 ((dat m c).before 2 t0_0 d)) ∗ (∃ d, ownw c cc0_stg3_0 ((dat m c).before 3 t0_0 d))
      ∗ (∃ d, ownw c cc0_stg4_0 ((dat m c).before 4 t0_0 d)) ∗ (∃ d, ownw c cc0_stg5_0 ((dat m c).before 5 t0_0 d)))
    ⊢ (iprop(inp c (stg m c) ∗ ∃ f, oOn c Finset.univ f) : sProp 𝕄) := by
  unfold inp ownw
  simp only [in0, in1, in2, in3, in4, owns_whole]
  iintro ⟨⟨%d0, H0⟩, ⟨%d1, H1⟩, ⟨%d2, H2⟩, ⟨%d3, H3⟩, ⟨%d4, H4⟩, ⟨%d5, H5⟩⟩
  isplitr [H5]
  · isplitl [H0]; · iexact H0
    isplitl [H1]; · iexact H1
    isplitl [H2]; · iexact H2
    isplitl [H3]; · iexact H3
    iexact H4
  iexists _; iexact H5

theorem windows_out (c : Dev nD) : iprop(inp c (stg m c) ∗ oOn c Finset.univ (cont m).T)
    ⊢ (iprop(ownw c cc0_stg0_0 ((dat m c).after 0 t0_0) ∗ ownw c cc0_stg1_0 ((dat m c).after 1 t0_0) ∗ ownw c cc0_stg2_0 ((dat m c).after 2 t0_0)
      ∗ ownw c cc0_stg3_0 ((dat m c).after 3 t0_0) ∗ ownw c cc0_stg4_0 ((dat m c).after 4 t0_0) ∗ ownw c cc0_stg5_0 ((dat m c).after 5 t0_0)) : sProp 𝕄) := by
  unfold inp ownw
  rw [owns_whole, owns_whole, owns_whole, owns_whole, owns_whole, owns_whole]
  iintro ⟨⟨H0, H1, H2, H3, H4⟩, H5⟩
  isplitl [H0]; · iexact H0
  isplitl [H1]; · iexact H1
  isplitl [H2]; · iexact H2
  isplitl [H3]; · iexact H3
  isplitl [H4]; · iexact H4
  iexact H5

theorem body (c : Dev nD) : BodyObligation (dat m c) defs₀ 𝒱₀ 0 Set.univ := fun t => by
  obtain rfl := fin_N0 t
  rw [bigSep_W0, bigSep_W0]
  rw [show (dat m c).Φ t0_0.castSucc = before m c from rfl, show (dat m c).Φ t0_0.succ = behind c from phi_last m c]
  show iprop(before m c ∗ (dat m c).owesAt 0 t0_0.castSucc
      ∗ (∃ d, ownw c cc0_stg0_0 ((dat m c).before 0 t0_0 d)) ∗ (∃ d, ownw c cc0_stg1_0 ((dat m c).before 1 t0_0 d))
      ∗ (∃ d, ownw c cc0_stg2_0 ((dat m c).before 2 t0_0 d)) ∗ (∃ d, ownw c cc0_stg3_0 ((dat m c).before 3 t0_0 d))
      ∗ (∃ d, ownw c cc0_stg4_0 ((dat m c).before 4 t0_0 d)) ∗ (∃ d, ownw c cc0_stg5_0 ((dat m c).before 5 t0_0 d)))
    ⊢ run c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) fun _ =>
      iprop(behind c ∗ (dat m c).owesAt 0 t0_0.succ
        ∗ ownw c cc0_stg0_0 ((dat m c).after 0 t0_0) ∗ ownw c cc0_stg1_0 ((dat m c).after 1 t0_0) ∗ ownw c cc0_stg2_0 ((dat m c).after 2 t0_0)
        ∗ ownw c cc0_stg3_0 ((dat m c).after 3 t0_0) ∗ ownw c cc0_stg4_0 ((dat m c).after 4 t0_0) ∗ ownw c cc0_stg5_0 ((dat m c).after 5 t0_0))
  unfold before opened
  iintro ⟨⟨⟨⟨%κ, #HI⟩, #HL, TS, TR, TA, CB, AB, WT⟩, SB, RB, HP⟩, HO, HW⟩
  ihave HW := (windows_in m c) $$ HW
  icases HW with ⟨I, OB⟩
  ihave HO := (owesAt_elim (dat m c) 0 t0_0.castSucc (tallyL (owed c)) rfl) $$ HO
  iapply (body_run (cont m) κ c (stg m) (fits (stg m))) $$ [I SB RB OB TS TR TA CB AB WT HO]
  · unfold start ow
    isplitr; · iexact HI
    isplitr; · iexact HL
    isplitl [I]; · iexact I
    isplitl [SB]; · iexact SB
    isplitl [RB]; · iexact RB
    isplitl [OB]; · iexact OB
    isplitl [TS]; · iexact TS
    isplitl [TR]; · iexact TR
    isplitl [TA]; · iexact TA
    isplitl [CB]; · iexact CB
    isplitl [AB]; · iexact AB
    isplitl [WT]; · iexact WT
    iexact HO
  unfold finish ow behind
  iintro ⟨I, SB, RB, OB, VB, BK, ⟨%W, HO⟩⟩
  isplitl [SB RB VB BK HP]
  · isplitl [SB]; · iexact SB
    isplitl [RB]; · iexact RB
    isplitl [VB]; · iexact VB
    isplitl [BK]; · iexact BK
    iexact HP
  isplitl [HO]; · iapply (owesAt_intro (dat m c) 0 t0_0.succ 0 (owed_last m c) rfl W); iexact HO
  iapply (windows_out m c)
  isplitl [I]; · iexact I
  iexact OB

/-! ## The region -/

theorem owed_over (c : Dev nD) : Over 0 (owed c) := by
  have hb (j : Fin 7) {l : List (Pay nD τ sig)} (h : Over 0 l) : Over 0 (barDue c j :: l) := fun x hx => by
    rcases List.mem_cons.mp hx with rfl | hx
    · exact ⟨rfl, by show 0 < 1; omega, by show 1 < 4; omega⟩
    · exact h x hx
  exact hb 0 (hb 1 (hb 2 (hb 3 (hb 4 (hb 5 (hb 6 (over_mono (by omega)
    (over_append (over_rs0 c 0) (over_append (over_rs0 c 1) (over_owedMid c))))))))))

theorem owed_cut (c : Dev nD) {g : GSem nD τ sig} {i : ℕ} (h : 0 < tallyL (owed c) g i) : i ∈ SiteBlocks.L Lv g ∧ 0 < SiteBlocks.lv g i := by
  obtain ⟨x, hx, rfl, rfl⟩ := tallyL_pos h
  have ho : Over 0 (owed c) := owed_over c
  obtain ⟨h1, h2, h3⟩ := ho x hx
  exact ⟨by unfold SiteBlocks.L; rw [if_pos h1]; exact Finset.mem_range.mpr h3, h2⟩

theorem enter (c : Dev nD) : iprop(Pipeline.scopedRest spec0 c ∗ (∃ r, prngReg c r) ∗ StableHlo.held (c.tc : Thread nD τ) ∅ (V1 m c) ∗ opened (cont m) c)
    ⊢ before m c := by
  rw [scopedRest0_eq]
  unfold before
  iintro ⟨⟨S0, S1⟩, HP, -, HX⟩
  isplitl [HX]; · iexact HX
  isplitl [S0]; · iexact S0
  isplitl [S1]; · iexact S1
  iexact HP

/-- What the kernel leaves in the buffers of the program: the sum in the output array. -/
def outs : Outs (F := F) := fun _ r c => Function.update (V1 m c) main_v17 (cont m).T r

theorem leave (c : Dev nD) : behind c
    ⊢ (iprop(Pipeline.scopedRest spec0 c ∗ (∃ r, prngReg c r) ∗ StableHlo.held (c.tc : Thread nD τ) ∅ (V2 m (outs m) c) ∗ Pipeline.ownSems0 osem c ∗ semVal (cell c barL) 0) : sProp 𝕄) := by
  rw [scopedRest0_eq, own_cells]
  unfold behind
  iintro ⟨S0, S1, VB, BK, HP⟩
  isplitl [S0 S1]
  · isplitl [S0]; · iexact S0
    iexact S1
  isplitl [HP]; · iexact HP
  isplitr; · unfold StableHlo.held; rw [bigSep_empty]; iempintro
  isplitl [BK]; · iexact BK
  iexact VB

theorem V2_out (c : Dev nD) : V2 m (outs m) c main_v17 = (cont m).T := by
  show Function.update (V1 m c) main_v17 (Function.update (V1 m c) main_v17 (cont m).T main_v17) main_v17 = _
  rw [Function.update_self, Function.update_self]

theorem arr_out (c : Dev nD) : (dat m c).arrAt 5 cfg0.N = (cont m).T :=
  (dat m c).arrAt_eq_of_after_last 5 t0_0 (by decide +kernel) _ fun j => by
    show (cont m).T j = (cont m).T _
    congr 1

theorem arr_mem : ∀ w : Fin 6, Proc.devRef .tc (Pipeline.arrRef spec0 w) ∈ Pipeline.arrRefs (τ := τ) spec0 := fun w =>
  Finset.mem_map_of_mem _ (Finset.mem_image_of_mem _ (Finset.mem_univ w))

theorem kept (c : Dev nD) (b : DevRef τ sig) (hb : b ∈ (Pipeline.ucRefs τ sig \ Pipeline.arrRefs spec0) \ ∅) : V2 m (outs m) c b = V1 m c b := by
  refine Function.update_of_ne (fun e => ?_) _ _
  rw [Finset.sdiff_empty, Finset.mem_sdiff] at hb
  exact hb.2 (e ▸ arr_mem 5)

theorem arr_end (c : Dev nD) : ∀ w : Fin 6, (dat m c).arrAt w cfg0.N = V2 m (outs m) c (Proc.devRef .tc (Pipeline.arrRef spec0 w)) := fun
  | 0 => ((dat m c).arrAt_in 0 rfl _).trans (V2_of m (outs m) c main_arg0 (by decide)).symm
  | 1 => ((dat m c).arrAt_in 1 rfl _).trans (V2_of m (outs m) c main_v11 (by decide)).symm
  | 2 => ((dat m c).arrAt_in 2 rfl _).trans (V2_of m (outs m) c main_arg2 (by decide)).symm
  | 3 => ((dat m c).arrAt_in 3 rfl _).trans (V2_of m (outs m) c main_arg3 (by decide)).symm
  | 4 => ((dat m c).arrAt_in 4 rfl _).trans (V2_of m (outs m) c main_v16 (by decide)).symm
  | 5 => (arr_out m c).trans (V2_out m c).symm

theorem cut (c : Dev nD) (t : Fin (cfg0.N + 1)) (g : GSem nD τ sig) (i : ℕ) (h : 0 < (dat m c).owed t g i) :
    i ∈ SiteBlocks.L Lv g ∧ 0 < SiteBlocks.lv g i := by
  have e : (dat m c).owed t = if t.val = 0 then tallyL (owed c) else 0 := rfl
  rw [e] at h
  split at h
  · exact owed_cut c h
  · exact absurd h (Nat.lt_irrefl 0)

set_option backward.isDefEq.respectTransparency.types false in
def reg : Pipeline.RegionSeg pcs adm (pdats m) 0 defs₀ 𝒱₀ (SiteBlocks.L Lv) SiteBlocks.lv 0 :=
  Pipeline.RegionSeg.ofTalk pcs adm (pdats m) 0 defs₀ 𝒱₀ (SiteBlocks.L Lv) SiteBlocks.lv 0 osem (by decide : Pipeline.OwnSemFacts spec0 osem)
    ∅ (Pipeline.ucRefs τ sig \ Pipeline.arrRefs spec0) (Finset.empty_subset _) launch0.toP rfl (fun c => (body m c).loose)
    (fun _ => 0) (fun c => tallyL (owed c)) (fun c => (zero_add _).symm) (owed_last m) (fun _ => rfl)
    (fun c w => by unfold Dat.share; split <;> rfl)
    (fun c => V1 m c) (fun c => V2 m (outs m) c)
    (kept m)
    (carried (cont m)) (fun c => semVal (cell c barL) 0) (opened (cont m)) (fun c => semVal (cell c barL) 0)
    (open_all (cont m)) (enter m) (fun c => by rw [show (pdats m 0 c).Φ (Fin.last _) = behind c from phi_last m c]; exact leave m c)
    (fun c => by iintro H; imodintro; iexact H)
    (fun _ => 0)
    ⟨fun c w s => SiteBlocks.mem_L' rfl (by decide), fun c w s => Nat.le_refl 0, fun c t g i h => cut m c t g i h⟩
    (fun _ => iprop(emp))
    (fun c w => rfl) (fun c w => arr_end m c w)

/-- What a device has beside the buffers of the program, before the kernel and after it. -/
def rest (i : Fin 2) (c : Dev nD) : sProp 𝕄 :=
  if i = 0 then iprop(carried (cont m) c ∗ (∃ r, prngReg c r) ∗ ∃ W, owes (c : Thread nD τ) (tallyL (owed c)) W)
  else iprop(semVal (cell c barL) 0 ∗ ∃ W, owes (c : Thread nD τ) (0 : CellTallies nD τ sig ℕ) W)

theorem arr_sub : Pipeline.arrRefs (τ := τ) spec0 ⊆ Pipeline.ucRefs τ sig := by decide

theorem reg_pre (c : Dev nD) : iprop(StableHlo.held (c : Thread nD τ) (Pipeline.ucRefs τ sig) (V1 m c) ∗ rest m 0 c) ⊢ (reg m).pre c := by
  show _ ⊢ iprop(StableHlo.held (c.tc : Thread nD τ) (Pipeline.arrRefs spec0) (V1 m c) ∗ (∃ r, prngReg c r)
    ∗ (StableHlo.held (c.tc : Thread nD τ) (Pipeline.ucRefs τ sig \ Pipeline.arrRefs spec0) (V1 m c) ∗ emp) ∗ carried (cont m) c
    ∗ ∃ Wd, owes (c : Thread nD τ) (0 + tallyL (owed c)) Wd)
  rw [zero_add, StableHlo.held_sub_split (c : Thread nD τ) arr_sub (V1 m c)]
  unfold rest
  rw [if_pos rfl]
  iintro ⟨⟨HA, HB⟩, HC, HP, HO⟩
  isplitl [HA]; · iexact HA
  isplitl [HP]; · iexact HP
  isplitl [HB]
  · isplitl [HB]; · iexact HB
    iempintro
  isplitl [HC]; · iexact HC
  iexact HO

theorem reg_post (c : Dev nD) : (reg m).post c ⊢ iprop(StableHlo.held (c : Thread nD τ) (Pipeline.ucRefs τ sig) (V2 m (outs m) c) ∗ rest m 1 c) := by
  show iprop(StableHlo.held (c.tc : Thread nD τ) (Pipeline.arrRefs spec0) (V2 m (outs m) c) ∗ (∃ r, prngReg c r)
    ∗ (StableHlo.held (c.tc : Thread nD τ) (Pipeline.ucRefs τ sig \ Pipeline.arrRefs spec0) (V2 m (outs m) c) ∗ emp) ∗ semVal (cell c barL) 0
    ∗ ∃ Wd, owes (c : Thread nD τ) (0 : CellTallies nD τ sig ℕ) Wd) ⊢ _
  rw [StableHlo.held_sub_split (c : Thread nD τ) arr_sub (V2 m (outs m) c)]
  unfold rest
  rw [if_neg (by decide)]
  iintro ⟨HA, -, ⟨HB, -⟩, HV, HO⟩
  isplitl [HA HB]
  · isplitl [HA]; · iexact HA
    iexact HB
  isplitl [HV]; · iexact HV
  iexact HO

/-! ## The run -/

/-- A resource, all of it on device 0. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp BI.sep_emp

/-- What the program's ghost state starts from. -/
def u₀ : UU :=
  (initOf (Pipeline.cells (cfgs) cellOf_inj) (Pipeline.launchToks cfgs cellOf_inj), launchOf fam.S fam.Sd fam.T)

theorem unscoped_bar : ∀ s : SemLoc sig, s.isScoped .tc = false → s = barL := by decide

theorem bar_counter (c : Dev nD) : (unscopedSems0 c : sProp 𝕄) = semVal ((c.tc : Thread nD τ), fam.bar) 0 := by
  unfold unscopedSems0
  rw [show (Finset.univ.filter fun s : SemLoc sig => ¬ s.isScoped .tc = true) = {barL} from by decide, bigSep_singleton]
  rfl

theorem init0 : iprop((bigSep Finset.univ fun c : Dev nD => iprop(unscopedBufs c (fun b => m ((c.tc : Thread nD τ).loc b)) ∗ unscopedSems0 c
          ∗ owes (c.tc : Thread nD τ) (tallyL (owed c)) ∅ ∗ Pipeline.launchCred (fun d => tallyL (owed d)) c ∗ prngReg c (ρ c)
          ∗ parked (BI.own (ER (launchOf fam.S fam.Sd fam.T))) c)) ∗ lvs)
      ⊢ (|={Set.univ}=> bigSep Finset.univ fun c : Dev nD => iprop(StableHlo.held (c : Thread nD τ) (Pipeline.ucRefs τ sig) (V0 m c) ∗ rest m 0 c) : sProp 𝕄) := by
  have hcore (c : Dev nD) : iprop(unscopedBufs c (fun b => m ((c.tc : Thread nD τ).loc b)) ∗ unscopedSems0 c
          ∗ owes (c.tc : Thread nD τ) (tallyL (owed c)) ∅ ∗ Pipeline.launchCred (fun d => tallyL (owed d)) c ∗ prngReg c (ρ c)
          ∗ parked (BI.own (ER (launchOf fam.S fam.Sd fam.T))) c)
      ⊢ (iprop((semVal ((c.tc : Thread nD τ), fam.bar) 0 ∗ Pipeline.launchCred (fun d => tallyL (owed d)) c) ∗ parked (BI.own (ER (launchOf fam.S fam.Sd fam.T))) c
        ∗ StableHlo.held (c : Thread nD τ) (Pipeline.ucRefs τ sig) (V0 m c)
        ∗ (∃ r, prngReg c r) ∗ ∃ W, owes (c : Thread nD τ) (tallyL (owed c)) W) : sProp 𝕄) := by
    rw [bar_counter, ← Pipeline.unscopedBufs_held (Ix := ℕ) (Name := ℕ) (U := UU) (Lvl := ℕ) c (V0 m c)]
    iintro ⟨HB, HV, HO, HC, HP, HG⟩
    isplitl [HV HC]
    · isplitl [HV]; · iexact HV
      iexact HC
    isplitl [HG]; · iexact HG
    isplitl [HB]; · iexact HB
    isplitl [HP]; · iexists (ρ c); iexact HP
    iexists ∅; iexact HO
  have hend (c : Dev nD) : iprop(carried (cont m) c ∗ StableHlo.held (c : Thread nD τ) (Pipeline.ucRefs τ sig) (V0 m c)
        ∗ (∃ r, prngReg c r) ∗ ∃ W, owes (c : Thread nD τ) (tallyL (owed c)) W)
      ⊢ (iprop(StableHlo.held (c : Thread nD τ) (Pipeline.ucRefs τ sig) (V0 m c) ∗ rest m 0 c) : sProp 𝕄) := by
    unfold rest
    rw [if_pos rfl]
    iintro ⟨HC, HB, HP, HO⟩
    isplitl [HB]; · iexact HB
    isplitl [HC]; · iexact HC
    isplitl [HP]; · iexact HP
    iexact HO
  have hf := funded (cont m)
  unfold SiteBlocks.Funds at hf
  iintro ⟨H, -⟩
  ihave H := (show (bigSep Finset.univ fun c : Dev nD => iprop(unscopedBufs c (fun b => m ((c.tc : Thread nD τ).loc b)) ∗ unscopedSems0 c
          ∗ owes (c.tc : Thread nD τ) (tallyL (owed c)) ∅ ∗ Pipeline.launchCred (fun d => tallyL (owed d)) c ∗ prngReg c (ρ c)
          ∗ parked (BI.own (ER (launchOf fam.S fam.Sd fam.T))) c))
    ⊢ (bigSep Finset.univ fun c : Dev nD => iprop((semVal ((c.tc : Thread nD τ), fam.bar) 0 ∗ Pipeline.launchCred (fun d => tallyL (owed d)) c) ∗ parked (BI.own (ER (launchOf fam.S fam.Sd fam.T))) c
        ∗ StableHlo.held (c : Thread nD τ) (Pipeline.ucRefs τ sig) (V0 m c)
        ∗ (∃ r, prngReg c r) ∗ ∃ W, owes (c : Thread nD τ) (tallyL (owed c)) W) : sProp 𝕄) from bigSep_mono fun c _ => hcore c) $$ H
  ihave H := (BIBase.Entails.of_eq (bigSep_sep' _ _ _)) $$ H; icases H with ⟨HA, H⟩
  ihave H := (BIBase.Entails.of_eq (bigSep_sep' _ _ _)) $$ H; icases H with ⟨HG, H⟩
  ihave HG := (BIBase.Entails.of_eq (bigSep_parked (F := F) (BI.own (ER (launchOf fam.S fam.Sd fam.T))))) $$ HG
  imod hf $$ [HA HG] with HC
  · isplitl [HA]; · iexact HA
    iexact HG
  imodintro
  iapply (show (bigSep Finset.univ fun c : Dev nD => iprop(carried (cont m) c ∗ StableHlo.held (c : Thread nD τ) (Pipeline.ucRefs τ sig) (V0 m c)
        ∗ (∃ r, prngReg c r) ∗ ∃ W, owes (c : Thread nD τ) (tallyL (owed c)) W))
    ⊢ (bigSep Finset.univ fun c : Dev nD => iprop(StableHlo.held (c : Thread nD τ) (Pipeline.ucRefs τ sig) (V0 m c) ∗ rest m 0 c) : sProp 𝕄)
    from bigSep_mono fun c _ => hend c)
  iapply (BIBase.Entails.of_eq (bigSep_sep' _ _ _).symm)
  isplitl [HC]; · iexact HC
  iexact H

/-- What the result array holds at the end. -/
def result (c : Dev nD) : S2x512x768.Idx → Elt F .bf16 := V3 m (outs m) c main_v18

set_option backward.isDefEq.respectTransparency.types false in
/-- Run from any memory with the counters at zero, the program ends on all devices: each has its arguments as they were, the
    result named above, and every counter of the machine is at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v18) = result m c) ∧ r.2.sem = fun _ => 0) := by
  refine Pipeline.θ_run_regions_kit_dev_sems (pcfgs (F := F)) adm (pdats m) 0 cellOf_inj EP defs₀ 𝒱₀ (SiteBlocks.L Lv) SiteBlocks.lv m ρ main
    (segs m (outs m) 𝒱₀ (SiteBlocks.L Lv) SiteBlocks.lv (rest m) 0 (pdats m) (reg m))
    (fun c Q => by
      rewrite [main_chain c, Pipeline.Seg.run_eq_chain,
        show (segs m (outs m) 𝒱₀ (SiteBlocks.L Lv) SiteBlocks.lv (rest m) 0 (pdats m) (reg m) c).map Pipeline.Seg.prog = [
          StableHlo.seq (hostOps0 c),
          Prog.lift (.customCall (Pipeline.entry 0) ()),
          StableHlo.seq hostOps1 ] from rfl]
      exact .rfl)
    (fun c => by simp only [segs, Pipeline.Seg.pipes_host, Pipeline.Seg.pipes_region, Pipeline.Seg.pipes_nil]; decide)
    (fun c => tallyL (owed c)) (SiteBlocks.hL Lv) (parked (BI.own (ER (launchOf fam.S fam.Sd fam.T)))) u₀
    (by
      unfold u₀
      iintro Hu
      ihave H := (ownU_pair _ _) $$ Hu
      icases H with ⟨HP, HX⟩
      imodintro
      isplitl [HP]; · iexact HP
      rw [bigSep_parked]; iexact HX)
    (T₀ := fun c => iprop(StableHlo.held (c : Thread nD τ) (Pipeline.ucRefs τ sig) (V0 m c) ∗ rest m 0 c))
    (Tₙ := fun c => iprop(StableHlo.held (c : Thread nD τ) (Pipeline.ucRefs τ sig) (V3 m (outs m) c) ∗ semVal (cell c barL) 0))
    (hch := fun c => ⟨.rfl, reg_pre m c, reg_post m c, ?_⟩)
    (hinit := init0 m ρ)
    (QY := fun c s => ((s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
      ∧ s.mem ((c.tc : Thread nD τ).loc main_v18) = result m c) ∧ s.sem (cell c barL) = 0)
    (hfin := fun c s' => ?_)
    (hQ := fun s h hs => ⟨fun c => (h c).1, sem_eq_zero hs fun c sm hsm => by
      obtain rfl := unscoped_bar sm hsm
      exact (h c).2⟩)
  · show iprop(StableHlo.held (c : Thread nD τ) (Pipeline.ucRefs τ sig) (V3 m (outs m) c) ∗ rest m 1 c) ⊢ _
    unfold rest
    rw [if_neg (by decide)]
    iintro ⟨HB, HV, HO⟩
    isplitr [HO]
    · isplitl [HB]; · iexact HB
      iexact HV
    iexact HO
  · unfold StableHlo.held
    iintro ⟨⟨Hh, HV⟩, HSI⟩
    icombine HSI HV gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      have hm (r : Ref sig .tc) (hr : Proc.devRef .tc r ∈ Pipeline.ucRefs τ sig) := h (Proc.devRef .tc r) hr
      exact ⟨⟨⟨(hm main_arg0 (Finset.mem_filter.mpr ⟨StableHlo.devRef_mem_tcRefs main_arg0, by decide⟩)).trans (V3_main_arg0 m (outs m) c),
        (hm main_arg1 (Finset.mem_filter.mpr ⟨StableHlo.devRef_mem_tcRefs main_arg1, by decide⟩)).trans (V3_main_arg1 m (outs m) c),
        (hm main_arg2 (Finset.mem_filter.mpr ⟨StableHlo.devRef_mem_tcRefs main_arg2, by decide⟩)).trans (V3_main_arg2 m (outs m) c),
        (hm main_arg3 (Finset.mem_filter.mpr ⟨StableHlo.devRef_mem_tcRefs main_arg3, by decide⟩)).trans (V3_main_arg3 m (outs m) c),
        (hm main_arg4 (Finset.mem_filter.mpr ⟨StableHlo.devRef_mem_tcRefs main_arg4, by decide⟩)).trans (V3_main_arg4 m (outs m) c)⟩,
        hm main_v18 (Finset.mem_filter.mpr ⟨StableHlo.devRef_mem_tcRefs main_v18, by decide⟩)⟩, by simpa using hb⟩
    · iexact HSI

end Cert.KernelIdeal.Run
-- ==== Proof.Frames.lean ====
/-
  The frames: each program runs to its end, leaves its arguments as they were and every counter at zero.
  The kernel's run is proved over any float values, so one run serves the printed kernel and its idealized form.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

section Printed

local instance : Cert.Kernel.Facts := Cert.Kernel.Gen.facts
local instance : Cert.KernelIdeal.Facts := Cert.KernelIdeal.Gen.facts

set_option backward.isDefEq.respectTransparency false

/-- The two prints of the kernel have the same bodies. -/
theorem bodies_eq : @Cert.Kernel.defs₀ Bits _ _ = @Cert.KernelIdeal.defs₀ Bits _ _ := by
  unfold Cert.Kernel.defs₀ Cert.KernelIdeal.defs₀
  congr 1
  funext l a
  match l, a with
  | 0, (t, s) => rfl

/-- So they have the same regions. -/
theorem defs_eq : @Cert.Kernel.defs Bits _ _ = @Cert.KernelIdeal.defs Bits _ _ := by
  unfold Cert.Kernel.defs Cert.KernelIdeal.defs
  exact congrArg (Pipeline.defs _) bodies_eq

/-- And they have the same host program. -/
theorem main_eq : @Cert.Kernel.main Bits _ _ = @Cert.KernelIdeal.main Bits _ _ := rfl

/-- The printed kernel: the run at float words, read of the other print. -/
theorem frame_kernel : Cert.quiescent_Kernel := fun m ρ _ => by
  have h := Cert.KernelIdeal.Run.run_main (F := Bits) m ρ
  rw [← defs_eq, ← main_eq] at h
  exact (θ_run Cert.Kernel.defs _ _).mono (fun _ h => ⟨fun c => (h.1 c).1, h.2⟩) h

end Printed

/-- The idealized kernel. -/
theorem frame_ideal : Cert.quiescent_KernelIdeal := fun m ρ _ =>
  (θ_run Cert.KernelIdeal.defs _ _).mono (fun _ h => ⟨fun c => (h.1 c).1, h.2⟩)
    (Cert.KernelIdeal.Run.run_main (F := Ideal) m ρ)

/-- The idealized reference, which has no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealized kernel under the precondition: as without it. -/
theorem frame_ideal_finite [Cert.Pre_finite_KernelIdeal.Facts] : Cert.quiescent_KernelIdeal_pre_finite_KernelIdeal :=
  fun m ρ _ => frame_ideal m ρ trivial

/-- The idealized reference under the precondition: as without it. -/
theorem frame_reference_finite [Cert.Pre_finite_ReferenceIdeal.Facts] : Cert.quiescent_ReferenceIdeal_pre_finite_ReferenceIdeal :=
  fun m ρ _ => frame_reference m ρ trivial

end Cert.Proof

end
-- ==== Proof.Soft.lean ====
/-
  Weights over the reals: with finite scores, taking a row's maximum off its scores changes no weight.
-/
module

public import Idealize.ShloMosaic.PureOps.Ideal
public import Idealize.ShloMosaic.PureOps.Ideal.Laws

@[expose] public section

noncomputable section

namespace Cert.Soft

open Idealize.ShloMosaic

/-! ## Finite values -/

/-- A value that is a real number. -/
def Real' (x : EReal) : Prop := ∃ r : ℝ, x = (r : EReal)

/-- A sum of reals is a real, the sum of the same. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.sum {ι : Type} (s : Finset ι) {f : ι → EReal} (hf : ∀ i, Real' (f i)) : Real' (∑ i ∈ s, f i) := by
  choose g hg using hf
  exact ⟨∑ i ∈ s, g i, by rw [← coe_sum]; exact Finset.sum_congr rfl fun i _ => hg i⟩

/-! ## The constants -/

theorem eighth_f32 : Ideal.ofBits .f32 0x3E000000#32 = ((1 / 8 : ℝ) : EReal) := by
  simp [Ideal.ofBits, Ideal.ieee, -EReal.coe_mul]; norm_num

theorem eighth_bf16 : Ideal.ofBits .bf16 0x3E00#16 = ((1 / 8 : ℝ) : EReal) := by
  simp [Ideal.ofBits, Ideal.ieee, -EReal.coe_mul]; norm_num

theorem hidden_real : Real' (Ideal.ofBits .f32 0xCE6E6B28#32) :=
  ⟨-1000000000, by simp [Ideal.ofBits, Ideal.ieee, -EReal.coe_mul]; norm_num⟩

theorem top_f32 : Ideal.ofBits .f32 0x7F800000#32 = ⊤ := by
  simp [Ideal.ofBits, Ideal.ieee]

theorem bot_f32 : Ideal.ofBits .f32 0xFF800000#32 = ⊥ := by
  simp [Ideal.ofBits, Ideal.ieee]

/-- What lies, less its sign, below infinity is a real. -/
theorem real_of_abs_lt {x : EReal} (h : Ideal.cmp .olt (max x (-x)) (Ideal.ofBits .f32 0x7F800000#32) = 1#1) : Real' x := by
  rw [top_f32] at h
  have h' : max x (-x) < ⊤ := by
    by_contra hn
    simp [Ideal.cmp, hn] at h
  induction x with
  | bot => simp at h'
  | top => simp at h'
  | coe r => exact ⟨r, rfl⟩

/-! ## The weights -/

/-- A quotient of reals is the real quotient. -/
theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The greatest of some reals is a real. -/
theorem max_real {n : ℕ} [NeZero n] {s : Fin n → EReal} (hs : ∀ j, Real' (s j)) : Real' (Finset.fold max ⊥ s Finset.univ) := by
  obtain ⟨j, -, hj⟩ := Finset.exists_mem_eq_sup Finset.univ ⟨0, Finset.mem_univ _⟩ s
  rw [show Finset.fold max ⊥ s Finset.univ = Finset.univ.sup s from rfl, hj]
  exact hs j

/-- Taking one real off all the scores of a row changes no weight. -/
theorem weight_shift {n : ℕ} [NeZero n] {s : Fin n → EReal} (hs : ∀ j, Real' (s j)) {M : EReal} (hM : Real' M) (j : Fin n) :
    Ideal.div (Ideal.exp (s j - M)) (∑ i, Ideal.exp (s i - M)) = Ideal.div (Ideal.exp (s j)) (∑ i, Ideal.exp (s i)) := by
  choose t ht using hs
  obtain ⟨M, rfl⟩ := hM
  have pos (f : Fin n → ℝ) : (∑ i, Real.exp (f i)) ≠ 0 :=
    (Finset.sum_pos (fun i _ => Real.exp_pos (f i)) ⟨0, Finset.mem_univ _⟩).ne'
  simp only [ht, ← EReal.coe_sub, Ideal.exp_coe, coe_sum]
  rw [div_coe _ (pos t), div_coe _ (pos fun i => t i - M)]
  congr 1
  simp only [Real.exp_sub, ← Finset.sum_div]
  exact div_div_div_cancel_right₀ (Real.exp_pos M).ne' _ _

/-- A score with its queries scaled beforehand is the score scaled. -/
theorem score_scale {m n : ℕ} {x : Fin m → EReal} {q : Fin n → Fin m → EReal} {k : Fin n → EReal} (hx : ∀ i, Real' (x i))
    (hq : ∀ e i, Real' (q e i)) (hk : ∀ e, Real' (k e)) {c : EReal} (hc : Real' c) :
    ∑ e, (∑ i, x i * (q e i * c)) * k e = (∑ e, (∑ i, x i * q e i) * k e) * c := by
  choose x' hx using hx
  choose q' hq using hq
  choose k' hk using hk
  obtain ⟨c, rfl⟩ := hc
  simp only [hx, hq, hk, ← EReal.coe_mul, coe_sum]
  congr 1
  rw [Finset.sum_mul]
  refine Finset.sum_congr rfl fun e _ => ?_
  rw [show ∑ i, x' i * (q' e i * c) = (∑ i, x' i * q' e i) * c by
    rw [Finset.sum_mul]; exact Finset.sum_congr rfl fun i _ => (mul_assoc _ _ _).symm]
  ring

end Cert.Soft
-- ==== Proof.Given.lean ====
/-
  What the precondition gives: the tokens, the query matrix and the keys hold reals.
-/
module

public import proofs.«01_k».proof.Pre_finite_KernelIdeal
public import proofs.«01_k».proof.Pre_finite_ReferenceIdeal
public import proofs.«01_k».proof.Proof.Soft
public import Idealize.ShloMosaic.Lib.ReduceAll
public import Idealize.ShloMosaic.Lib.Affine

@[expose] public section

noncomputable section

open Idealize.ShloMosaic

theorem Cert.Pre_finite_KernelIdeal.facts : Cert.Pre_finite_KernelIdeal.Facts where
  bitsLt_bf16_f32 := by decide
  bcast_S_S2x512x768 := by decide
  reducesTo_S2x512x768_S_d0_1_2 := by decide
  h_S_ := by decide
  bcast_S_S768x4096 := by decide
  reducesTo_S768x4096_S_d0_1 := by decide
  bcast_S_S2x512x8x64 := by decide
  reducesTo_S2x512x8x64_S_d0_1_2_3 := by decide

theorem Cert.Pre_finite_ReferenceIdeal.facts : Cert.Pre_finite_ReferenceIdeal.Facts where
  bitsLt_bf16_f32 := by decide
  bcast_S_S2x512x768 := by decide
  reducesTo_S2x512x768_S_d0_1_2 := by decide
  h_S_ := by decide
  bcast_S_S768x4096 := by decide
  reducesTo_S768x4096_S_d0_1 := by decide
  bcast_S_S2x512x64x64 := by decide
  reducesTo_S2x512x64x64_S_d0_1_2_3 := by decide

namespace Cert.Soft

instance : Subsingleton Cert.Pre_finite_KernelIdeal.S_.Idx := ⟨fun a b => funext fun i => i.elim0⟩

open Cert.Pre_finite_KernelIdeal in
theorem given [Facts] (x : FVec Ideal S2x512x768 .bf16) (q : FVec Ideal S768x4096 .bf16)
    (k v : FVec Ideal S2x512x8x64 .bf16) (o : FVec Ideal S4096x768 .bf16) (h : fn x q k v o = fun _ => 1#1) :
    (∀ i, Real' (x i)) ∧ (∀ i, Real' (q i)) ∧ (∀ i, Real' (k i)) := by
  have h0 := congrFun h (Shape.Idx.first Facts.h_S_)
  dsimp only [fn] at h0
  obtain ⟨h1, h2⟩ := IntOp.andi_eq_one.1 h0
  obtain ⟨h3, h4⟩ := IntOp.andi_eq_one.1 h1
  exact ⟨fun i => real_of_abs_lt (Host.reduce_andi_all _ _ _ _ _ h3 i), fun i => real_of_abs_lt (Host.reduce_andi_all _ _ _ _ _ h4 i),
    fun i => real_of_abs_lt (Host.reduce_andi_all _ _ _ _ _ h2 i)⟩

end Cert.Soft
-- ==== Proof.AttnValue.lean ====
/-
  What the kernel computes on one device over the reals: one head, and one half of the device's partial product.
-/
module

public import proofs.«01_k».proof.Proof.Heads
public import Idealize.ShloMosaic.Lib.Pointwise
public import Idealize.ShloMosaic.PureOps.Ideal

@[expose] public section

noncomputable section

namespace Cert.KernelIdeal.Run

open Idealize.ShloMosaic
open Cert.KernelIdeal.Gen

variable {F : FTy → Type} [FloatOps F]

/-! ## The operations of one head, named once -/

/-- One head's weights: the masked scores, their exponentials, each divided by its row's sum. -/
def weights (mk : IVec S512x512 1) (q k : FVec F S512x64 .bf16) : FVec F S512x512 .f32 :=
  let e : FVec F S512x512 .f32 := exp (select mk
    (matmul dot_S512x64_S512x64_S512x512_1_1_0_0_n_n none q k (constant S512x512 .f32 0x00000000#32))
    (broadcast S512x512 (Scalar.ofBits .f32 0xCE6E6B28#32)))
  divf e (broadcastTo S512x512 (shapeCast S512x1
    (multiReduction .add [1] S512 e 0x00000000#32 reduces_S512x512_S512 (.inl rfl) rfl) shapeCasts_S512_S512x1)
    broadcasts_S512x1_S512x512)

/-- One head: its weights times its values. -/
def head (mk : IVec S512x512 1) (q k v : FVec F S512x64 .bf16) : FVec F S512x64 .f32 :=
  matmul dot_S512x512_S512x64_S512x64_1_0_0_1_n_n none (truncf .bf16 (weights mk q k) bitsLt_bf16_f32) v
    (constant S512x64 .f32 0x00000000#32)

/-- Eight heads side by side. -/
def beside (h0 h1 h2 h3 h4 h5 h6 h7 : FVec F S512x64 .f32) : FVec F S512x512 .f32 :=
  concatenate S512x512 1 [⟨S512x64, h0⟩, ⟨S512x64, h1⟩, ⟨S512x64, h2⟩, ⟨S512x64, h3⟩, ⟨S512x64, h4⟩, ⟨S512x64, h5⟩, ⟨S512x64, h6⟩, ⟨S512x64, h7⟩] concatenates_S512x64_S512x64_S512x64_S512x64_S512x64_S512x64_S512x64_S512x64_S512x512_d1

/-- The partial product: the heads side by side, times the device's rows of the output weights. -/
def project (wo : FVec F S512x768 .bf16) (cx : FVec F S512x512 .f32) : FVec F S512x768 .bf16 :=
  truncf .bf16 (matmul dot_S512x512_S512x768_S512x768_1_0_0_1_n_n none (truncf .bf16 cx bitsLt_bf16_f32) wo
    (constant S512x768 .f32 0x00000000#32)) bitsLt_bf16_f32

/-- One head's columns of the queries. -/
abbrev cols (off : Fin 2 → ℕ) (h : S512x512.Slices off S512x64) (q : FVec F S512x512 .f32) : FVec F S512x64 .bf16 :=
  truncf .bf16 (extractStridedSlice S512x64 off q h) bitsLt_bf16_f32

/-- A read block of keys or values, as a matrix. -/
abbrev flat (v : Vec F S1x512x1x64 .bf16) : FVec F S512x64 .bf16 := shapeCast S512x64 v shapeCasts_S1x512x1x64_S512x64

variable (w : Staged F)

/-- A head of batch row 0. -/
abbrev hd0 (off : Fin 2 → ℕ) (h : S512x512.Slices off S512x64) (o : Fin 4 → ℕ) (ho : ∀ a, o a + S1x512x1x64.size a ≤ S2x512x8x64.size a) : FVec F S512x64 .f32 :=
  head mask (cols off h (v236 w)) (flat (ldK w o ho)) (flat (ldV w o ho))
/-- A head of batch row 1. -/
abbrev hd1 (off : Fin 2 → ℕ) (h : S512x512.Slices off S512x64) (o : Fin 4 → ℕ) (ho : ∀ a, o a + S1x512x1x64.size a ≤ S2x512x8x64.size a) : FVec F S512x64 .f32 :=
  head mask (cols off h (v409 w)) (flat (ldK w o ho)) (flat (ldV w o ho))

theorem half0_eq : half0 w = project (ldO w) (beside
    (hd0 w ![0, 0] slices_S512x512_o0_0_S512x64 ![0, 0, 0, 0] inb_S2x512x8x64_S1x512x1x64_0_0_0_0)
    (hd0 w ![0, 64] slices_S512x512_o0_64_S512x64 ![0, 0, 1, 0] inb_S2x512x8x64_S1x512x1x64_0_0_1_0)
    (hd0 w ![0, 128] slices_S512x512_o0_128_S512x64 ![0, 0, 2, 0] inb_S2x512x8x64_S1x512x1x64_0_0_2_0)
    (hd0 w ![0, 192] slices_S512x512_o0_192_S512x64 ![0, 0, 3, 0] inb_S2x512x8x64_S1x512x1x64_0_0_3_0)
    (hd0 w ![0, 256] slices_S512x512_o0_256_S512x64 ![0, 0, 4, 0] inb_S2x512x8x64_S1x512x1x64_0_0_4_0)
    (hd0 w ![0, 320] slices_S512x512_o0_320_S512x64 ![0, 0, 5, 0] inb_S2x512x8x64_S1x512x1x64_0_0_5_0)
    (hd0 w ![0, 384] slices_S512x512_o0_384_S512x64 ![0, 0, 6, 0] inb_S2x512x8x64_S1x512x1x64_0_0_6_0)
    (hd0 w ![0, 448] slices_S512x512_o0_448_S512x64 ![0, 0, 7, 0] inb_S2x512x8x64_S1x512x1x64_0_0_7_0)) := by
  exact (shapeCast_self _ _).trans (congrArg (project · _) (shapeCast_self _ _))

theorem half1_eq : half1 w = project (ldO w) (beside
    (hd1 w ![0, 0] slices_S512x512_o0_0_S512x64 ![1, 0, 0, 0] inb_S2x512x8x64_S1x512x1x64_1_0_0_0)
    (hd1 w ![0, 64] slices_S512x512_o0_64_S512x64 ![1, 0, 1, 0] inb_S2x512x8x64_S1x512x1x64_1_0_1_0)
    (hd1 w ![0, 128] slices_S512x512_o0_128_S512x64 ![1, 0, 2, 0] inb_S2x512x8x64_S1x512x1x64_1_0_2_0)
    (hd1 w ![0, 192] slices_S512x512_o0_192_S512x64 ![1, 0, 3, 0] inb_S2x512x8x64_S1x512x1x64_1_0_3_0)
    (hd1 w ![0, 256] slices_S512x512_o0_256_S512x64 ![1, 0, 4, 0] inb_S2x512x8x64_S1x512x1x64_1_0_4_0)
    (hd1 w ![0, 320] slices_S512x512_o0_320_S512x64 ![1, 0, 5, 0] inb_S2x512x8x64_S1x512x1x64_1_0_5_0)
    (hd1 w ![0, 384] slices_S512x512_o0_384_S512x64 ![1, 0, 6, 0] inb_S2x512x8x64_S1x512x1x64_1_0_6_0)
    (hd1 w ![0, 448] slices_S512x512_o0_448_S512x64 ![1, 0, 7, 0] inb_S2x512x8x64_S1x512x1x64_1_0_7_0)) := by
  exact (shapeCast_self _ _).trans (congrArg (project · _) (shapeCast_self _ _))
/-! ## The operations, read at an index -/

/-- The block of 64 a row or a column lies in, as the program computes it. -/
def block (n : BitVec 32) : BitVec 32 :=
  Scalar.select (IntOp.andi (IntOp.cmpi .ne
      (IntOp.subi (BitVec.setWidth 32 (IntOp.cmpi .sgt n 0#32)) (BitVec.setWidth 32 (IntOp.cmpi .slt n 0#32)))
      (Scalar.subi (Scalar.extui (Scalar.cmpi .sgt 64#32 0#32)) (Scalar.extui (Scalar.cmpi .slt 64#32 0#32))))
    (IntOp.cmpi .ne (IntOp.remsi .vector n 64#32) 0#32))
    (IntOp.subi (IntOp.divsi .vector n 64#32) 1#32) (IntOp.divsi .vector n 64#32)

/-- That block is the quotient. -/
theorem block_eq : ∀ n : Fin 512, block (BitVec.ofNat 32 n.val) = BitVec.ofNat 32 (n.val / 64) := by decide +kernel

/-- Comparing two blocks as words is comparing them. -/
theorem le_eq : ∀ a b : Fin 8, IntOp.cmpi .sle (BitVec.ofNat 32 a.val) (BitVec.ofNat 32 b.val) = BitVec.ofBool (decide (a ≤ b)) := by decide +kernel

/-- The mask keeps a column whose block is not after the row's. -/
theorem mask_apply (r j : Fin 512) : mask (ix2 r j) = BitVec.ofBool (decide (j.val / 64 ≤ r.val / 64)) := by
  have h : mask (ix2 r j) = IntOp.cmpi .sle (block (BitVec.ofNat 32 j.val)) (block (BitVec.ofNat 32 r.val)) := by
    pointwise [mask, k0_pay2, k0_pay1]
    rfl
  rw [h, block_eq, block_eq]
  exact le_eq ⟨j.val / 64, by have := j.isLt; omega⟩ ⟨r.val / 64, by have := r.isLt; omega⟩

/-- A weight of a head: the exponential of its masked score over the sum of its row. -/
theorem weights_apply (q k : FVec Ideal S512x64 .bf16) (r j : Fin 512) (s : Fin 512 → EReal)
    (hs : ∀ j, (if j.val / 64 ≤ r.val / 64 then ∑ e : Fin 64, q (ix2 r e) * k (ix2 j e) else Ideal.ofBits .f32 0xCE6E6B28#32) = s j) :
    weights mask q k (ix2 r j) = Ideal.div (Ideal.exp (s j)) (∑ i, Ideal.exp (s i)) := by
  have h (j : Fin 512) : Scalar.select (mask (ix2 r j)) (∑ e : Fin 64, q (ix2 r e) * k (ix2 j e)) (Ideal.ofBits .f32 0xCE6E6B28#32) = s j := by
    rw [mask_apply, ← hs j]
    by_cases hj : j.val / 64 ≤ r.val / 64 <;> simp [hj, Scalar.select]
  pointwise [weights]
  simp only [h]

/-- A column of the heads side by side lies in the head of its block. -/
theorem beside_apply (h0 h1 h2 h3 h4 h5 h6 h7 : FVec Ideal S512x64 .f32) (g : Fin 8 → Fin 512 → Fin 64 → EReal)
    (e0 : ∀ r e, h0 (ix2 r e) = g 0 r e) (e1 : ∀ r e, h1 (ix2 r e) = g 1 r e) (e2 : ∀ r e, h2 (ix2 r e) = g 2 r e) (e3 : ∀ r e, h3 (ix2 r e) = g 3 r e)
    (e4 : ∀ r e, h4 (ix2 r e) = g 4 r e) (e5 : ∀ r e, h5 (ix2 r e) = g 5 r e) (e6 : ∀ r e, h6 (ix2 r e) = g 6 r e) (e7 : ∀ r e, h7 (ix2 r e) = g 7 r e)
    (r : Fin 512) (n : Fin 512) :
    beside h0 h1 h2 h3 h4 h5 h6 h7 (ix2 r n) = g ⟨n.val / 64, by have := n.isLt; omega⟩ r ⟨n.val % 64, Nat.mod_lt _ (by decide)⟩ := by
  have key (a : Fin 8) (b : Fin 64) (h : n.val = 64 * a.val + b.val) :
      g a r b = g ⟨n.val / 64, by have := n.isLt; omega⟩ r ⟨n.val % 64, Nat.mod_lt _ (by decide)⟩ := by
    have ea : a = ⟨n.val / 64, by have := n.isLt; omega⟩ := Fin.ext (by have := b.isLt; show a.val = n.val / 64; omega)
    have eb : b = ⟨n.val % 64, Nat.mod_lt _ (by decide)⟩ := Fin.ext (by have := b.isLt; show b.val = n.val % 64; omega)
    rw [← ea, ← eb]
  have hn := n.isLt
  pointwise [beside]
  simp only [e0, e1, e2, e3, e4, e5, e6, e7]
  by_cases c0 : n.val < 64
  · rw [dif_pos c0]; exact key 0 _ (by show n.val = 64 * 0 + (n.val); omega)
  rw [dif_neg c0]
  by_cases c1 : n.val - 64 < 64
  · rw [dif_pos c1]; exact key 1 _ (by show n.val = 64 * 1 + (n.val - 64); omega)
  rw [dif_neg c1]
  by_cases c2 : n.val - 64 - 64 < 64
  · rw [dif_pos c2]; exact key 2 _ (by show n.val = 64 * 2 + (n.val - 64 - 64); omega)
  rw [dif_neg c2]
  by_cases c3 : n.val - 64 - 64 - 64 < 64
  · rw [dif_pos c3]; exact key 3 _ (by show n.val = 64 * 3 + (n.val - 64 - 64 - 64); omega)
  rw [dif_neg c3]
  by_cases c4 : n.val - 64 - 64 - 64 - 64 < 64
  · rw [dif_pos c4]; exact key 4 _ (by show n.val = 64 * 4 + (n.val - 64 - 64 - 64 - 64); omega)
  rw [dif_neg c4]
  by_cases c5 : n.val - 64 - 64 - 64 - 64 - 64 < 64
  · rw [dif_pos c5]; exact key 5 _ (by show n.val = 64 * 5 + (n.val - 64 - 64 - 64 - 64 - 64); omega)
  rw [dif_neg c5]
  by_cases c6 : n.val - 64 - 64 - 64 - 64 - 64 - 64 < 64
  · rw [dif_pos c6]; exact key 6 _ (by show n.val = 64 * 6 + (n.val - 64 - 64 - 64 - 64 - 64 - 64); omega)
  rw [dif_neg c6]
  exact key 7 _ (by show n.val = 64 * 7 + (n.val - 64 - 64 - 64 - 64 - 64 - 64 - 64); omega)

theorem head_apply (mk : IVec S512x512 1) (q k v : FVec Ideal S512x64 .bf16) (r : Fin 512) (e : Fin 64) :
    head mk q k v (ix2 r e) = ∑ j : Fin 512, weights mk q k (ix2 r j) * v (ix2 j e) := by
  pointwise [head]
theorem project_apply (wo : FVec Ideal S512x768 .bf16) (cx : FVec Ideal S512x512 .f32) (r : Fin 512) (c : Fin 768) :
    project wo cx (ix2 r c) = ∑ n : Fin 512, cx (ix2 r n) * wo (ix2 n c) := by
  pointwise [project]
theorem cols_apply (off : Fin 2 → ℕ) (h : S512x512.Slices off S512x64) (q : FVec Ideal S512x512 .f32) (r : Fin 512) (e : Fin 64)
    (n : Fin 512) (h0 : off 0 = 0) (h1 : off 1 + e.val = n.val) :
    cols off h q (ix2 r e) = q (ix2 r n) := by
  pointwise [cols]
  congr 2
  · exact Fin.ext (by show off 0 + r.val = r.val; omega)
  · exact Fin.ext h1
theorem flat_apply (v : Vec Ideal S1x512x1x64 .bf16) (r : Fin 512) (e : Fin 64) : flat v (ix2 r e) = v (ix4 0 r 0 e) := by
  pointwise [flat]
theorem ldK_apply (w : Staged Ideal) (b : Fin 2) (h : Fin 8) (o : Fin 4 → ℕ) (ho : ∀ a, o a + S1x512x1x64.size a ≤ S2x512x8x64.size a)
    (e0 : o = ![b.val, 0, h.val, 0]) (r : Fin 512) (e : Fin 64) :
    ldK w o ho (ix4 0 r 0 e) = w.k (ix4 b r h e) := by
  subst e0
  show w.k _ = w.k _
  congr 1
  funext a
  obtain ⟨a, ha⟩ := a
  match a with
  | 0 => exact Fin.ext (by show b.val + 1 * 0 = b.val; omega)
  | 1 => exact Fin.ext (by show 0 + 1 * r.val = r.val; omega)
  | 2 => exact Fin.ext (by show h.val + 1 * 0 = h.val; omega)
  | 3 => exact Fin.ext (by show 0 + 1 * e.val = e.val; omega)

theorem ldV_apply (w : Staged Ideal) (b : Fin 2) (h : Fin 8) (o : Fin 4 → ℕ) (ho : ∀ a, o a + S1x512x1x64.size a ≤ S2x512x8x64.size a)
    (e0 : o = ![b.val, 0, h.val, 0]) (r : Fin 512) (e : Fin 64) :
    ldV w o ho (ix4 0 r 0 e) = w.v (ix4 b r h e) := by
  subst e0
  show w.v _ = w.v _
  congr 1
  funext a
  obtain ⟨a, ha⟩ := a
  match a with
  | 0 => exact Fin.ext (by show b.val + 1 * 0 = b.val; omega)
  | 1 => exact Fin.ext (by show 0 + 1 * r.val = r.val; omega)
  | 2 => exact Fin.ext (by show h.val + 1 * 0 = h.val; omega)
  | 3 => exact Fin.ext (by show 0 + 1 * e.val = e.val; omega)

/-- The input read for a batch row. -/
theorem ldX_apply (w : Staged Ideal) (b : Fin 2) (o : Fin 3 → ℕ) (ho : ∀ a, o a + S1x512x768.size a ≤ S2x512x768.size a)
    (e0 : o = ![b.val, 0, 0]) (r : Fin 512) (k : Fin 768) : ldX w o ho (ix3 0 r k) = w.x (ix3 b r k) := by
  subst e0
  show w.x _ = w.x _
  congr 1
  funext a
  obtain ⟨a, ha⟩ := a
  match a with
  | 0 => exact Fin.ext (by show b.val + 1 * 0 = b.val; omega)
  | 1 => exact Fin.ext (by show 0 + 1 * r.val = r.val; omega)
  | 2 => exact Fin.ext (by show 0 + 1 * k.val = k.val; omega)

/-- The query weights, read whole. -/
theorem ldQ_apply (w : Staged Ideal) (k : Fin 768) (n : Fin 512) : ldQ w (ix2 k n) = w.wq (ix2 k n) := by
  show w.wq _ = w.wq _
  congr 1
  funext a
  obtain ⟨a, ha⟩ := a
  match a with
  | 0 => exact Fin.ext (by show 0 + 1 * k.val = k.val; omega)
  | 1 => exact Fin.ext (by show 0 + 1 * n.val = n.val; omega)

/-- The output weights, read whole. -/
theorem ldO_apply (w : Staged Ideal) (n : Fin 512) (j : Fin 768) : ldO w (ix2 n j) = w.wo (ix2 n j) := by
  show w.wo _ = w.wo _
  congr 1
  funext a
  obtain ⟨a, ha⟩ := a
  match a with
  | 0 => exact Fin.ext (by show 0 + 1 * n.val = n.val; omega)
  | 1 => exact Fin.ext (by show 0 + 1 * j.val = j.val; omega)

/-! ## The device's share, as sums -/

/-- A query entry of a device. -/
def qry (w : Staged Ideal) (b : Fin 2) (r n : Fin 512) : EReal := ∑ k : Fin 768, w.x (ix3 b r k) * w.wq (ix2 k n)

theorem v236_apply (w : Staged Ideal) (r n : Fin 512) : v236 w (ix2 r n) = qry w 0 r n := by
  unfold qry
  pointwise [v236, k0_pay5, k0_pay3]
  refine Finset.sum_congr rfl fun k _ => ?_
  rw [ldX_apply w 0 ![0, 0, 0] _ rfl, ldQ_apply]
theorem v409_apply (w : Staged Ideal) (r n : Fin 512) : v409 w (ix2 r n) = qry w 1 r n := by
  unfold qry
  pointwise [v409, v231, k0_pay20, k0_pay3]
  refine Finset.sum_congr rfl fun k _ => ?_
  rw [ldX_apply w 1 ![1, 0, 0] _ rfl, ldQ_apply]

/-- A head's masked score. -/
def score (w : Staged Ideal) (b : Fin 2) (h : Fin 8) (r j : Fin 512) : EReal :=
  if j.val / 64 ≤ r.val / 64 then ∑ e : Fin 64, qry w b r ⟨64 * h.val + e.val, by have := h.isLt; have := e.isLt; omega⟩ * w.k (ix4 b j h e)
  else Ideal.ofBits .f32 0xCE6E6B28#32

/-- A head's output. -/
def ctx (w : Staged Ideal) (b : Fin 2) (h : Fin 8) (r : Fin 512) (e : Fin 64) : EReal :=
  ∑ j : Fin 512, Ideal.div (Ideal.exp (score w b h r j)) (∑ i, Ideal.exp (score w b h r i)) * w.v (ix4 b j h e)

/-- The device's partial product. -/
def part (w : Staged Ideal) (b : Fin 2) (r : Fin 512) (c : Fin 768) : EReal :=
  ∑ n : Fin 512, ctx w b ⟨n.val / 64, by have := n.isLt; omega⟩ r ⟨n.val % 64, Nat.mod_lt _ (by decide)⟩ * w.wo (ix2 n c)

/-- One head of one batch row. -/
theorem hd_apply (w : Staged Ideal) (b : Fin 2) (h : Fin 8) (q : FVec Ideal S512x512 .f32) (hq : ∀ r n, q (ix2 r n) = qry w b r n)
    (off : Fin 2 → ℕ) (hs : S512x512.Slices off S512x64) (h0 : off 0 = 0) (h1 : off 1 = 64 * h.val)
    (o : Fin 4 → ℕ) (ho : ∀ a, o a + S1x512x1x64.size a ≤ S2x512x8x64.size a) (e0 : o = ![b.val, 0, h.val, 0]) (r : Fin 512) (e : Fin 64) :
    head mask (cols off hs q) (flat (ldK w o ho)) (flat (ldV w o ho)) (ix2 r e) = ctx w b h r e := by
  rw [head_apply]
  unfold ctx
  refine Finset.sum_congr rfl fun j _ => ?_
  rw [flat_apply, ldV_apply w b h o ho e0, weights_apply _ _ r j (score w b h r)]
  intro j
  unfold score
  congr 1
  refine Finset.sum_congr rfl fun e _ => ?_
  rw [flat_apply, ldK_apply w b h o ho e0, cols_apply off hs q r e ⟨64 * h.val + e.val, by have := h.isLt; have := e.isLt; omega⟩ h0 (by rw [h1]), hq]

theorem half0_apply (w : Staged Ideal) (r : Fin 512) (c : Fin 768) : half0 w (ix2 r c) = part w 0 r c := by
  rw [half0_eq, project_apply]
  unfold part
  refine Finset.sum_congr rfl fun n _ => ?_
  rw [ldO_apply, beside_apply _ _ _ _ _ _ _ _ (ctx w 0)]
  · exact hd_apply w 0 0 _ (v236_apply w) _ _ rfl rfl _ _ rfl
  · exact hd_apply w 0 1 _ (v236_apply w) _ _ rfl rfl _ _ rfl
  · exact hd_apply w 0 2 _ (v236_apply w) _ _ rfl rfl _ _ rfl
  · exact hd_apply w 0 3 _ (v236_apply w) _ _ rfl rfl _ _ rfl
  · exact hd_apply w 0 4 _ (v236_apply w) _ _ rfl rfl _ _ rfl
  · exact hd_apply w 0 5 _ (v236_apply w) _ _ rfl rfl _ _ rfl
  · exact hd_apply w 0 6 _ (v236_apply w) _ _ rfl rfl _ _ rfl
  · exact hd_apply w 0 7 _ (v236_apply w) _ _ rfl rfl _ _ rfl

theorem half1_apply (w : Staged Ideal) (r : Fin 512) (c : Fin 768) : half1 w (ix2 r c) = part w 1 r c := by
  rw [half1_eq, project_apply]
  unfold part
  refine Finset.sum_congr rfl fun n _ => ?_
  rw [ldO_apply, beside_apply _ _ _ _ _ _ _ _ (ctx w 1)]
  · exact hd_apply w 1 0 _ (v409_apply w) _ _ rfl rfl _ _ rfl
  · exact hd_apply w 1 1 _ (v409_apply w) _ _ rfl rfl _ _ rfl
  · exact hd_apply w 1 2 _ (v409_apply w) _ _ rfl rfl _ _ rfl
  · exact hd_apply w 1 3 _ (v409_apply w) _ _ rfl rfl _ _ rfl
  · exact hd_apply w 1 4 _ (v409_apply w) _ _ rfl rfl _ _ rfl
  · exact hd_apply w 1 5 _ (v409_apply w) _ _ rfl rfl _ _ rfl
  · exact hd_apply w 1 6 _ (v409_apply w) _ _ rfl rfl _ _ rfl
  · exact hd_apply w 1 7 _ (v409_apply w) _ _ rfl rfl _ _ rfl

end Cert.KernelIdeal.Run
-- ==== Proof.SumValue.lean ====
/-
  What the kernel leaves on every device over the reals: the sum over the devices of their partial products.
-/
module

public import proofs.«01_k».proof.Proof.AttnValue
public import proofs.«01_k».proof.Proof.Launch

@[expose] public section

noncomputable section

namespace Cert.KernelIdeal.Run

open Idealize.ShloMosaic Idealize.ShloMosaic.TcCoe
open Cert.KernelIdeal.Gen

theorem at2_ix2 {n : ℕ} (r : Fin n) (j : Fin 768) : at2 r j = ix2 r j := by
  funext a
  obtain ⟨a, ha⟩ := a
  match a with
  | 0 => rfl
  | 1 => rfl

/-- A row of device c's own chunk, in the whole buffer. -/
def row (c : Dev nD) (r : Fin 128) : Fin 1024 := ⟨128 * c.val + r.val, by have : c.val < 8 := c.isLt; have := r.isLt; omega⟩

theorem ldS_apply (A : Data Ideal) (c : Dev nD) (r : Fin 128) (j : Fin 768) : ldS A c (ix2 r j) = A.S c (ix2 (row c r) j) := by
  show A.S c _ = A.S c _
  congr 1
  funext a
  obtain ⟨a, ha⟩ := a
  match a with
  | 0 =>
    exact Fin.ext ((congrArg (· + 1 * r.val) (congrFun (off15_eq c) 0)).trans
      (by show 128 * c.val + 1 * r.val = 128 * c.val + r.val; omega))
  | 1 =>
    exact Fin.ext ((congrArg (· + 1 * j.val) (congrFun (off15_eq c) 1)).trans (by show 0 + 1 * j.val = j.val; omega))

theorem ldR_apply (A : Data Ideal) (c : Dev nD) (s : Fin 7) (off : Fin 2 → ℕ) (inb : ∀ a, off a + S128x768.size a ≤ S896x768.size a)
    (h : off = ![128 * s.val, 0]) (r : Fin 128) (j : Fin 768) : ldR A c off inb (ix2 r j) = A.S (peer c s) (ix2 (row c r) j) := by
  subst h
  have hr := r.isLt
  have hs := s.isLt
  show rcv A c _ = _
  unfold rcv
  congr 1
  · congr 1
    exact Fin.ext (by show (128 * s.val + 1 * r.val) / 128 = s.val; omega)
  · funext a
    obtain ⟨a, ha⟩ := a
    match a with
    | 0 => exact Fin.ext (by show 128 * c.val + (128 * s.val + 1 * r.val) % 128 = 128 * c.val + r.val; omega)
    | 1 => exact Fin.ext (by show 0 + 1 * j.val = j.val; omega)

/-- Eight summands, the last seven the other way round. -/
theorem rev8 (a b1 b2 b3 b4 b5 b6 b7 : EReal) :
    a + b7 + b6 + b5 + b4 + b3 + b2 + b1 = a + b1 + b2 + b3 + b4 + b5 + b6 + b7 := by
  ac_rfl

/-- The sum a device makes of its chunk: over all devices, in whatever order. -/
theorem red_apply (A : Data Ideal) (c : Dev nD) (r : Fin 128) (j : Fin 768) : red A c (ix2 r j) = ∑ d : Dev nD, A.S d (ix2 (row c r) j) := by
  have hp (o : Fin 7) : peer c o = c + (⟨o.val + 1, by have := o.isLt; show _ < 8; omega⟩ : Fin 8) := Fin.ext (by
    show (c.val + o.val + 1) % 8 = (c.val + (o.val + 1)) % 8
    rw [Nat.add_assoc])
  rw [show ∑ d : Dev nD, A.S d (ix2 (row c r) j) = ∑ o : Fin 8, A.S (c + o : Fin 8) (ix2 (row c r) j) from
    (Equiv.sum_comp (Equiv.addLeft (c : Fin 8)) (fun d : Fin 8 => A.S d (ix2 (row c r) j))).symm, Fin.sum_univ_eight]
  pointwise [red, v648, v622, v596, k0_pay38, k0_pay37, k0_pay36, k0_pay35]
  rw [ldS_apply, ldR_apply A c 6 ![768, 0] _ rfl, ldR_apply A c 5 ![640, 0] _ rfl, ldR_apply A c 4 ![512, 0] _ rfl, ldR_apply A c 3 ![384, 0] _ rfl,
    ldR_apply A c 2 ![256, 0] _ rfl, ldR_apply A c 1 ![128, 0] _ rfl, ldR_apply A c 0 ![0, 0] _ rfl]
  simp only [hp]
  show _ = A.S c _ + A.S (c + 1 : Fin 8) _ + A.S (c + 2 : Fin 8) _ + A.S (c + 3 : Fin 8) _ + A.S (c + 4 : Fin 8) _
    + A.S (c + 5 : Fin 8) _ + A.S (c + 6 : Fin 8) _ + A.S (c + 7 : Fin 8) _
  generalize A.S c (ix2 (row c r) j) = t
  show t + A.S (c + 7 : Fin 8) (ix2 (row c r) j) + A.S (c + 6 : Fin 8) (ix2 (row c r) j) + A.S (c + 5 : Fin 8) (ix2 (row c r) j)
    + A.S (c + 4 : Fin 8) (ix2 (row c r) j) + A.S (c + 3 : Fin 8) (ix2 (row c r) j) + A.S (c + 2 : Fin 8) (ix2 (row c r) j)
    + A.S (c + 1 : Fin 8) (ix2 (row c r) j) = _
  exact rev8 ..

/-- Both halves of a device's partial product, at a row. -/
theorem both_apply (w : Staged Ideal) (b : Fin 2) (r : Fin 512) (j : Fin 768) :
    both w (ix2 (⟨512 * b.val + r.val, by have := b.isLt; have := r.isLt; omega⟩ : Fin 1024) j) = part w b r j := by
  have hr := r.isLt
  match b with
  | 0 =>
    refine (dif_pos (show 512 * 0 + r.val < 512 by omega)).trans ((congrArg (half0 w) ?_).trans (half0_apply w r j))
    exact (congrArg (fun i : Fin 512 => at2 i j) (Fin.ext (by show 512 * 0 + r.val = r.val; omega))).trans (at2_ix2 r j)
  | 1 =>
    refine (dif_neg (show ¬ 512 * 1 + r.val < 512 by omega)).trans ((congrArg (half1 w) ?_).trans (half1_apply w r j))
    exact (congrArg (fun i : Fin 512 => at2 i j) (Fin.ext (by show 512 * 1 + r.val - 512 = r.val; omega))).trans (at2_ix2 r j)

/-- The finished buffer, at a row. -/
theorem whole_apply (w : Dev nD → Staged Ideal) (i : Fin 1024) (j : Fin 768) : whole w (ix2 i j) = ∑ d : Dev nD, both (w d) (ix2 i j) := by
  have hi := i.isLt
  show red _ _ (at2 _ j) = _
  rw [at2_ix2, red_apply]
  refine Finset.sum_congr rfl fun d _ => congrArg (fun i => both (w d) (ix2 i j)) (Fin.ext ?_)
  show 128 * (i.val / 128) + i.val % 128 = i.val
  omega

/-- The result array, at an index. -/
theorem result_apply (m : (ℓ : Loc nD τ sig) → Buf (Elt Ideal) ℓ) (c : Dev nD) (b : Fin 2) (r : Fin 512) (j : Fin 768) :
    result m c (ix3 b r j) = ∑ d : Dev nD, part (stg m d) b r j := by
  have h : result m c = shapeCast S2x512x768 (cont m).T shapeCasts_S1024x768_S2x512x768 := by
    rw [← V2_out m c]
    unfold result
    simp only [V3, hostOps1]
    after_results_simp
    rfl
  rw [h]
  pointwise
  show whole (stg m) _ = _
  rw [whole_apply]
  refine Finset.sum_congr rfl fun d _ => ?_
  rw [← both_apply]
  exact congrArg (fun i => both (stg m d) (ix2 i j)) (Fin.ext (by show b.val * 512 + r.val = 512 * b.val + r.val; omega))

end Cert.KernelIdeal.Run
-- ==== Proof.HostVals.lean ====
/-
  What stands in the windows of the call: each device's columns of the query matrix, scaled, and its rows of the output matrix.
-/
module

public import proofs.«01_k».proof.Proof.AttnValue
public import proofs.«01_k».proof.Proof.Launch
public import Idealize.ShloMosaic.Lib.StableHlo.RunClose

@[expose] public section

noncomputable section

namespace Cert.KernelIdeal.Run

open Idealize.ShloMosaic Idealize.ShloMosaic.TcCoe
open Cert.KernelIdeal.Gen

variable (m : (ℓ : Loc nD τ sig) → Buf (Elt Ideal) ℓ)

/-- Where device c's columns, or rows, begin: a word of the program. -/
def firstCol (c : Dev nD) : IVec S_ 32 :=
  select (cmpi .slt (muli (Host.remui (Host.divui (constantI S_ 32 (Dev.word c)) (constantI S_ 32 1#32)) (constantI S_ 32 8#32)) (constantI S_ 32 512#32)) (constantI S_ 32 0#32))
    (addi (muli (Host.remui (Host.divui (constantI S_ 32 (Dev.word c)) (constantI S_ 32 1#32)) (constantI S_ 32 8#32)) (constantI S_ 32 512#32)) (constantI S_ 32 4096#32))
    (muli (Host.remui (Host.divui (constantI S_ 32 (Dev.word c)) (constantI S_ 32 1#32)) (constantI S_ 32 8#32)) (constantI S_ 32 512#32))

theorem firstCol_eq (c : Dev nD) (i : S_.Idx) : (firstCol c i).toInt = 512 * c.val := by
  pointwise [firstCol]
  revert c
  decide +kernel

theorem stg_wq (c : Dev nD) : (stg m c).wq = mulf (Host.dynamicSlice S768x512 (m ((c : Thread nD τ).loc main_arg1))
    (fun k => ((![constantI S_ 32 0#32, firstCol c] : Fin 2 → IVec S_ 32) k (Shape.Idx.first h_S_)).toInt) sliceFits_S768x4096_S768x512)
      (broadcastInDim S768x512 ![] bcast_S_S768x512 (constant (F := Ideal) S_ .bf16 0x3E00#16)) := by
  unfold stg
  simp only [V1, hostOps0]
  after_results_simp_entrywise
  rfl

theorem stg_wo (c : Dev nD) : (stg m c).wo = Host.dynamicSlice S512x768 (m ((c : Thread nD τ).loc main_arg4))
    (fun k => ((![firstCol c, constantI S_ 32 0#32] : Fin 2 → IVec S_ 32) k (Shape.Idx.first h_S_)).toInt) sliceFits_S4096x768_S512x768 := by
  unfold stg
  simp only [V1, hostOps0]
  after_results_simp_entrywise
  rfl

theorem stg_x (c : Dev nD) : (stg m c).x = m ((c : Thread nD τ).loc main_arg0) := V1_of m c main_arg0 (by decide)
theorem stg_k (c : Dev nD) : (stg m c).k = m ((c : Thread nD τ).loc main_arg2) := V1_of m c main_arg2 (by decide)
theorem stg_v (c : Dev nD) : (stg m c).v = m ((c : Thread nD τ).loc main_arg3) := V1_of m c main_arg3 (by decide)

/-- A column of device c's own, in the whole query matrix. -/
def col (c : Dev nD) (n : Fin 512) : Fin 4096 := ⟨512 * c.val + n.val, by have : c.val < 8 := c.isLt; have := n.isLt; omega⟩

/-- The query matrix and the output matrix as device c holds them. -/
abbrev argQ (c : Dev nD) : S768x4096.Idx → EReal := m ((c : Thread nD τ).loc main_arg1)
abbrev argO (c : Dev nD) : S4096x768.Idx → EReal := m ((c : Thread nD τ).loc main_arg4)

theorem wq_apply (c : Dev nD) (k : Fin 768) (n : Fin 512) :
    ((stg m c).wq (ix2 k n) : EReal) = argQ m c (ix2 k (col c n)) * Ideal.ofBits .bf16 0x3E00#16 := by
  rw [stg_wq]
  have h0 := Host.clampedStart_of_le (s := S768x4096) (t := S768x512) rfl
    (fun k => ((![constantI S_ 32 0#32, firstCol c] : Fin 2 → IVec S_ 32) k (Shape.Idx.first h_S_)).toInt) 0 0 rfl (by decide)
  have h1 := Host.clampedStart_of_le (s := S768x4096) (t := S768x512) rfl
    (fun k => ((![constantI S_ 32 0#32, firstCol c] : Fin 2 → IVec S_ 32) k (Shape.Idx.first h_S_)).toInt) 1 (512 * c.val)
    ((firstCol_eq c _).trans (by push_cast; rfl)) (by revert c; decide)
  pointwise
  refine congrArg (· * Ideal.ofBits .bf16 0x3E00#16) (congrArg (argQ m c) (congrArg₂ ix2 (Fin.ext ?_) (Fin.ext ?_)))
  · exact (congrArg (· + k.val) h0).trans (Nat.zero_add _)
  · exact congrArg (· + n.val) h1

theorem wo_apply (c : Dev nD) (n : Fin 512) (j : Fin 768) : ((stg m c).wo (ix2 n j) : EReal) = argO m c (ix2 (col c n) j) := by
  rw [stg_wo]
  have h0 := Host.clampedStart_of_le (s := S4096x768) (t := S512x768) rfl
    (fun k => ((![firstCol c, constantI S_ 32 0#32] : Fin 2 → IVec S_ 32) k (Shape.Idx.first h_S_)).toInt) 0 (512 * c.val)
    ((firstCol_eq c _).trans (by push_cast; rfl)) (by revert c; decide)
  have h1 := Host.clampedStart_of_le (s := S4096x768) (t := S512x768) rfl
    (fun k => ((![firstCol c, constantI S_ 32 0#32] : Fin 2 → IVec S_ 32) k (Shape.Idx.first h_S_)).toInt) 1 0 rfl (by decide)
  pointwise
  refine congrArg (argO m c) (congrArg₂ ix2 (Fin.ext ?_) (Fin.ext ?_))
  · exact congrArg (· + n.val) h0
  · exact (congrArg (· + j.val) h1).trans (Nat.zero_add _)

end Cert.KernelIdeal.Run
-- ==== Proof.RefValue.lean ====
/-
  What the reference computes over the reals: the heads' attention, and the product with the output matrix.
-/
module

public import proofs.«01_k».proof.Proof.AttnValue
public import proofs.«01_k».proof.Proof.Gen.ReferenceIdeal.Run
public import Idealize.ShloMosaic.Lib.Pointwise
public import Idealize.ShloMosaic.Lib.Routing.OpsOrder
public import Idealize.ShloMosaic.PureOps.Ideal

@[expose] public section

noncomputable section

namespace Cert.ReferenceIdeal.Run

open Idealize.ShloMosaic Idealize.ShloMosaic.TcCoe
open Cert.ReferenceIdeal Cert.ReferenceIdeal.Gen

variable {F : FTy → Type} [FloatOps F]

/-! ## The reference in stages -/

/-- The block of 64 each position lies in. -/
def blocks : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))

/-- Which columns a row may look at. -/
def seen : IVec S512x512 1 :=
  cmpi .sle (broadcastInDim S512x512 ![0, 1] bcast_S1x512_S512x512_0_1 (broadcastInDim S1x512 ![1] bcast_S512_S1x512_1 blocks))
    (broadcastInDim S512x512 ![0, 1] bcast_S512x1_S512x512_0_1 (broadcastInDim S512x1 ![0] bcast_S512_S512x1_0 blocks))

/-- Which rows look at any column. -/
def looks : IVec S512 1 := Host.reduce IntOp.ori seen (constantI S_ 1 0#1) reducesTo_S512x512_S512_d1 h_S_

/-- The masked scores of all heads. -/
def scores (x : FVec F S2x512x768 .bf16) (wq : FVec F S768x4096 .bf16) (k : FVec F S2x512x64x64 .bf16) : FVec F S2x64x512x512 .f32 :=
  select (broadcastInDim S2x64x512x512 ![0, 1, 2, 3] bcast_S1x1x512x512_S2x64x512x512_0_1_2_3
      (broadcastInDim S1x1x512x512 ![2, 3] bcast_S512x512_S1x1x512x512_2_3 seen))
    (mulf (extf .f32 (truncf .bf16 (Host.dotGeneral dot_S2x512x64x64_S2x512x64x64_S2x64x512x512_3_3_1_1_02_02 none
        (shapeCast _ (truncf .bf16 (Host.dotGeneral dot_S2x512x768_S768x4096_S2x512x4096_2_0_01_1_n_n none x wq) bitsLt_bf16_f32)
          shapeCasts_S2x512x4096_S2x512x64x64) k) bitsLt_bf16_f32) bitsLt_bf16_f32)
      (broadcastInDim S2x64x512x512 ![] bcast_S_S2x64x512x512 (constant S_ .f32 0x3E000000#32)))
    (broadcastInDim S2x64x512x512 ![] bcast_S_S2x64x512x512 (id (constant S_ .f32 0xCE6E6B28#32)))

/-- The exponentials of the scores, each less its row's maximum. -/
def exps (s : FVec F S2x64x512x512 .f32) : FVec F S2x64x512x512 .f32 :=
  Host.exp (subf s (broadcastInDim S2x64x512x512 ![0, 1, 2, 3] bcast_S2x64x512x1_S2x64x512x512_0_1_2_3
    (broadcastInDim S2x64x512x1 ![0, 1, 2] bcast_S2x64x512_S2x64x512x1_0_1_2
      (Host.reduce FloatOps.maximumf s (constant S_ .f32 0xFF800000#32) reducesTo_S2x64x512x512_S2x64x512_d3 h_S_))))

/-- The weights: the exponentials over their rows' sums, nothing in a row that looks nowhere. -/
def shares (e : FVec F S2x64x512x512 .f32) : FVec F S2x64x512x512 .f32 :=
  select (broadcastInDim S2x64x512x512 ![0, 1, 2, 3] bcast_S1x1x512x1_S2x64x512x512_0_1_2_3
      (broadcastInDim S1x1x512x1 ![2] bcast_S512_S1x1x512x1_2 looks))
    (Host.divf e (broadcastInDim S2x64x512x512 ![0, 1, 2, 3] bcast_S2x64x512x1_S2x64x512x512_0_1_2_3
      (select (broadcastInDim S2x64x512x1 ![0, 1, 2, 3] bcast_S1x1x512x1_S2x64x512x1_0_1_2_3
          (broadcastInDim S1x1x512x1 ![2] bcast_S512_S1x1x512x1_2 looks))
        (broadcastInDim S2x64x512x1 ![0, 1, 2] bcast_S2x64x512_S2x64x512x1_0_1_2
          (Host.reduceAdd e (constant S_ .f32 0x00000000#32) reducesTo_S2x64x512x512_S2x64x512_d3 h_S_))
        (broadcastInDim S2x64x512x1 ![] bcast_S_S2x64x512x1 (id (constant S_ .f32 0x3F800000#32))))))
    (broadcastInDim S2x64x512x512 ![] bcast_S_S2x64x512x512 (id (constant S_ .f32 0x00000000#32)))

/-- The heads' outputs side by side, times the output matrix. -/
def projected (v : FVec F S2x512x64x64 .bf16) (wo : FVec F S4096x768 .bf16) (a : FVec F S2x64x512x512 .f32) : FVec F S2x512x768 .bf16 :=
  truncf .bf16 (Host.dotGeneral dot_S2x512x4096_S4096x768_S2x512x768_2_0_01_1_n_n none
    (shapeCast _ (transpose S2x512x64x64 [0, 3, 1, 2]
      (Host.dotGeneral dot_S2x512x64x64_S2x64x512x512_S2x64x64x512_1_3_3_2_02_01 none (extf .f32 v bitsLt_bf16_f32) a)
      transposes_S2x64x64x512_S2x512x64x64_0_3_1_2) shapeCasts_S2x512x64x64_S2x512x4096)
    (extf .f32 wo bitsLt_bf16_f32)) bitsLt_bf16_f32

/-- The reference's result is its stages one after another. -/
theorem res_eq (m : (ℓ : Loc nD τ sig) → Buf (Elt F) ℓ) (c : Dev nD) : Value.res_main_v39 m c =
    projected (m ((c.tc : Thread nD τ).loc main_arg3)) (m ((c.tc : Thread nD τ).loc main_arg4))
      (shares (exps (scores (m ((c.tc : Thread nD τ).loc main_arg0)) (m ((c.tc : Thread nD τ).loc main_arg1))
        (m ((c.tc : Thread nD τ).loc main_arg2))))) := by
  unfold Value.res_main_v39
  rfl

/-! ## The stages, read at an index -/

theorem blocks_apply (n : Fin 512) : blocks (ix1 n) = BitVec.ofNat 32 (n.val / 64) := by
  pointwise [blocks]
  revert n
  decide +kernel

theorem seen_apply (r j : Fin 512) : seen (ix2 r j) = BitVec.ofBool (decide (j.val / 64 ≤ r.val / 64)) := by
  pointwise [seen]
  rw [blocks_apply, blocks_apply]
  exact Cert.KernelIdeal.Run.le_eq ⟨j.val / 64, by have := j.isLt; omega⟩ ⟨r.val / 64, by have := r.isLt; omega⟩

/-- Every row looks at column 0. -/
theorem looks_apply (r : Fin 512) : looks (ix1 r) = 1#1 := by
  pointwise [looks]
  refine (Idealize.ShloMosaic.Routing.fold_ori _ _).2 ⟨0, Finset.mem_univ _, ?_⟩
  rw [seen_apply]
  simp

/-- A masked score: the query's product with the key, scaled, or the constant of a column not looked at. -/
def refScore (x : S2x512x768.Idx → EReal) (wq : S768x4096.Idx → EReal) (k : S2x512x64x64.Idx → EReal) (b : Fin 2) (h : Fin 64) (r j : Fin 512) : EReal :=
  if j.val / 64 ≤ r.val / 64 then
    (∑ e : Fin 64, (∑ i : Fin 768, x (ix3 b r i) * wq (ix2 i (⟨64 * h.val + e.val, by have := h.isLt; have := e.isLt; omega⟩ : Fin 4096))) * k (ix4 b j h e))
      * Ideal.ofBits .f32 0x3E000000#32
  else Ideal.ofBits .f32 0xCE6E6B28#32

theorem scores_apply (x : FVec Ideal S2x512x768 .bf16) (wq : FVec Ideal S768x4096 .bf16) (k : FVec Ideal S2x512x64x64 .bf16)
    (b : Fin 2) (h : Fin 64) (r j : Fin 512) : scores x wq k (ix4 b h r j) = refScore x wq k b h r j := by
  have e (a : Fin 64) : h.val * 64 + a.val = 64 * h.val + a.val := by omega
  pointwise [scores]
  rw [seen_apply]
  unfold refScore
  simp only [e]
  by_cases hj : j.val / 64 ≤ r.val / 64
  · rw [if_pos hj]
    simp only [hj, Scalar.select]
    rfl
  · rw [if_neg hj]
    simp only [hj, Scalar.select]
    rfl

theorem exps_apply (s : FVec Ideal S2x64x512x512 .f32) (b : Fin 2) (h : Fin 64) (r j : Fin 512) :
    exps s (ix4 b h r j)
      = Ideal.exp (s (ix4 b h r j) - Finset.fold max (Ideal.ofBits .f32 0xFF800000#32) (fun i => s (ix4 b h r i)) Finset.univ) := by
  pointwise [exps]

theorem shares_apply (e : FVec Ideal S2x64x512x512 .f32) (b : Fin 2) (h : Fin 64) (r j : Fin 512) :
    shares e (ix4 b h r j) = Ideal.div (e (ix4 b h r j)) (∑ i, e (ix4 b h r i)) := by
  pointwise [shares]
  rw [looks_apply]
  rfl

theorem projected_apply (v : FVec Ideal S2x512x64x64 .bf16) (wo : FVec Ideal S4096x768 .bf16) (a : FVec Ideal S2x64x512x512 .f32)
    (b : Fin 2) (r : Fin 512) (c : Fin 768) :
    projected v wo a (ix3 b r c) = ∑ n : Fin 4096, (∑ j : Fin 512,
      v (ix4 b j (⟨n.val / 64, by have := n.isLt; omega⟩ : Fin 64) (⟨n.val % 64, Nat.mod_lt _ (by decide)⟩ : Fin 64))
        * a (ix4 b (⟨n.val / 64, by have := n.isLt; omega⟩ : Fin 64) r j)) * wo (ix2 n c) := by
  pointwise [projected]

end Cert.ReferenceIdeal.Run
-- ==== Proof.Equal.lean ====
/-
  The sum over the devices of their partial products is the reference's product over all heads.
-/
module

public import proofs.«01_k».proof.Proof.SumValue
public import proofs.«01_k».proof.Proof.HostVals
public import proofs.«01_k».proof.Proof.RefValue
public import proofs.«01_k».proof.Proof.Soft

@[expose] public section

noncomputable section

namespace Cert.Equal

open Idealize.ShloMosaic Idealize.ShloMosaic.TcCoe
open Cert.Soft
open Cert.KernelIdeal.Run (Staged score ctx qry part col)
open Cert.ReferenceIdeal.Run (refScore scores exps shares projected)
open Cert.ReferenceIdeal (S2x512x768 S768x4096 S2x512x64x64 S4096x768)

/-- The head of the whole model that is device d's h-th. -/
def headOf (d : Fin 8) (h : Fin 8) : Fin 64 := ⟨d.val * 8 + h.val, by have := d.isLt; have := h.isLt; omega⟩

/-- The devices' staged arrays are their parts of the whole arrays. -/
structure Parts (w : Fin 8 → Staged Ideal) (x : S2x512x768.Idx → EReal) (q : S768x4096.Idx → EReal) (k v : S2x512x64x64.Idx → EReal)
    (o : S4096x768.Idx → EReal) : Prop where
  x : ∀ d i, (w d).x i = x i
  q : ∀ d (i : Fin 768) (n : Fin 512), (w d).wq (ix2 i n) = q (ix2 i (col d n)) * Ideal.ofBits .bf16 0x3E00#16
  k : ∀ d (b : Fin 2) (j : Fin 512) (h : Fin 8) (e : Fin 64), (w d).k (ix4 b j h e) = k (ix4 b j (headOf d h) e)
  v : ∀ d (b : Fin 2) (j : Fin 512) (h : Fin 8) (e : Fin 64), (w d).v (ix4 b j h e) = v (ix4 b j (headOf d h) e)
  o : ∀ d (n : Fin 512) (c : Fin 768), (w d).wo (ix2 n c) = o (ix2 (col d n) c)

variable {w : Fin 8 → Staged Ideal} {x : S2x512x768.Idx → EReal} {q : S768x4096.Idx → EReal} {k v : S2x512x64x64.Idx → EReal}
  {o : S4096x768.Idx → EReal}

/-- A reference score is a real. -/
theorem refScore_real (hx : ∀ i, Real' (x i)) (hq : ∀ i, Real' (q i)) (hk : ∀ i, Real' (k i)) (b : Fin 2) (h : Fin 64) (r j : Fin 512) :
    Real' (refScore x q k b h r j) := by
  unfold refScore
  split
  · exact (Real'.sum _ fun e => (Real'.sum _ fun i => (hx _).mul (hq _)).mul (hk _)).mul ⟨_, eighth_f32⟩
  · exact hidden_real

/-- A device's score is the reference's, of the head that is its own. -/
theorem score_eq (p : Parts w x q k v o) (hx : ∀ i, Real' (x i)) (hq : ∀ i, Real' (q i)) (hk : ∀ i, Real' (k i))
    (d : Fin 8) (b : Fin 2) (h : Fin 8) (r j : Fin 512) : score (w d) b h r j = refScore x q k b (headOf d h) r j := by
  unfold score refScore qry
  by_cases c : j.val / 64 ≤ r.val / 64
  · rw [if_pos c, if_pos c]
    simp only [p.x, p.q, p.k]
    rw [score_scale (fun i => hx _) (fun e i => hq _) (fun e => hk _) ⟨_, eighth_bf16⟩, eighth_bf16, eighth_f32]
    refine congrArg (· * _) (Finset.sum_congr rfl fun e _ => congrArg (· * _) (Finset.sum_congr rfl fun i _ => congrArg (fun n => _ * q (ix2 i n)) ?_))
    exact Fin.ext (by show 512 * d.val + (64 * h.val + e.val) = 64 * (d.val * 8 + h.val) + e.val; omega)
  · rw [if_neg c, if_neg c]

/-- A weight of the reference. -/
theorem share_eq (hx : ∀ i, Real' (x i)) (hq : ∀ i, Real' (q i)) (hk : ∀ i, Real' (k i)) (b : Fin 2) (h : Fin 64) (r j : Fin 512) :
    shares (exps (scores (F := Ideal) x q k)) (ix4 b h r j)
      = Ideal.div (Ideal.exp (refScore x q k b h r j)) (∑ i, Ideal.exp (refScore x q k b h r i)) := by
  rw [Cert.ReferenceIdeal.Run.shares_apply]
  simp only [Cert.ReferenceIdeal.Run.exps_apply, Cert.ReferenceIdeal.Run.scores_apply, bot_f32]
  exact weight_shift (s := fun i => refScore x q k b h r i) (fun i => refScore_real hx hq hk b h r i)
    (max_real fun i => refScore_real hx hq hk b h r i) j

/-- A sum over all columns is a sum over the devices of the sums over theirs. -/
theorem sum_cols (f : Fin 4096 → EReal) : ∑ n, f n = ∑ d : Fin 8, ∑ n : Fin 512, f (col d n) := by
  rw [← Fintype.sum_prod_type' (f := fun (d : Fin 8) (n : Fin 512) => f (col d n))]
  refine (Equiv.sum_comp (finProdFinEquiv : Fin 8 × Fin 512 ≃ Fin (8 * 512)) f).symm.trans ?_
  refine Finset.sum_congr rfl fun a _ => congrArg f (Fin.ext ?_)
  show a.2.val + 512 * a.1.val = 512 * a.1.val + a.2.val
  omega

/-- The sum of the partial products is the reference's result. -/
theorem result_eq (p : Parts w x q k v o) (hx : ∀ i, Real' (x i)) (hq : ∀ i, Real' (q i)) (hk : ∀ i, Real' (k i))
    (b : Fin 2) (r : Fin 512) (c : Fin 768) :
    ∑ d : Fin 8, part (w d) b r c = projected (F := Ideal) v o (shares (exps (scores (F := Ideal) x q k))) (ix3 b r c) := by
  rw [Cert.ReferenceIdeal.Run.projected_apply, sum_cols]
  refine Finset.sum_congr rfl fun d _ => ?_
  unfold part
  refine Finset.sum_congr rfl fun n _ => ?_
  rw [p.o]
  refine congrArg (· * _) ?_
  have hn := n.isLt
  have eh (h) : (⟨(col d n).val / 64, h⟩ : Fin 64) = headOf d ⟨n.val / 64, by omega⟩ :=
    Fin.ext (by show (512 * d.val + n.val) / 64 = d.val * 8 + n.val / 64; omega)
  have ee (h) : (⟨(col d n).val % 64, h⟩ : Fin 64) = ⟨n.val % 64, Nat.mod_lt _ (by decide)⟩ :=
    Fin.ext (by show (512 * d.val + n.val) % 64 = n.val % 64; omega)
  unfold ctx
  refine Finset.sum_congr rfl fun j _ => ?_
  rw [eh, ee, share_eq hx hq hk, p.v, mul_comm]
  simp only [score_eq p hx hq hk]

end Cert.Equal
-- ==== Proof.Algebraic.lean ====
/-
  The algebraic claim: with finite tokens, query matrix and keys, every device ends with the reference's result.
-/
module

public import proofs.«01_k».proof.Defs
public import proofs.«01_k».proof.Proof.Equal
public import proofs.«01_k».proof.Proof.Given
public import Idealize.ShloMosaic.Lib.Layout

@[expose] public section

noncomputable section

namespace Cert.Proof

open Idealize.ShloMosaic Idealize.ShloMosaic.TcCoe Idealize.SL.Sem
open Cert.Soft

/-- The keys, or values, of all heads. -/
abbrev WholeKV : Shape := ⟨4, ![2, 512, 64, 64]⟩
/-- Those of one device. -/
abbrev PartKV : Shape := ⟨4, ![2, 512, 8, 64]⟩

/-- A device's heads are a block of all heads. -/
theorem block_head (f : WholeKV.Idx → EReal) (d : Fin 8) (b : Fin 2) (j : Fin 512) (h : Fin 8) (e : Fin 64) :
    Layout.block PartKV WholeKV 2 8 d f (by decide) (ix4 b j h e) = f (ix4 b j (Cert.Equal.headOf d h) e) := by
  rw [Layout.block_apply]
  congr 1
  funext a
  obtain ⟨a, ha⟩ := a
  match a with
  | 0 => rfl
  | 1 => rfl
  | 2 => rfl
  | 3 => rfl

/-- What every block holds at each index, the whole holds at each index. -/
theorem whole_real (f : WholeKV.Idx → EReal) (h : ∀ (d : Fin 8) (i : PartKV.Idx), Real' (Layout.block PartKV WholeKV 2 8 d f (by decide) i))
    (i : WholeKV.Idx) : Real' (f i) := by
  have h2 : (i 2 : Fin 64).val < 64 := (i 2 : Fin 64).isLt
  have e : (i 2 : Fin 64) = Cert.Equal.headOf ⟨(i 2 : Fin 64).val / 8, by omega⟩ ⟨(i 2 : Fin 64).val % 8, by omega⟩ :=
    Fin.ext (by show (i 2 : Fin 64).val = (i 2 : Fin 64).val / 8 * 8 + (i 2 : Fin 64).val % 8; omega)
  have hb := (block_head f ⟨(i 2 : Fin 64).val / 8, by omega⟩ (i 0) (i 1) ⟨(i 2 : Fin 64).val % 8, by omega⟩ (i 3)).symm
  have hi : i = ix4 (i 0 : Fin 2) (i 1 : Fin 512)
      (Cert.Equal.headOf ⟨(i 2 : Fin 64).val / 8, by omega⟩ ⟨(i 2 : Fin 64).val % 8, by omega⟩) (i 3 : Fin 64) :=
    (eq_ix4 i).trans (congrArg (fun t : Fin 64 => ix4 (i 0 : Fin 2) (i 1 : Fin 512) t (i 3 : Fin 64)) e)
  obtain ⟨r, hr⟩ := h ⟨(i 2 : Fin 64).val / 8, by omega⟩ (ix4 (i 0 : Fin 2) (i 1 : Fin 512) (⟨(i 2 : Fin 64).val % 8, by omega⟩ : Fin 8) (i 3 : Fin 64))
  exact ⟨r, (congrArg f hi).trans (hb.trans hr)⟩

/-- Both programs run, and end with the same result and their arguments as they were. -/
theorem algebraic [hK : Cert.Pre_finite_KernelIdeal.Facts] : Cert.algebraic_KernelIdeal_ReferenceIdeal_pre_finite_KernelIdeal := by
  intro m g m' g' pre eqs
  have fin (c : Dev Cert.KernelIdeal.nD) := given _ _ _ _ _ (pre c)
  refine ⟨Cert.ReferenceIdeal.Value.res_main_v39 m' 0, ?_, ?_⟩
  · refine (θ_run Cert.KernelIdeal.defs _ _).mono (fun r h c => ⟨(h.1 c).2.trans ?_, (h.1 c).1⟩)
      (Cert.KernelIdeal.Run.run_main (F := Ideal) m g)
    rw [Cert.ReferenceIdeal.Run.res_eq]
    funext i
    rw [eq_ix3 i]
    refine (Cert.KernelIdeal.Run.result_apply m c _ _ _).trans
      (Cert.Equal.result_eq (w := Cert.KernelIdeal.Run.stg m) ?_ ?_ ?_ ?_ _ _ _)
    · refine ⟨fun d i => ?_, fun d i n => ?_, fun d b j h e => ?_, fun d b j h e => ?_, fun d n c => ?_⟩
      · rw [Cert.KernelIdeal.Run.stg_x, (eqs d).1]
      · rw [Cert.KernelIdeal.Run.wq_apply]
        exact congrArg (· * _) (congrFun (eqs d).2.1 _)
      · rw [Cert.KernelIdeal.Run.stg_k, (eqs d).2.2.1]
        exact block_head _ d b j h e
      · rw [Cert.KernelIdeal.Run.stg_v, (eqs d).2.2.2.1]
        exact block_head _ d b j h e
      · rw [Cert.KernelIdeal.Run.wo_apply]
        exact congrFun (eqs d).2.2.2.2 _
    · have := (fin 0).1
      rw [(eqs 0).1] at this
      exact this
    · have := (fin 0).2.1
      rw [(eqs 0).2.1] at this
      exact this
    · refine whole_real _ fun d => ?_
      have := (fin d).2.2
      rw [(eqs d).2.2.1] at this
      exact this
  · exact (θ_run Cert.ReferenceIdeal.defs _ _).mono (fun r h => h 0) (Cert.ReferenceIdeal.Value.run (F := Ideal) m' g')

end Cert.Proof
-- ==== Proof.lean ====
/-
  The claims, put together: the facts of the programs and of the precondition, and each claim from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Given
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All claims of this certificate. -/
theorem claim : Cert.Claim :=
  haveI := Cert.Pre_finite_KernelIdeal.facts
  haveI := Cert.Pre_finite_ReferenceIdeal.facts
  ⟨Cert.Kernel.Gen.facts, Cert.KernelIdeal.Gen.facts, Cert.ReferenceIdeal.Gen.facts,
    Cert.Pre_finite_KernelIdeal.facts, Cert.Pre_finite_ReferenceIdeal.facts,
    frame_kernel, frame_ideal, frame_ideal_finite, frame_reference, frame_reference_finite, True.intro, algebraic⟩

end Cert.Proof

end
